-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v53) = v0 c
          ∧ r.2.mem ((c.tc : Thread Cert.Reference6Ideal.nD Cert.Reference6Ideal.τ).loc Cert.Reference6Ideal.main_v54) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v20) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v31)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v31) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v34) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v12) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Kernel.lean ====
abbrev S2x8448x2048 : Shape := ⟨3, ![2, 8448, 2048]⟩
abbrev S16384x2048 : Shape := ⟨2, ![16384, 2048]⟩
abbrev S2x1024x8448 : Shape := ⟨3, ![2, 1024, 8448]⟩
abbrev S8x6x2048 : Shape := ⟨3, ![8, 6, 2048]⟩
abbrev S2048x16384 : Shape := ⟨2, ![2048, 16384]⟩
abbrev S8x1x2048 : Shape := ⟨3, ![8, 1, 2048]⟩
abbrev S1x384x2048 : Shape := ⟨3, ![1, 384, 2048]⟩
abbrev S512x2048 : Shape := ⟨2, ![512, 2048]⟩
abbrev S2048x512 : Shape := ⟨2, ![2048, 512]⟩
abbrev S1x1024x384 : Shape := ⟨3, ![1, 1024, 384]⟩
abbrev S2048x384 : Shape := ⟨2, ![2048, 384]⟩
abbrev S512x384 : Shape := ⟨2, ![512, 384]⟩
abbrev S384x2048 : Shape := ⟨2, ![384, 2048]⟩
abbrev S1x1x384 : Shape := ⟨3, ![1, 1, 384]⟩
abbrev S1x384 : Shape := ⟨2, ![1, 384]⟩
abbrev S16x384 : Shape := ⟨2, ![16, 384]⟩
abbrev S1x16x384 : Shape := ⟨3, ![1, 16, 384]⟩
abbrev S384x1 : Shape := ⟨2, ![384, 1]⟩
abbrev S1x1x2048 : Shape := ⟨3, ![1, 1, 2048]⟩
abbrev S1x2048 : Shape := ⟨2, ![1, 2048]⟩

abbrev nBuf : Space → Nat
  | .hbm => 14
  | .vmem => 22
  | .smem => 0
  | _ => 0

abbrev bufTy : (tb : Table) → Fin (tcTables nBuf tb) → BufTy
  | .hbm, ⟨0, _⟩ => ⟨S2x8448x2048, .bf16⟩
  | .hbm, ⟨1, _⟩ => ⟨S16384x2048, .f32⟩
  | .hbm, ⟨2, _⟩ => ⟨S16384x2048, .f32⟩
  | .hbm, ⟨3, _⟩ => ⟨S2x1024x8448, .f32⟩
  | .hbm, ⟨4, _⟩ => ⟨S2x1024x8448, .f32⟩
  | .hbm, ⟨5, _⟩ => ⟨S2x1024x8448, .f32⟩
  | .hbm, ⟨6, _⟩ => ⟨S2x1024x8448, .f32⟩
  | .hbm, ⟨7, _⟩ => ⟨S2x8448x2048, .f32⟩
  | .hbm, ⟨8, _⟩ => ⟨S8x6x2048, .f32⟩
  | .hbm, ⟨9, _⟩ => ⟨S16384x2048, .bf16⟩
  | .hbm, ⟨10, _⟩ => ⟨S16384x2048, .bf16⟩
  | .hbm, ⟨11, _⟩ => ⟨S2048x16384, .bf16⟩
  | .hbm, ⟨12, _⟩ => ⟨S8x1x2048, .f32⟩
  | .hbm, ⟨13, _⟩ => ⟨S2x8448x2048, .f32⟩
  | .local _ .vmem, ⟨0, _⟩ => ⟨S1x384x2048, .bf16⟩
  | .local _ .vmem, ⟨1, _⟩ => ⟨S1x384x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S1x1024x384, .f32⟩
  | .local _ .vmem, ⟨7, _⟩ => ⟨S1x1024x384, .f32⟩
  | .local _ .vmem, ⟨8, _⟩ => ⟨S1x1024x384, .f32⟩
  | .local _ .vmem, ⟨9, _⟩ => ⟨S1x1024x384, .f32⟩
  | .local _ .vmem, ⟨10, _⟩ => ⟨S1x1024x384, .f32⟩
  | .local _ .vmem, ⟨11, _⟩ => ⟨S1x1024x384, .f32⟩
  | .local _ .vmem, ⟨12, _⟩ => ⟨S1x1024x384, .f32⟩
  | .local _ .vmem, ⟨13, _⟩ => ⟨S1x1024x384, .f32⟩
  | .local _ .vmem, ⟨14, _⟩ => ⟨S1x384x2048, .f32⟩
  | .local _ .vmem, ⟨15, _⟩ => ⟨S1x384x2048, .f32⟩
  | .local _ .vmem, ⟨16, _⟩ => ⟨S8x1x2048, .f32⟩
  | .local _ .vmem, ⟨17, _⟩ => ⟨S1x384x2048, .f32⟩
  | .local _ .vmem, ⟨18, _⟩ => ⟨S1x384x2048, .f32⟩
  | .local _ .vmem, ⟨19, _⟩ => ⟨S2048x384, .f32⟩
  | .local _ .vmem, ⟨20, _⟩ => ⟨S512x384, .f32⟩
  | .local _ .vmem, ⟨21, _⟩ => ⟨S512x384, .bf16⟩
  | _, _ => ⟨S2x8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![2, 22, 32], ![false, false, false]⟩

def k0_off1 (i : grid0.Coords) (c0_i32_8 : BitVec 32) (c0_i32_7 : BitVec 32) : Fin 3 → Nat :=
  let c0_9 : Index := 0#32
  let arg2 : BitVec 32 := BitVec.ofNat 32 (i 2).val
  let c4_i32 : BitVec 32 := 4#32
  let v11 : BitVec 32 := Scalar.muli arg2 c4_i32
  let v12 : BitVec 32 := Scalar.addi v11 c0_i32_7
  let v13 : BitVec 32 := Scalar.addi c0_i32_8 v12
  let v14 : Index := Scalar.indexCast v13
  let c0_10 : Index := 0#32
  ![0, v14.toNat, 0]
@[reducible] def k0_t1_loop : Scf.Loop 32 :=
  let c0_i32_49 : BitVec 32 := 0#32
  let c8_i32 : BitVec 32 := 8#32
  let v77 : BitVec 32 := Scalar.addi c0_i32_49 c8_i32
  let c1_i32 : BitVec 32 := 1#32
  ⟨c0_i32_49, v77, c1_i32⟩
def k0_mult1 (k0_t1 : Fin k0_t1_loop.trips) : BitVec 32 :=
  let c0_i32_49 : BitVec 32 := 0#32
  let c1_i32 : BitVec 32 := 1#32
  let arg16 : BitVec 32 := Scf.iv c0_i32_49 c1_i32 k0_t1
  let c16_i32 : BitVec 32 := 16#32
  let v291 : BitVec 32 := Scalar.muli arg16 c16_i32
  v291
def k0_off2 (k0_t1 : Fin k0_t1_loop.trips) (c0_i32_222 : BitVec 32) : Fin 3 → Nat :=
  let c0_223 : Index := 0#32
  let c0_i32_49 : BitVec 32 := 0#32
  let c1_i32 : BitVec 32 := 1#32
  let arg16 : BitVec 32 := Scf.iv c0_i32_49 c1_i32 k0_t1
  let c16_i32 : BitVec 32 := 16#32
  let v291 : BitVec 32 := Scalar.muli arg16 c16_i32
  let v292 : BitVec 32 := v291
  let v294 : BitVec 32 := Scalar.addi c0_i32_222 v292
  let v295 : Index := Scalar.indexCast v294
  let c0_224 : Index := 0#32
  ![0, v295.toNat, 0]
def k0_off3 (k0_t1 : Fin k0_t1_loop.trips) : Fin 2 → Nat :=
  let c0_i32_278 : BitVec 32 := 0#32
  let c0_i32_49 : BitVec 32 := 0#32
  let c1_i32 : BitVec 32 := 1#32
  let arg16 : BitVec 32 := Scf.iv c0_i32_49 c1_i32 k0_t1
  let c16_i32 : BitVec 32 := 16#32
  let v291 : BitVec 32 := Scalar.muli arg16 c16_i32
  let v292 : BitVec 32 := v291
  let v414 : BitVec 32 := Scalar.addi c0_i32_278 v292
  let v415 : Index := Scalar.indexCast v414
  let c0_279 : Index := 0#32
  ![v415.toNat, 0]
@[reducible] def k0_t2_loop : Scf.Loop 32 :=
  let c0_i32_101 : BitVec 32 := 0#32
  let c8_i32_102 : BitVec 32 := 8#32
  let v144 : BitVec 32 := Scalar.addi c0_i32_101 c8_i32_102
  let c1_i32_103 : BitVec 32 := 1#32
  ⟨c0_i32_101, v144, c1_i32_103⟩
def k0_mult2 (k0_t2 : Fin k0_t2_loop.trips) : BitVec 32 :=
  let c0_i32_101 : BitVec 32 := 0#32
  let c1_i32_103 : BitVec 32 := 1#32
  let arg16 : BitVec 32 := Scf.iv c0_i32_101 c1_i32_103 k0_t2
  let c16_i32 : BitVec 32 := 16#32
  let v291 : BitVec 32 := Scalar.muli arg16 c16_i32
  v291
def k0_off4 (k0_t2 : Fin k0_t2_loop.trips) (c0_i32_222 : BitVec 32) : Fin 3 → Nat :=
  let c0_223 : Index := 0#32
  let c0_i32_101 : BitVec 32 := 0#32
  let c1_i32_103 : BitVec 32 := 1#32
  let arg16 : BitVec 32 := Scf.iv c0_i32_101 c1_i32_103 k0_t2
  let c16_i32 : BitVec 32 := 16#32
  let v291 : BitVec 32 := Scalar.muli arg16 c16_i32
  let v292 : BitVec 32 := v291
  let v294 : BitVec 32 := Scalar.addi c0_i32_222 v292
  let v295 : Index := Scalar.indexCast v294
  let c0_224 : Index := 0#32
  ![0, v295.toNat, 0]
def k0_off5 (k0_t2 : Fin k0_t2_loop.trips) : Fin 2 → Nat :=
  let c128_i32_278 : BitVec 32 := 128#32
  let c0_i32_101 : BitVec 32 := 0#32
  let c1_i32_103 : BitVec 32 := 1#32
  let arg16 : BitVec 32 := Scf.iv c0_i32_101 c1_i32_103 k0_t2
  let c16_i32 : BitVec 32 := 16#32
  let v291 : BitVec 32 := Scalar.muli arg16 c16_i32
  let v292 : BitVec 32 := v291
  let v414 : BitVec 32 := Scalar.addi c128_i32_278 v292
  let v415 : Index := Scalar.indexCast v414
  let c0_279 : Index := 0#32
  ![v415.toNat, 0]
@[reducible] def k0_t3_loop : Scf.Loop 32 :=
  let c0_i32_154 : BitVec 32 := 0#32
  let c8_i32_155 : BitVec 32 := 8#32
  let v211 : BitVec 32 := Scalar.addi c0_i32_154 c8_i32_155
  let c1_i32_156 : BitVec 32 := 1#32
  ⟨c0_i32_154, v211, c1_i32_156⟩
def k0_mult3 (k0_t3 : Fin k0_t3_loop.trips) : BitVec 32 :=
  let c0_i32_154 : BitVec 32 := 0#32
  let c1_i32_156 : BitVec 32 := 1#32
  let arg16 : BitVec 32 := Scf.iv c0_i32_154 c1_i32_156 k0_t3
  let c16_i32 : BitVec 32 := 16#32
  let v291 : BitVec 32 := Scalar.muli arg16 c16_i32
  v291
def k0_off6 (k0_t3 : Fin k0_t3_loop.trips) (c0_i32_222 : BitVec 32) : Fin 3 → Nat :=
  let c0_223 : Index := 0#32
  let c0_i32_154 : BitVec 32 := 0#32
  let c1_i32_156 : BitVec 32 := 1#32
  let arg16 : BitVec 32 := Scf.iv c0_i32_154 c1_i32_156 k0_t3
  let c16_i32 : BitVec 32 := 16#32
  let v291 : BitVec 32 := Scalar.muli arg16 c16_i32
  let v292 : BitVec 32 := v291
  let v294 : BitVec 32 := Scalar.addi c0_i32_222 v292
  let v295 : Index := Scalar.indexCast v294
  let c0_224 : Index := 0#32
  ![0, v295.toNat, 0]
def k0_off7 (k0_t3 : Fin k0_t3_loop.trips) : Fin 2 → Nat :=
  let c256_i32_278 : BitVec 32 := 256#32
  let c0_i32_154 : BitVec 32 := 0#32
  let c1_i32_156 : BitVec 32 := 1#32
  let arg16 : BitVec 32 := Scf.iv c0_i32_154 c1_i32_156 k0_t3
  let c16_i32 : BitVec 32 := 16#32
  let v291 : BitVec 32 := Scalar.muli arg16 c16_i32
  let v292 : BitVec 32 := v291
  let v414 : BitVec 32 := Scalar.addi c256_i32_278 v292
  let v415 : Index := Scalar.indexCast v414
  let c0_279 : Index := 0#32
  ![v415.toNat, 0]
@[reducible] def k0_t4_loop : Scf.Loop 32 :=
  let c0_i32_207 : BitVec 32 := 0#32
  let c8_i32_208 : BitVec 32 := 8#32
  let v278 : BitVec 32 := Scalar.addi c0_i32_207 c8_i32_208
  let c1_i32_209 : BitVec 32 := 1#32
  ⟨c0_i32_207, v278, c1_i32_209⟩
def k0_mult4 (k0_t4 : Fin k0_t4_loop.trips) : BitVec 32 :=
  let c0_i32_207 : BitVec 32 := 0#32
  let c1_i32_209 : BitVec 32 := 1#32
  let arg16 : BitVec 32 := Scf.iv c0_i32_207 c1_i32_209 k0_t4
  let c16_i32 : BitVec 32 := 16#32
  let v291 : BitVec 32 := Scalar.muli arg16 c16_i32
  v291
def k0_off8 (k0_t4 : Fin k0_t4_loop.trips) (c0_i32_222 : BitVec 32) : Fin 3 → Nat :=
  let c0_223 : Index := 0#32
  let c0_i32_207 : BitVec 32 := 0#32
  let c1_i32_209 : BitVec 32 := 1#32
  let arg16 : BitVec 32 := Scf.iv c0_i32_207 c1_i32_209 k0_t4
  let c16_i32 : BitVec 32 := 16#32
  let v291 : BitVec 32 := Scalar.muli arg16 c16_i32
  let v292 : BitVec 32 := v291
  let v294 : BitVec 32 := Scalar.addi c0_i32_222 v292
  let v295 : Index := Scalar.indexCast v294
  let c0_224 : Index := 0#32
  ![0, v295.toNat, 0]
def k0_off9 (k0_t4 : Fin k0_t4_loop.trips) : Fin 2 → Nat :=
  let c384_i32_278 : BitVec 32 := 384#32
  let c0_i32_207 : BitVec 32 := 0#32
  let c1_i32_209 : BitVec 32 := 1#32
  let arg16 : BitVec 32 := Scf.iv c0_i32_207 c1_i32_209 k0_t4
  let c16_i32 : BitVec 32 := 16#32
  let v291 : BitVec 32 := Scalar.muli arg16 c16_i32
  let v292 : BitVec 32 := v291
  let v414 : BitVec 32 := Scalar.addi c384_i32_278 v292
  let v415 : Index := Scalar.indexCast v414
  let c0_279 : Index := 0#32
  ![v415.toNat, 0]
def k0_cond2 (i : grid0.Coords) : BitVec 1 :=
  let arg2 : BitVec 32 := BitVec.ofNat 32 (i 2).val
  let c31_i32 : BitVec 32 := 31#32
  let v288 : BitVec 1 := Scalar.cmpi .eq arg2 c31_i32
  let v289 : BitVec 32 := Scalar.extui v288
  let c0_i32_220 : BitVec 32 := 0#32
  let v290 : BitVec 1 := Scalar.cmpi .ne v289 c0_i32_220
  v290

def k0_off10 (i : grid0.Coords) : Fin 3 → Nat :=
  let arg0 : BitVec 32 := BitVec.ofNat 32 (i 0).val
  let v299 : Index := Scalar.indexCast arg0
  let c0_224 : Index := 0#32
  let c0_225 : Index := 0#32
  ![v299.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1024x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x384x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S8x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x384x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== ReferenceIdeal.lean ====
abbrev S2x8448x2048 : Shape := ⟨3, ![2, 8448, 2048]⟩
abbrev S16384x2048 : Shape := ⟨2, ![16384, 2048]⟩
abbrev S2x1024x8448 : Shape := ⟨3, ![2, 1024, 8448]⟩
abbrev S8x6x2048 : Shape := ⟨3, ![8, 6, 2048]⟩
abbrev S2x8x1x128x8448 : Shape := ⟨5, ![2, 8, 1, 128, 8448]⟩
abbrev S2x8x128x1x8448 : Shape := ⟨5, ![2, 8, 128, 1, 8448]⟩
abbrev S2x8x128x128x8448 : Shape := ⟨5, ![2, 8, 128, 128, 8448]⟩
abbrev S_ : Shape := ⟨0, ![]⟩
abbrev S2x128x128x8448 : Shape := ⟨4, ![2, 128, 128, 8448]⟩
abbrev S2x16384x8448 : Shape := ⟨3, ![2, 16384, 8448]⟩
abbrev S16384x2x8448 : Shape := ⟨3, ![16384, 2, 8448]⟩
abbrev S2x1x2048 : Shape := ⟨3, ![2, 1, 2048]⟩
abbrev S2x2048 : Shape := ⟨2, ![2, 2048]⟩
abbrev S1x1x2048 : Shape := ⟨3, ![1, 1, 2048]⟩
abbrev S2048 : Shape := ⟨1, ![2048]⟩
abbrev S2x8192x2048 : Shape := ⟨3, ![2, 8192, 2048]⟩
abbrev S2x256x2048 : Shape := ⟨3, ![2, 256, 2048]⟩

abbrev nBuf : Space → Nat
  | .hbm => 57
  | .vmem => 0
  | .smem => 0
  | _ => 0

abbrev bufTy : (tb : Table) → Fin (tcTables nBuf tb) → BufTy
  | .hbm, ⟨0, _⟩ => ⟨S2x8448x2048, .bf16⟩
  | .hbm, ⟨1, _⟩ => ⟨S16384x2048, .f32⟩
  | .hbm, ⟨2, _⟩ => ⟨S16384x2048, .f32⟩
  | .hbm, ⟨3, _⟩ => ⟨S2x1024x8448, .f32⟩
  | .hbm, ⟨4, _⟩ => ⟨S2x1024x8448, .f32⟩
  | .hbm, ⟨5, _⟩ => ⟨S2x1024x8448, .f32⟩
  | .hbm, ⟨6, _⟩ => ⟨S2x1024x8448, .f32⟩
  | .hbm, ⟨7, _⟩ => ⟨S2x8448x2048, .f32⟩
  | .hbm, ⟨8, _⟩ => ⟨S8x6x2048, .f32⟩
  | .hbm, ⟨9, _⟩ => ⟨S2x8x1x128x8448, .f32⟩
  | .hbm, ⟨10, _⟩ => ⟨S2x8x128x1x8448, .f32⟩
  | .hbm, ⟨11, _⟩ => ⟨S2x8x128x128x8448, .f32⟩
  | .hbm, ⟨12, _⟩ => ⟨S2x8x128x128x8448, .f32⟩
  | .hbm, ⟨13, _⟩ => ⟨S2x8x128x128x8448, .i1⟩
  | .hbm, ⟨14, _⟩ => ⟨S2x8x1x128x8448, .f32⟩
  | .hbm, ⟨15, _⟩ => ⟨S_, .f32⟩
  | .hbm, ⟨16, _⟩ => ⟨S_, .f32⟩
  | .hbm, ⟨17, _⟩ => ⟨S2x8x128x128x8448, .f32⟩
  | .hbm, ⟨18, _⟩ => ⟨S2x8x128x128x8448, .f32⟩
  | .hbm, ⟨19, _⟩ => ⟨S2x8x128x128x8448, .f32⟩
  | .hbm, ⟨20, _⟩ => ⟨S2x8x128x1x8448, .f32⟩
  | .hbm, ⟨21, _⟩ => ⟨S2x8x128x128x8448, .f32⟩
  | .hbm, ⟨22, _⟩ => ⟨S2x8x128x128x8448, .f32⟩
  | .hbm, ⟨23, _⟩ => ⟨S_, .f32⟩
  | .hbm, ⟨24, _⟩ => ⟨S2x128x128x8448, .f32⟩
  | .hbm, ⟨25, _⟩ => ⟨S2x16384x8448, .f32⟩
  | .hbm, ⟨26, _⟩ => ⟨S2x8448x2048, .f32⟩
  | .hbm, ⟨27, _⟩ => ⟨S16384x2x8448, .f32⟩
  | .hbm, ⟨28, _⟩ => ⟨S2x16384x8448, .f32⟩
  | .hbm, ⟨29, _⟩ => ⟨S_, .f32⟩
  | .hbm, ⟨30, _⟩ => ⟨S2x16384x8448, .f32⟩
  | .hbm, ⟨31, _⟩ => ⟨S2x16384x8448, .f32⟩
  | .hbm, ⟨32, _⟩ => ⟨S2x16384x8448, .f32⟩
  | .hbm, ⟨33, _⟩ => ⟨S_, .f32⟩
  | .hbm, ⟨34, _⟩ => ⟨S2x16384x8448, .f32⟩
  | .hbm, ⟨35, _⟩ => ⟨S2x16384x8448, .f32⟩
  | .hbm, ⟨36, _⟩ => ⟨S2x16384x8448, .f32⟩
  | .hbm, ⟨37, _⟩ => ⟨S2x16384x8448, .f32⟩
  | .hbm, ⟨38, _⟩ => ⟨S2x16384x8448, .f32⟩
  | .hbm, ⟨39, _⟩ => ⟨S2x8448x2048, .f32⟩
  | .hbm, ⟨40, _⟩ => ⟨S2x1x2048, .f32⟩
  | .hbm, ⟨41, _⟩ => ⟨S2x2048, .f32⟩
  | .hbm, ⟨42, _⟩ => ⟨S2x1x2048, .f32⟩
  | .hbm, ⟨43, _⟩ => ⟨S1x1x2048, .f32⟩
  | .hbm, ⟨44, _⟩ => ⟨S2048, .f32⟩
  | .hbm, ⟨45, _⟩ => ⟨S2x8192x2048, .f32⟩
  | .hbm, ⟨46, _⟩ => ⟨S2x8192x2048, .f32⟩
  | .hbm, ⟨47, _⟩ => ⟨S2x8192x2048, .f32⟩
  | .hbm, ⟨48, _⟩ => ⟨S2x8192x2048, .f32⟩
  | .hbm, ⟨49, _⟩ => ⟨S2x8192x2048, .f32⟩
  | .hbm, ⟨50, _⟩ => ⟨S2x256x2048, .f32⟩
  | .hbm, ⟨51, _⟩ => ⟨S2x256x2048, .f32⟩
  | .hbm, ⟨52, _⟩ => ⟨S1x1x2048, .f32⟩
  | .hbm, ⟨53, _⟩ => ⟨S2x256x2048, .f32⟩
  | .hbm, ⟨54, _⟩ => ⟨S2x256x2048, .f32⟩
  | .hbm, ⟨55, _⟩ => ⟨S2x256x2048, .f32⟩
  | .hbm, ⟨56, _⟩ => ⟨S2x8448x2048, .f32⟩
  | _, _ => ⟨S2x8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Kernel2.lean ====
abbrev S2x8448x2048 : Shape := ⟨3, ![2, 8448, 2048]⟩
abbrev S2048 : Shape := ⟨1, ![2048]⟩
abbrev S8x6x2048 : Shape := ⟨3, ![8, 6, 2048]⟩
abbrev S2048x6144 : Shape := ⟨2, ![2048, 6144]⟩
abbrev S2048x5120 : Shape := ⟨2, ![2048, 5120]⟩
abbrev S1x2048 : Shape := ⟨2, ![1, 2048]⟩
abbrev S2x8448x5120 : Shape := ⟨3, ![2, 8448, 5120]⟩
abbrev S1x768x2048 : Shape := ⟨3, ![1, 768, 2048]⟩
abbrev S2048x512 : Shape := ⟨2, ![2048, 512]⟩
abbrev S1x768x512 : Shape := ⟨3, ![1, 768, 512]⟩
abbrev S768x2048 : Shape := ⟨2, ![768, 2048]⟩
abbrev S768x1 : Shape := ⟨2, ![768, 1]⟩
abbrev S1x1x2048 : Shape := ⟨3, ![1, 1, 2048]⟩
abbrev S768 : Shape := ⟨1, ![768]⟩
abbrev S768x512 : Shape := ⟨2, ![768, 512]⟩

abbrev nBuf : Space → Nat
  | .hbm => 8
  | .vmem => 9
  | .smem => 0
  | _ => 0

abbrev bufTy : (tb : Table) → Fin (tcTables nBuf tb) → BufTy
  | .hbm, ⟨0, _⟩ => ⟨S2x8448x2048, .f32⟩
  | .hbm, ⟨1, _⟩ => ⟨S2048, .f32⟩
  | .hbm, ⟨2, _⟩ => ⟨S8x6x2048, .f32⟩
  | .hbm, ⟨3, _⟩ => ⟨S2048x6144, .f32⟩
  | .hbm, ⟨4, _⟩ => ⟨S2048x6144, .bf16⟩
  | .hbm, ⟨5, _⟩ => ⟨S2048x5120, .bf16⟩
  | .hbm, ⟨6, _⟩ => ⟨S1x2048, .f32⟩
  | .hbm, ⟨7, _⟩ => ⟨S2x8448x5120, .f32⟩
  | .local _ .vmem, ⟨0, _⟩ => ⟨S1x768x2048, .f32⟩
  | .local _ .vmem, ⟨1, _⟩ => ⟨S1x768x2048, .f32⟩
  | .local _ .vmem, ⟨2, _⟩ => ⟨S1x2048, .f32⟩
  | .local _ .vmem, ⟨3, _⟩ => ⟨S8x6x2048, .f32⟩
  | .local _ .vmem, ⟨4, _⟩ => ⟨S2048x512, .bf16⟩
  | .local _ .vmem, ⟨5, _⟩ => ⟨S2048x512, .bf16⟩
  | .local _ .vmem, ⟨6, _⟩ => ⟨S1x768x512, .f32⟩
  | .local _ .vmem, ⟨7, _⟩ => ⟨S1x768x512, .f32⟩
  | .local _ .vmem, ⟨8, _⟩ => ⟨S768x2048, .bf16⟩
  | _, _ => ⟨S2x8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![2, 11, 10], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let v16 : Index := Scalar.indexCast arg0
  let c0_7 : Index := 0#32
  let c0_8 : Index := 0#32
  ![v16.toNat, 0, 0]
def k0_off2 (i : grid0.Coords) : Fin 3 → Nat :=
  let arg0 : BitVec 32 := BitVec.ofNat 32 (i 0).val
  let v28 : Index := Scalar.indexCast arg0
  let c1 : Index := 1#32
  let c0_11 : Index := 0#32
  ![v28.toNat, 1, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S8x6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference2Ideal.lean ====
abbrev S2x8448x2048 : Shape := ⟨3, ![2, 8448, 2048]⟩
abbrev S2048 : Shape := ⟨1, ![2048]⟩
abbrev S8x6x2048 : Shape := ⟨3, ![8, 6, 2048]⟩
abbrev S2048x6144 : Shape := ⟨2, ![2048, 6144]⟩
abbrev S2x8192x2048 : Shape := ⟨3, ![2, 8192, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x1x2048 : Shape := ⟨3, ![2, 1, 2048]⟩
abbrev S2x2048 : Shape := ⟨2, ![2, 2048]⟩
abbrev S2x256x2048 : Shape := ⟨3, ![2, 256, 2048]⟩
abbrev S2x256 : Shape := ⟨2, ![2, 256]⟩
abbrev S2x256x1 : Shape := ⟨3, ![2, 256, 1]⟩
abbrev S2x8448x6144 : Shape := ⟨3, ![2, 8448, 6144]⟩
abbrev S2x8448x5120 : Shape := ⟨3, ![2, 8448, 5120]⟩

abbrev nBuf : Space → Nat
  | .hbm => 67
  | .vmem => 0
  | .smem => 0
  | _ => 0

abbrev bufTy : (tb : Table) → Fin (tcTables nBuf tb) → BufTy
  | .hbm, ⟨0, _⟩ => ⟨S2x8448x2048, .f32⟩
  | .hbm, ⟨1, _⟩ => ⟨S2048, .f32⟩
  | .hbm, ⟨2, _⟩ => ⟨S8x6x2048, .f32⟩
  | .hbm, ⟨3, _⟩ => ⟨S2048x6144, .f32⟩
  | .hbm, ⟨4, _⟩ => ⟨S2x8192x2048, .f32⟩
  | .hbm, ⟨5, _⟩ => ⟨S2x8192x2048, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x2048, .f32⟩
  | .hbm, ⟨17, _⟩ => ⟨S2x8192x2048, .f32⟩
  | .hbm, ⟨18, _⟩ => ⟨S1x1x2048, .f32⟩
  | .hbm, ⟨19, _⟩ => ⟨S2x8192x2048, .f32⟩
  | .hbm, ⟨20, _⟩ => ⟨S2x8192x2048, .f32⟩
  | .hbm, ⟨21, _⟩ => ⟨S2x1x2048, .f32⟩
  | .hbm, ⟨22, _⟩ => ⟨S2x2048, .f32⟩
  | .hbm, ⟨23, _⟩ => ⟨S2x1x2048, .f32⟩
  | .hbm, ⟨24, _⟩ => ⟨S2x1x2048, .f32⟩
  | .hbm, ⟨25, _⟩ => ⟨S2x2048, .f32⟩
  | .hbm, ⟨26, _⟩ => ⟨S2x1x2048, .f32⟩
  | .hbm, ⟨27, _⟩ => ⟨S_, .f32⟩
  | .hbm, ⟨28, _⟩ => ⟨S2x1x2048, .f32⟩
  | .hbm, ⟨29, _⟩ => ⟨S2x1x2048, .f32⟩
  | .hbm, ⟨30, _⟩ => ⟨S2x8192x2048, .f32⟩
  | .hbm, ⟨31, _⟩ => ⟨S2x8192x2048, .f32⟩
  | .hbm, ⟨32, _⟩ => ⟨S2x8192x2048, .f32⟩
  | .hbm, ⟨33, _⟩ => ⟨S2x8192x2048, .f32⟩
  | .hbm, ⟨34, _⟩ => ⟨S2x256x2048, .f32⟩
  | .hbm, ⟨35, _⟩ => ⟨S2x256x2048, .f32⟩
  | .hbm, ⟨36, _⟩ => ⟨S_, .f32⟩
  | .hbm, ⟨37, _⟩ => ⟨S2x256, .f32⟩
  | .hbm, ⟨38, _⟩ => ⟨S2x256x1, .f32⟩
  | .hbm, ⟨39, _⟩ => ⟨S_, .f32⟩
  | .hbm, ⟨40, _⟩ => ⟨S2x256x1, .f32⟩
  | .hbm, ⟨41, _⟩ => ⟨S2x256x1, .f32⟩
  | .hbm, ⟨42, _⟩ => ⟨S_, .f32⟩
  | .hbm, ⟨43, _⟩ => ⟨S2x256x1, .f32⟩
  | .hbm, ⟨44, _⟩ => ⟨S2x256x1, .f32⟩
  | .hbm, ⟨45, _⟩ => ⟨S2x256x1, .f32⟩
  | .hbm, ⟨46, _⟩ => ⟨S2x256x2048, .f32⟩
  | .hbm, ⟨47, _⟩ => ⟨S2x256x2048, .f32⟩
  | .hbm, ⟨48, _⟩ => ⟨S1x1x2048, .f32⟩
  | .hbm, ⟨49, _⟩ => ⟨S2x256x2048, .f32⟩
  | .hbm, ⟨50, _⟩ => ⟨S2x256x2048, .f32⟩
  | .hbm, ⟨51, _⟩ => ⟨S1x1x2048, .f32⟩
  | .hbm, ⟨52, _⟩ => ⟨S2048, .f32⟩
  | .hbm, ⟨53, _⟩ => ⟨S1x1x2048, .f32⟩
  | .hbm, ⟨54, _⟩ => ⟨S2048, .f32⟩
  | .hbm, ⟨55, _⟩ => ⟨S_, .f32⟩
  | .hbm, ⟨56, _⟩ => ⟨S2048, .f32⟩
  | .hbm, ⟨57, _⟩ => ⟨S2048, .f32⟩
  | .hbm, ⟨58, _⟩ => ⟨S1x1x2048, .f32⟩
  | .hbm, ⟨59, _⟩ => ⟨S2x256x2048, .f32⟩
  | .hbm, ⟨60, _⟩ => ⟨S2x256x2048, .f32⟩
  | .hbm, ⟨61, _⟩ => ⟨S1x1x2048, .f32⟩
  | .hbm, ⟨62, _⟩ => ⟨S2x256x2048, .f32⟩
  | .hbm, ⟨63, _⟩ => ⟨S2x256x2048, .f32⟩
  | .hbm, ⟨64, _⟩ => ⟨S2x8448x2048, .f32⟩
  | .hbm, ⟨65, _⟩ => ⟨S2x8448x6144, .f32⟩
  | .hbm, ⟨66, _⟩ => ⟨S2x8448x5120, .f32⟩
  | _, _ => ⟨S2x8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]
-- ==== Kernel3.lean ====
abbrev S2x8448x2048 : Shape := ⟨3, ![2, 8448, 2048]⟩
abbrev S2048 : Shape := ⟨1, ![2048]⟩
abbrev S8x6x2048 : Shape := ⟨3, ![8, 6, 2048]⟩
abbrev S2048x6144 : Shape := ⟨2, ![2048, 6144]⟩
abbrev S2048x1024 : Shape := ⟨2, ![2048, 1024]⟩
abbrev S1x2048 : Shape := ⟨2, ![1, 2048]⟩
abbrev S2x8448x1024 : Shape := ⟨3, ![2, 8448, 1024]⟩
abbrev S1x768x2048 : Shape := ⟨3, ![1, 768, 2048]⟩
abbrev S2048x512 : Shape := ⟨2, ![2048, 512]⟩
abbrev S1x768x512 : Shape := ⟨3, ![1, 768, 512]⟩
abbrev S768x2048 : Shape := ⟨2, ![768, 2048]⟩
abbrev S768x1 : Shape := ⟨2, ![768, 1]⟩
abbrev S1x1x2048 : Shape := ⟨3, ![1, 1, 2048]⟩
abbrev S768 : Shape := ⟨1, ![768]⟩
abbrev S768x512 : Shape := ⟨2, ![768, 512]⟩

abbrev nBuf : Space → Nat
  | .hbm => 8
  | .vmem => 9
  | .smem => 0
  | _ => 0

abbrev bufTy : (tb : Table) → Fin (tcTables nBuf tb) → BufTy
  | .hbm, ⟨0, _⟩ => ⟨S2x8448x2048, .f32⟩
  | .hbm, ⟨1, _⟩ => ⟨S2048, .f32⟩
  | .hbm, ⟨2, _⟩ => ⟨S8x6x2048, .f32⟩
  | .hbm, ⟨3, _⟩ => ⟨S2048x6144, .f32⟩
  | .hbm, ⟨4, _⟩ => ⟨S2048x6144, .bf16⟩
  | .hbm, ⟨5, _⟩ => ⟨S2048x1024, .bf16⟩
  | .hbm, ⟨6, _⟩ => ⟨S1x2048, .f32⟩
  | .hbm, ⟨7, _⟩ => ⟨S2x8448x1024, .f32⟩
  | .local _ .vmem, ⟨0, _⟩ => ⟨S1x768x2048, .f32⟩
  | .local _ .vmem, ⟨1, _⟩ => ⟨S1x768x2048, .f32⟩
  | .local _ .vmem, ⟨2, _⟩ => ⟨S1x2048, .f32⟩
  | .local _ .vmem, ⟨3, _⟩ => ⟨S8x6x2048, .f32⟩
  | .local _ .vmem, ⟨4, _⟩ => ⟨S2048x512, .bf16⟩
  | .local _ .vmem, ⟨5, _⟩ => ⟨S2048x512, .bf16⟩
  | .local _ .vmem, ⟨6, _⟩ => ⟨S1x768x512, .f32⟩
  | .local _ .vmem, ⟨7, _⟩ => ⟨S1x768x512, .f32⟩
  | .local _ .vmem, ⟨8, _⟩ => ⟨S768x2048, .bf16⟩
  | _, _ => ⟨S2x8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![2, 11, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let v16 : Index := Scalar.indexCast arg0
  let c0_7 : Index := 0#32
  let c0_8 : Index := 0#32
  ![v16.toNat, 0, 0]
def k0_off2 (i : grid0.Coords) : Fin 3 → Nat :=
  let arg0 : BitVec 32 := BitVec.ofNat 32 (i 0).val
  let v28 : Index := Scalar.indexCast arg0
  let c1 : Index := 1#32
  let c0_11 : Index := 0#32
  ![v28.toNat, 1, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S8x6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference3Ideal.lean ====
abbrev S2x8448x2048 : Shape := ⟨3, ![2, 8448, 2048]⟩
abbrev S2048 : Shape := ⟨1, ![2048]⟩
abbrev S8x6x2048 : Shape := ⟨3, ![8, 6, 2048]⟩
abbrev S2048x6144 : Shape := ⟨2, ![2048, 6144]⟩
abbrev S2x8192x2048 : Shape := ⟨3, ![2, 8192, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x1x2048 : Shape := ⟨3, ![2, 1, 2048]⟩
abbrev S2x2048 : Shape := ⟨2, ![2, 2048]⟩
abbrev S2x256x2048 : Shape := ⟨3, ![2, 256, 2048]⟩
abbrev S2x256 : Shape := ⟨2, ![2, 256]⟩
abbrev S2x256x1 : Shape := ⟨3, ![2, 256, 1]⟩
abbrev S2x8448x6144 : Shape := ⟨3, ![2, 8448, 6144]⟩
abbrev S2x8448x1024 : Shape := ⟨3, ![2, 8448, 1024]⟩

abbrev nBuf : Space → Nat
  | .hbm => 67
  | .vmem => 0
  | .smem => 0
  | _ => 0

abbrev bufTy : (tb : Table) → Fin (tcTables nBuf tb) → BufTy
  | .hbm, ⟨0, _⟩ => ⟨S2x8448x2048, .f32⟩
  | .hbm, ⟨1, _⟩ => ⟨S2048, .f32⟩
  | .hbm, ⟨2, _⟩ => ⟨S8x6x2048, .f32⟩
  | .hbm, ⟨3, _⟩ => ⟨S2048x6144, .f32⟩
  | .hbm, ⟨4, _⟩ => ⟨S2x8192x2048, .f32⟩
  | .hbm, ⟨5, _⟩ => ⟨S2x8192x2048, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x2048, .f32⟩
  | .hbm, ⟨17, _⟩ => ⟨S2x8192x2048, .f32⟩
  | .hbm, ⟨18, _⟩ => ⟨S1x1x2048, .f32⟩
  | .hbm, ⟨19, _⟩ => ⟨S2x8192x2048, .f32⟩
  | .hbm, ⟨20, _⟩ => ⟨S2x8192x2048, .f32⟩
  | .hbm, ⟨21, _⟩ => ⟨S2x1x2048, .f32⟩
  | .hbm, ⟨22, _⟩ => ⟨S2x2048, .f32⟩
  | .hbm, ⟨23, _⟩ => ⟨S2x1x2048, .f32⟩
  | .hbm, ⟨24, _⟩ => ⟨S2x1x2048, .f32⟩
  | .hbm, ⟨25, _⟩ => ⟨S2x2048, .f32⟩
  | .hbm, ⟨26, _⟩ => ⟨S2x1x2048, .f32⟩
  | .hbm, ⟨27, _⟩ => ⟨S_, .f32⟩
  | .hbm, ⟨28, _⟩ => ⟨S2x1x2048, .f32⟩
  | .hbm, ⟨29, _⟩ => ⟨S2x1x2048, .f32⟩
  | .hbm, ⟨30, _⟩ => ⟨S2x8192x2048, .f32⟩
  | .hbm, ⟨31, _⟩ => ⟨S2x8192x2048, .f32⟩
  | .hbm, ⟨32, _⟩ => ⟨S2x8192x2048, .f32⟩
  | .hbm, ⟨33, _⟩ => ⟨S2x8192x2048, .f32⟩
  | .hbm, ⟨34, _⟩ => ⟨S2x256x2048, .f32⟩
  | .hbm, ⟨35, _⟩ => ⟨S2x256x2048, .f32⟩
  | .hbm, ⟨36, _⟩ => ⟨S_, .f32⟩
  | .hbm, ⟨37, _⟩ => ⟨S2x256, .f32⟩
  | .hbm, ⟨38, _⟩ => ⟨S2x256x1, .f32⟩
  | .hbm, ⟨39, _⟩ => ⟨S_, .f32⟩
  | .hbm, ⟨40, _⟩ => ⟨S2x256x1, .f32⟩
  | .hbm, ⟨41, _⟩ => ⟨S2x256x1, .f32⟩
  | .hbm, ⟨42, _⟩ => ⟨S_, .f32⟩
  | .hbm, ⟨43, _⟩ => ⟨S2x256x1, .f32⟩
  | .hbm, ⟨44, _⟩ => ⟨S2x256x1, .f32⟩
  | .hbm, ⟨45, _⟩ => ⟨S2x256x1, .f32⟩
  | .hbm, ⟨46, _⟩ => ⟨S2x256x2048, .f32⟩
  | .hbm, ⟨47, _⟩ => ⟨S2x256x2048, .f32⟩
  | .hbm, ⟨48, _⟩ => ⟨S1x1x2048, .f32⟩
  | .hbm, ⟨49, _⟩ => ⟨S2x256x2048, .f32⟩
  | .hbm, ⟨50, _⟩ => ⟨S2x256x2048, .f32⟩
  | .hbm, ⟨51, _⟩ => ⟨S1x1x2048, .f32⟩
  | .hbm, ⟨52, _⟩ => ⟨S2048, .f32⟩
  | .hbm, ⟨53, _⟩ => ⟨S1x1x2048, .f32⟩
  | .hbm, ⟨54, _⟩ => ⟨S2048, .f32⟩
  | .hbm, ⟨55, _⟩ => ⟨S_, .f32⟩
  | .hbm, ⟨56, _⟩ => ⟨S2048, .f32⟩
  | .hbm, ⟨57, _⟩ => ⟨S2048, .f32⟩
  | .hbm, ⟨58, _⟩ => ⟨S1x1x2048, .f32⟩
  | .hbm, ⟨59, _⟩ => ⟨S2x256x2048, .f32⟩
  | .hbm, ⟨60, _⟩ => ⟨S2x256x2048, .f32⟩
  | .hbm, ⟨61, _⟩ => ⟨S1x1x2048, .f32⟩
  | .hbm, ⟨62, _⟩ => ⟨S2x256x2048, .f32⟩
  | .hbm, ⟨63, _⟩ => ⟨S2x256x2048, .f32⟩
  | .hbm, ⟨64, _⟩ => ⟨S2x8448x2048, .f32⟩
  | .hbm, ⟨65, _⟩ => ⟨S2x8448x6144, .f32⟩
  | .hbm, ⟨66, _⟩ => ⟨S2x8448x1024, .f32⟩
  | _, _ => ⟨S2x8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]
-- ==== Kernel4.lean ====
abbrev S2x8448x2048 : Shape := ⟨3, ![2, 8448, 2048]⟩
abbrev S2048 : Shape := ⟨1, ![2048]⟩
abbrev S8x6x2048 : Shape := ⟨3, ![8, 6, 2048]⟩
abbrev S2048x3072 : Shape := ⟨2, ![2048, 3072]⟩
abbrev S1x2048 : Shape := ⟨2, ![1, 2048]⟩
abbrev S2x8448x3072 : Shape := ⟨3, ![2, 8448, 3072]⟩
abbrev S1x768x2048 : Shape := ⟨3, ![1, 768, 2048]⟩
abbrev S2048x512 : Shape := ⟨2, ![2048, 512]⟩
abbrev S1x768x512 : Shape := ⟨3, ![1, 768, 512]⟩
abbrev S768x2048 : Shape := ⟨2, ![768, 2048]⟩
abbrev S768x1 : Shape := ⟨2, ![768, 1]⟩
abbrev S1x1x2048 : Shape := ⟨3, ![1, 1, 2048]⟩
abbrev S768 : Shape := ⟨1, ![768]⟩
abbrev S768x512 : Shape := ⟨2, ![768, 512]⟩

abbrev nBuf : Space → Nat
  | .hbm => 7
  | .vmem => 9
  | .smem => 0
  | _ => 0

abbrev bufTy : (tb : Table) → Fin (tcTables nBuf tb) → BufTy
  | .hbm, ⟨0, _⟩ => ⟨S2x8448x2048, .f32⟩
  | .hbm, ⟨1, _⟩ => ⟨S2048, .f32⟩
  | .hbm, ⟨2, _⟩ => ⟨S8x6x2048, .f32⟩
  | .hbm, ⟨3, _⟩ => ⟨S2048x3072, .f32⟩
  | .hbm, ⟨4, _⟩ => ⟨S2048x3072, .bf16⟩
  | .hbm, ⟨5, _⟩ => ⟨S1x2048, .f32⟩
  | .hbm, ⟨6, _⟩ => ⟨S2x8448x3072, .f32⟩
  | .local _ .vmem, ⟨0, _⟩ => ⟨S1x768x2048, .f32⟩
  | .local _ .vmem, ⟨1, _⟩ => ⟨S1x768x2048, .f32⟩
  | .local _ .vmem, ⟨2, _⟩ => ⟨S1x2048, .f32⟩
  | .local _ .vmem, ⟨3, _⟩ => ⟨S8x6x2048, .f32⟩
  | .local _ .vmem, ⟨4, _⟩ => ⟨S2048x512, .bf16⟩
  | .local _ .vmem, ⟨5, _⟩ => ⟨S2048x512, .bf16⟩
  | .local _ .vmem, ⟨6, _⟩ => ⟨S1x768x512, .f32⟩
  | .local _ .vmem, ⟨7, _⟩ => ⟨S1x768x512, .f32⟩
  | .local _ .vmem, ⟨8, _⟩ => ⟨S768x2048, .bf16⟩
  | _, _ => ⟨S2x8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![2, 11, 6], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let v16 : Index := Scalar.indexCast arg0
  let c0_7 : Index := 0#32
  let c0_8 : Index := 0#32
  ![v16.toNat, 0, 0]
def k0_off2 (i : grid0.Coords) : Fin 3 → Nat :=
  let arg0 : BitVec 32 := BitVec.ofNat 32 (i 0).val
  let v28 : Index := Scalar.indexCast arg0
  let c1 : Index := 1#32
  let c0_11 : Index := 0#32
  ![v28.toNat, 1, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S8x6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference4Ideal.lean ====
abbrev S2x8448x2048 : Shape := ⟨3, ![2, 8448, 2048]⟩
abbrev S2048 : Shape := ⟨1, ![2048]⟩
abbrev S8x6x2048 : Shape := ⟨3, ![8, 6, 2048]⟩
abbrev S2048x3072 : Shape := ⟨2, ![2048, 3072]⟩
abbrev S2x8192x2048 : Shape := ⟨3, ![2, 8192, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x1x2048 : Shape := ⟨3, ![2, 1, 2048]⟩
abbrev S2x2048 : Shape := ⟨2, ![2, 2048]⟩
abbrev S2x256x2048 : Shape := ⟨3, ![2, 256, 2048]⟩
abbrev S2x256 : Shape := ⟨2, ![2, 256]⟩
abbrev S2x256x1 : Shape := ⟨3, ![2, 256, 1]⟩
abbrev S2x8448x3072 : Shape := ⟨3, ![2, 8448, 3072]⟩

abbrev nBuf : Space → Nat
  | .hbm => 66
  | .vmem => 0
  | .smem => 0
  | _ => 0

abbrev bufTy : (tb : Table) → Fin (tcTables nBuf tb) → BufTy
  | .hbm, ⟨0, _⟩ => ⟨S2x8448x2048, .f32⟩
  | .hbm, ⟨1, _⟩ => ⟨S2048, .f32⟩
  | .hbm, ⟨2, _⟩ => ⟨S8x6x2048, .f32⟩
  | .hbm, ⟨3, _⟩ => ⟨S2048x3072, .f32⟩
  | .hbm, ⟨4, _⟩ => ⟨S2x8192x2048, .f32⟩
  | .hbm, ⟨5, _⟩ => ⟨S2x8192x2048, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x2048, .f32⟩
  | .hbm, ⟨17, _⟩ => ⟨S2x8192x2048, .f32⟩
  | .hbm, ⟨18, _⟩ => ⟨S1x1x2048, .f32⟩
  | .hbm, ⟨19, _⟩ => ⟨S2x8192x2048, .f32⟩
  | .hbm, ⟨20, _⟩ => ⟨S2x8192x2048, .f32⟩
  | .hbm, ⟨21, _⟩ => ⟨S2x1x2048, .f32⟩
  | .hbm, ⟨22, _⟩ => ⟨S2x2048, .f32⟩
  | .hbm, ⟨23, _⟩ => ⟨S2x1x2048, .f32⟩
  | .hbm, ⟨24, _⟩ => ⟨S2x1x2048, .f32⟩
  | .hbm, ⟨25, _⟩ => ⟨S2x2048, .f32⟩
  | .hbm, ⟨26, _⟩ => ⟨S2x1x2048, .f32⟩
  | .hbm, ⟨27, _⟩ => ⟨S_, .f32⟩
  | .hbm, ⟨28, _⟩ => ⟨S2x1x2048, .f32⟩
  | .hbm, ⟨29, _⟩ => ⟨S2x1x2048, .f32⟩
  | .hbm, ⟨30, _⟩ => ⟨S2x8192x2048, .f32⟩
  | .hbm, ⟨31, _⟩ => ⟨S2x8192x2048, .f32⟩
  | .hbm, ⟨32, _⟩ => ⟨S2x8192x2048, .f32⟩
  | .hbm, ⟨33, _⟩ => ⟨S2x8192x2048, .f32⟩
  | .hbm, ⟨34, _⟩ => ⟨S2x256x2048, .f32⟩
  | .hbm, ⟨35, _⟩ => ⟨S2x256x2048, .f32⟩
  | .hbm, ⟨36, _⟩ => ⟨S_, .f32⟩
  | .hbm, ⟨37, _⟩ => ⟨S2x256, .f32⟩
  | .hbm, ⟨38, _⟩ => ⟨S2x256x1, .f32⟩
  | .hbm, ⟨39, _⟩ => ⟨S_, .f32⟩
  | .hbm, ⟨40, _⟩ => ⟨S2x256x1, .f32⟩
  | .hbm, ⟨41, _⟩ => ⟨S2x256x1, .f32⟩
  | .hbm, ⟨42, _⟩ => ⟨S_, .f32⟩
  | .hbm, ⟨43, _⟩ => ⟨S2x256x1, .f32⟩
  | .hbm, ⟨44, _⟩ => ⟨S2x256x1, .f32⟩
  | .hbm, ⟨45, _⟩ => ⟨S2x256x1, .f32⟩
  | .hbm, ⟨46, _⟩ => ⟨S2x256x2048, .f32⟩
  | .hbm, ⟨47, _⟩ => ⟨S2x256x2048, .f32⟩
  | .hbm, ⟨48, _⟩ => ⟨S1x1x2048, .f32⟩
  | .hbm, ⟨49, _⟩ => ⟨S2x256x2048, .f32⟩
  | .hbm, ⟨50, _⟩ => ⟨S2x256x2048, .f32⟩
  | .hbm, ⟨51, _⟩ => ⟨S1x1x2048, .f32⟩
  | .hbm, ⟨52, _⟩ => ⟨S2048, .f32⟩
  | .hbm, ⟨53, _⟩ => ⟨S1x1x2048, .f32⟩
  | .hbm, ⟨54, _⟩ => ⟨S2048, .f32⟩
  | .hbm, ⟨55, _⟩ => ⟨S_, .f32⟩
  | .hbm, ⟨56, _⟩ => ⟨S2048, .f32⟩
  | .hbm, ⟨57, _⟩ => ⟨S2048, .f32⟩
  | .hbm, ⟨58, _⟩ => ⟨S1x1x2048, .f32⟩
  | .hbm, ⟨59, _⟩ => ⟨S2x256x2048, .f32⟩
  | .hbm, ⟨60, _⟩ => ⟨S2x256x2048, .f32⟩
  | .hbm, ⟨61, _⟩ => ⟨S1x1x2048, .f32⟩
  | .hbm, ⟨62, _⟩ => ⟨S2x256x2048, .f32⟩
  | .hbm, ⟨63, _⟩ => ⟨S2x256x2048, .f32⟩
  | .hbm, ⟨64, _⟩ => ⟨S2x8448x2048, .f32⟩
  | .hbm, ⟨65, _⟩ => ⟨S2x8448x3072, .f32⟩
  | _, _ => ⟨S2x8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩

abbrev nD : Nat := 1
abbrev τ : Topo := Topo.v7x

variable {F : FTy → Type} [FloatOps F]
-- ==== Kernel5.lean ====
abbrev S2x8448x2048 : Shape := ⟨3, ![2, 8448, 2048]⟩
abbrev S2048x2048 : Shape := ⟨2, ![2048, 2048]⟩
abbrev S8x6x2048 : Shape := ⟨3, ![8, 6, 2048]⟩
abbrev S8x1x2048 : Shape := ⟨3, ![8, 1, 2048]⟩
abbrev S1x768x2048 : Shape := ⟨3, ![1, 768, 2048]⟩
abbrev S2048x512 : Shape := ⟨2, ![2048, 512]⟩
abbrev S1x768x512 : Shape := ⟨3, ![1, 768, 512]⟩
abbrev S8x1x512 : Shape := ⟨3, ![8, 1, 512]⟩
abbrev S768x1 : Shape := ⟨2, ![768, 1]⟩
abbrev S1x1x512 : Shape := ⟨3, ![1, 1, 512]⟩
abbrev S1x512 : Shape := ⟨2, ![1, 512]⟩
abbrev S768x512 : Shape := ⟨2, ![768, 512]⟩
abbrev S768x2048 : Shape := ⟨2, ![768, 2048]⟩

abbrev nBuf : Space → Nat
  | .hbm => 7
  | .vmem => 10
  | .smem => 0
  | _ => 0

abbrev bufTy : (tb : Table) → Fin (tcTables nBuf tb) → BufTy
  | .hbm, ⟨0, _⟩ => ⟨S2x8448x2048, .bf16⟩
  | .hbm, ⟨1, _⟩ => ⟨S2048x2048, .f32⟩
  | .hbm, ⟨2, _⟩ => ⟨S2x8448x2048, .f32⟩
  | .hbm, ⟨3, _⟩ => ⟨S8x6x2048, .f32⟩
  | .hbm, ⟨4, _⟩ => ⟨S2048x2048, .bf16⟩
  | .hbm, ⟨5, _⟩ => ⟨S8x1x2048, .f32⟩
  | .hbm, ⟨6, _⟩ => ⟨S2x8448x2048, .f32⟩
  | .local _ .vmem, ⟨0, _⟩ => ⟨S1x768x2048, .bf16⟩
  | .local _ .vmem, ⟨1, _⟩ => ⟨S1x768x2048, .bf16⟩
  | .local _ .vmem, ⟨2, _⟩ => ⟨S2048x512, .bf16⟩
  | .local _ .vmem, ⟨3, _⟩ => ⟨S2048x512, .bf16⟩
  | .local _ .vmem, ⟨4, _⟩ => ⟨S1x768x512, .f32⟩
  | .local _ .vmem, ⟨5, _⟩ => ⟨S1x768x512, .f32⟩
  | .local _ .vmem, ⟨6, _⟩ => ⟨S8x1x512, .f32⟩
  | .local _ .vmem, ⟨7, _⟩ => ⟨S8x1x512, .f32⟩
  | .local _ .vmem, ⟨8, _⟩ => ⟨S1x768x512, .f32⟩
  | .local _ .vmem, ⟨9, _⟩ => ⟨S1x768x512, .f32⟩
  | _, _ => ⟨S2x8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 11, 4], ![false, false, false]⟩

def k0_off1 (i : grid0.Coords) : Fin 3 → Nat :=
  let arg0 : BitVec 32 := BitVec.ofNat 32 (i 0).val
  let v8 : Index := Scalar.indexCast arg0
  let c0_1 : Index := 0#32
  let c0_2 : Index := 0#32
  ![v8.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference5Ideal.lean ====
abbrev S2x8448x2048 : Shape := ⟨3, ![2, 8448, 2048]⟩
abbrev S2048x2048 : Shape := ⟨2, ![2048, 2048]⟩
abbrev S8x6x2048 : Shape := ⟨3, ![8, 6, 2048]⟩
abbrev S2x8192x2048 : Shape := ⟨3, ![2, 8192, 2048]⟩
abbrev S2x1x2048 : Shape := ⟨3, ![2, 1, 2048]⟩
abbrev S2x2048 : Shape := ⟨2, ![2, 2048]⟩
abbrev S2x256x2048 : Shape := ⟨3, ![2, 256, 2048]⟩
abbrev S1x1x2048 : Shape := ⟨3, ![1, 1, 2048]⟩
abbrev S2048 : Shape := ⟨1, ![2048]⟩

abbrev nBuf : Space → Nat
  | .hbm => 23
  | .vmem => 0
  | .smem => 0
  | _ => 0

abbrev bufTy : (tb : Table) → Fin (tcTables nBuf tb) → BufTy
  | .hbm, ⟨0, _⟩ => ⟨S2x8448x2048, .bf16⟩
  | .hbm, ⟨1, _⟩ => ⟨S2048x2048, .f32⟩
  | .hbm, ⟨2, _⟩ => ⟨S2x8448x2048, .f32⟩
  | .hbm, ⟨3, _⟩ => ⟨S8x6x2048, .f32⟩
  | .hbm, ⟨4, _⟩ => ⟨S2x8448x2048, .f32⟩
  | .hbm, ⟨5, _⟩ => ⟨S2x8448x2048, .f32⟩
  | .hbm, ⟨6, _⟩ => ⟨S2x8192x2048, .f32⟩
  | .hbm, ⟨7, _⟩ => ⟨S2x1x2048, .f32⟩
  | .hbm, ⟨8, _⟩ => ⟨S2x2048, .f32⟩
  | .hbm, ⟨9, _⟩ => ⟨S2x1x2048, .f32⟩
  | .hbm, ⟨10, _⟩ => ⟨S2x8192x2048, .f32⟩
  | .hbm, ⟨11, _⟩ => ⟨S2x8192x2048, .f32⟩
  | .hbm, ⟨12, _⟩ => ⟨S2x8192x2048, .f32⟩
  | .hbm, ⟨13, _⟩ => ⟨S2x8192x2048, .f32⟩
  | .hbm, ⟨14, _⟩ => ⟨S2x256x2048, .f32⟩
  | .hbm, ⟨15, _⟩ => ⟨S1x1x2048, .f32⟩
  | .hbm, ⟨16, _⟩ => ⟨S2048, .f32⟩
  | .hbm, ⟨17, _⟩ => ⟨S2x256x2048, .f32⟩
  | .hbm, ⟨18, _⟩ => ⟨S1x1x2048, .f32⟩
  | .hbm, ⟨19, _⟩ => ⟨S2x256x2048, .f32⟩
  | .hbm, ⟨20, _⟩ => ⟨S2x256x2048, .f32⟩
  | .hbm, ⟨21, _⟩ => ⟨S2x256x2048, .f32⟩
  | .hbm, ⟨22, _⟩ => ⟨S2x8448x2048, .f32⟩
  | _, _ => ⟨S2x8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== Kernel6.lean ====
abbrev S2x8448x2048 : Shape := ⟨3, ![2, 8448, 2048]⟩
abbrev S2048 : Shape := ⟨1, ![2048]⟩
abbrev S8x6x2048 : Shape := ⟨3, ![8, 6, 2048]⟩
abbrev S2048x2048 : Shape := ⟨2, ![2048, 2048]⟩
abbrev S1x2048 : Shape := ⟨2, ![1, 2048]⟩
abbrev S1x384x2048 : Shape := ⟨3, ![1, 384, 2048]⟩
abbrev S2048x512 : Shape := ⟨2, ![2048, 512]⟩
abbrev S1x384x512 : Shape := ⟨3, ![1, 384, 512]⟩
abbrev S384x2048 : Shape := ⟨2, ![384, 2048]⟩
abbrev S384x1 : Shape := ⟨2, ![384, 1]⟩
abbrev S1x1x2048 : Shape := ⟨3, ![1, 1, 2048]⟩
abbrev S384 : Shape := ⟨1, ![384]⟩
abbrev S384x512 : Shape := ⟨2, ![384, 512]⟩

abbrev nBuf : Space → Nat
  | .hbm => 8
  | .vmem => 11
  | .smem => 0
  | _ => 0

abbrev bufTy : (tb : Table) → Fin (tcTables nBuf tb) → BufTy
  | .hbm, ⟨0, _⟩ => ⟨S2x8448x2048, .f32⟩
  | .hbm, ⟨1, _⟩ => ⟨S2048, .f32⟩
  | .hbm, ⟨2, _⟩ => ⟨S8x6x2048, .f32⟩
  | .hbm, ⟨3, _⟩ => ⟨S2048x2048, .f32⟩
  | .hbm, ⟨4, _⟩ => ⟨S2048x2048, .bf16⟩
  | .hbm, ⟨5, _⟩ => ⟨S1x2048, .f32⟩
  | .hbm, ⟨6, _⟩ => ⟨S2x8448x2048, .bf16⟩
  | .hbm, ⟨7, _⟩ => ⟨S2x8448x2048, .f32⟩
  | .local _ .vmem, ⟨0, _⟩ => ⟨S1x384x2048, .f32⟩
  | .local _ .vmem, ⟨1, _⟩ => ⟨S1x384x2048, .f32⟩
  | .local _ .vmem, ⟨2, _⟩ => ⟨S1x2048, .f32⟩
  | .local _ .vmem, ⟨3, _⟩ => ⟨S8x6x2048, .f32⟩
  | .local _ .vmem, ⟨4, _⟩ => ⟨S2048x512, .bf16⟩
  | .local _ .vmem, ⟨5, _⟩ => ⟨S2048x512, .bf16⟩
  | .local _ .vmem, ⟨6, _⟩ => ⟨S1x384x2048, .bf16⟩
  | .local _ .vmem, ⟨7, _⟩ => ⟨S1x384x2048, .bf16⟩
  | .local _ .vmem, ⟨8, _⟩ => ⟨S1x384x512, .f32⟩
  | .local _ .vmem, ⟨9, _⟩ => ⟨S1x384x512, .f32⟩
  | .local _ .vmem, ⟨10, _⟩ => ⟨S384x2048, .bf16⟩
  | _, _ => ⟨S2x8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 22, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let v16 : Index := Scalar.indexCast arg0
  let c3 : Index := 3#32
  let c0_7 : Index := 0#32
  ![v16.toNat, 3, 0]
def k0_off2 (i : grid0.Coords) : Fin 3 → Nat :=
  let arg0 : BitVec 32 := BitVec.ofNat 32 (i 0).val
  let v28 : Index := Scalar.indexCast arg0
  let c4 : Index := 4#32
  let c0_10 : Index := 0#32
  ![v28.toNat, 4, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S8x6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x384x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x384x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference6Ideal.lean ====
abbrev S2x8448x2048 : Shape := ⟨3, ![2, 8448, 2048]⟩
abbrev S2048 : Shape := ⟨1, ![2048]⟩
abbrev S8x6x2048 : Shape := ⟨3, ![8, 6, 2048]⟩
abbrev S2048x2048 : Shape := ⟨2, ![2048, 2048]⟩
abbrev S2x8192x2048 : Shape := ⟨3, ![2, 8192, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x1x2048 : Shape := ⟨3, ![2, 1, 2048]⟩
abbrev S2x2048 : Shape := ⟨2, ![2, 2048]⟩
abbrev S2x256x2048 : Shape := ⟨3, ![2, 256, 2048]⟩
abbrev S2x256 : Shape := ⟨2, ![2, 256]⟩
abbrev S2x256x1 : Shape := ⟨3, ![2, 256, 1]⟩

abbrev nBuf : Space → Nat
  | .hbm => 67
  | .vmem => 0
  | .smem => 0
  | _ => 0

abbrev bufTy : (tb : Table) → Fin (tcTables nBuf tb) → BufTy
  | .hbm, ⟨0, _⟩ => ⟨S2x8448x2048, .f32⟩
  | .hbm, ⟨1, _⟩ => ⟨S2048, .f32⟩
  | .hbm, ⟨2, _⟩ => ⟨S8x6x2048, .f32⟩
  | .hbm, ⟨3, _⟩ => ⟨S2048x2048, .f32⟩
  | .hbm, ⟨4, _⟩ => ⟨S2x8192x2048, .f32⟩
  | .hbm, ⟨5, _⟩ => ⟨S2x8192x2048, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x2048, .f32⟩
  | .hbm, ⟨17, _⟩ => ⟨S2x8192x2048, .f32⟩
  | .hbm, ⟨18, _⟩ => ⟨S1x1x2048, .f32⟩
  | .hbm, ⟨19, _⟩ => ⟨S2x8192x2048, .f32⟩
  | .hbm, ⟨20, _⟩ => ⟨S2x8192x2048, .f32⟩
  | .hbm, ⟨21, _⟩ => ⟨S2x1x2048, .f32⟩
  | .hbm, ⟨22, _⟩ => ⟨S2x2048, .f32⟩
  | .hbm, ⟨23, _⟩ => ⟨S2x1x2048, .f32⟩
  | .hbm, ⟨24, _⟩ => ⟨S2x1x2048, .f32⟩
  | .hbm, ⟨25, _⟩ => ⟨S2x2048, .f32⟩
  | .hbm, ⟨26, _⟩ => ⟨S2x1x2048, .f32⟩
  | .hbm, ⟨27, _⟩ => ⟨S_, .f32⟩
  | .hbm, ⟨28, _⟩ => ⟨S2x1x2048, .f32⟩
  | .hbm, ⟨29, _⟩ => ⟨S2x1x2048, .f32⟩
  | .hbm, ⟨30, _⟩ => ⟨S2x8192x2048, .f32⟩
  | .hbm, ⟨31, _⟩ => ⟨S2x8192x2048, .f32⟩
  | .hbm, ⟨32, _⟩ => ⟨S2x8192x2048, .f32⟩
  | .hbm, ⟨33, _⟩ => ⟨S2x8192x2048, .f32⟩
  | .hbm, ⟨34, _⟩ => ⟨S2x256x2048, .f32⟩
  | .hbm, ⟨35, _⟩ => ⟨S2x256x2048, .f32⟩
  | .hbm, ⟨36, _⟩ => ⟨S_, .f32⟩
  | .hbm, ⟨37, _⟩ => ⟨S2x256, .f32⟩
  | .hbm, ⟨38, _⟩ => ⟨S2x256x1, .f32⟩
  | .hbm, ⟨39, _⟩ => ⟨S_, .f32⟩
  | .hbm, ⟨40, _⟩ => ⟨S2x256x1, .f32⟩
  | .hbm, ⟨41, _⟩ => ⟨S2x256x1, .f32⟩
  | .hbm, ⟨42, _⟩ => ⟨S_, .f32⟩
  | .hbm, ⟨43, _⟩ => ⟨S2x256x1, .f32⟩
  | .hbm, ⟨44, _⟩ => ⟨S2x256x1, .f32⟩
  | .hbm, ⟨45, _⟩ => ⟨S2x256x1, .f32⟩
  | .hbm, ⟨46, _⟩ => ⟨S2x256x2048, .f32⟩
  | .hbm, ⟨47, _⟩ => ⟨S2x256x2048, .f32⟩
  | .hbm, ⟨48, _⟩ => ⟨S1x1x2048, .f32⟩
  | .hbm, ⟨49, _⟩ => ⟨S2x256x2048, .f32⟩
  | .hbm, ⟨50, _⟩ => ⟨S2x256x2048, .f32⟩
  | .hbm, ⟨51, _⟩ => ⟨S1x1x2048, .f32⟩
  | .hbm, ⟨52, _⟩ => ⟨S2048, .f32⟩
  | .hbm, ⟨53, _⟩ => ⟨S1x1x2048, .f32⟩
  | .hbm, ⟨54, _⟩ => ⟨S2048, .f32⟩
  | .hbm, ⟨55, _⟩ => ⟨S_, .f32⟩
  | .hbm, ⟨56, _⟩ => ⟨S2048, .f32⟩
  | .hbm, ⟨57, _⟩ => ⟨S2048, .f32⟩
  | .hbm, ⟨58, _⟩ => ⟨S1x1x2048, .f32⟩
  | .hbm, ⟨59, _⟩ => ⟨S2x256x2048, .f32⟩
  | .hbm, ⟨60, _⟩ => ⟨S2x256x2048, .f32⟩
  | .hbm, ⟨61, _⟩ => ⟨S1x1x2048, .f32⟩
  | .hbm, ⟨62, _⟩ => ⟨S2x256x2048, .f32⟩
  | .hbm, ⟨63, _⟩ => ⟨S2x256x2048, .f32⟩
  | .hbm, ⟨64, _⟩ => ⟨S2x8448x2048, .f32⟩
  | .hbm, ⟨65, _⟩ => ⟨S2x8448x2048, .bf16⟩
  | .hbm, ⟨66, _⟩ => ⟨S2x8448x2048, .f32⟩
  | _, _ => ⟨S2x8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]
-- ==== Kernel7.lean ====
abbrev S2x8448x2048 : Shape := ⟨3, ![2, 8448, 2048]⟩
abbrev S2048 : Shape := ⟨1, ![2048]⟩
abbrev S1x2048 : Shape := ⟨2, ![1, 2048]⟩
abbrev S2x8192x2048 : Shape := ⟨3, ![2, 8192, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S2x8448x2048, .f32⟩
  | .hbm, ⟨1, _⟩ => ⟨S2048, .f32⟩
  | .hbm, ⟨2, _⟩ => ⟨S1x2048, .f32⟩
  | .hbm, ⟨3, _⟩ => ⟨S2x8192x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S1x256x2048, .f32⟩
  | .local _ .vmem, ⟨4, _⟩ => ⟨S1x256x2048, .f32⟩
  | _, _ => ⟨S2x8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2x8448x2048 : Shape := ⟨3, ![2, 8448, 2048]⟩
abbrev S2048 : Shape := ⟨1, ![2048]⟩
abbrev S2x8192x2048 : Shape := ⟨3, ![2, 8192, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2x8448x2048, .f32⟩
  | .hbm, ⟨1, _⟩ => ⟨S2048, .f32⟩
  | .hbm, ⟨2, _⟩ => ⟨S2x8192x2048, .f32⟩
  | .hbm, ⟨3, _⟩ => ⟨S2x8192x2048, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x2048, .f32⟩
  | .hbm, ⟨15, _⟩ => ⟨S2x8192x2048, .f32⟩
  | .hbm, ⟨16, _⟩ => ⟨S1x1x2048, .f32⟩
  | .hbm, ⟨17, _⟩ => ⟨S2x8192x2048, .f32⟩
  | .hbm, ⟨18, _⟩ => ⟨S2x8192x2048, .f32⟩
  | _, _ => ⟨S2x8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel8.lean ====
abbrev S2x8448x1024 : Shape := ⟨3, ![2, 8448, 1024]⟩
abbrev S2x8448x5120 : Shape := ⟨3, ![2, 8448, 5120]⟩
abbrev S128 : Shape := ⟨1, ![128]⟩
abbrev S1x128 : Shape := ⟨2, ![1, 128]⟩
abbrev S2x8448x2048 : Shape := ⟨3, ![2, 8448, 2048]⟩
abbrev S1x256x1024 : Shape := ⟨3, ![1, 256, 1024]⟩
abbrev S1x256x2048 : Shape := ⟨3, ![1, 256, 2048]⟩
abbrev S256x1024 : Shape := ⟨2, ![256, 1024]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S2x8448x1024, .f32⟩
  | .hbm, ⟨1, _⟩ => ⟨S2x8448x1024, .f32⟩
  | .hbm, ⟨2, _⟩ => ⟨S2x8448x5120, .f32⟩
  | .hbm, ⟨3, _⟩ => ⟨S2x8448x1024, .bf16⟩
  | .hbm, ⟨4, _⟩ => ⟨S128, .f32⟩
  | .hbm, ⟨5, _⟩ => ⟨S1x128, .f32⟩
  | .hbm, ⟨6, _⟩ => ⟨S2x8448x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .bf16⟩
  | .local _ .vmem, ⟨7, _⟩ => ⟨S1x256x1024, .bf16⟩
  | .local _ .vmem, ⟨8, _⟩ => ⟨S1x128, .f32⟩
  | .local _ .vmem, ⟨9, _⟩ => ⟨S1x256x2048, .bf16⟩
  | .local _ .vmem, ⟨10, _⟩ => ⟨S1x256x2048, .bf16⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S2x8448x1024 : Shape := ⟨3, ![2, 8448, 1024]⟩
abbrev S2x8448x5120 : Shape := ⟨3, ![2, 8448, 5120]⟩
abbrev S128 : Shape := ⟨1, ![128]⟩
abbrev S2x8448x8x128 : Shape := ⟨4, ![2, 8448, 8, 128]⟩
abbrev S_ : Shape := ⟨0, ![]⟩
abbrev S2x8448x8 : Shape := ⟨3, ![2, 8448, 8]⟩
abbrev S2x8448x8x1 : Shape := ⟨4, ![2, 8448, 8, 1]⟩
abbrev S1x1x1x128 : Shape := ⟨4, ![1, 1, 1, 128]⟩
abbrev S2x8448x2048 : Shape := ⟨3, ![2, 8448, 2048]⟩

abbrev nBuf : Space → Nat
  | .hbm => 37
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S2x8448x1024, .f32⟩
  | .hbm, ⟨2, _⟩ => ⟨S2x8448x5120, .f32⟩
  | .hbm, ⟨3, _⟩ => ⟨S2x8448x1024, .bf16⟩
  | .hbm, ⟨4, _⟩ => ⟨S128, .f32⟩
  | .hbm, ⟨5, _⟩ => ⟨S2x8448x1024, .f32⟩
  | .hbm, ⟨6, _⟩ => ⟨S2x8448x1024, .f32⟩
  | .hbm, ⟨7, _⟩ => ⟨S2x8448x8x128, .f32⟩
  | .hbm, ⟨8, _⟩ => ⟨S2x8448x8x128, .f32⟩
  | .hbm, ⟨9, _⟩ => ⟨S_, .f32⟩
  | .hbm, ⟨10, _⟩ => ⟨S2x8448x8, .f32⟩
  | .hbm, ⟨11, _⟩ => ⟨S2x8448x8x1, .f32⟩
  | .hbm, ⟨12, _⟩ => ⟨S_, .f32⟩
  | .hbm, ⟨13, _⟩ => ⟨S2x8448x8x1, .f32⟩
  | .hbm, ⟨14, _⟩ => ⟨S2x8448x8x1, .f32⟩
  | .hbm, ⟨15, _⟩ => ⟨S_, .f32⟩
  | .hbm, ⟨16, _⟩ => ⟨S2x8448x8x1, .f32⟩
  | .hbm, ⟨17, _⟩ => ⟨S2x8448x8x1, .f32⟩
  | .hbm, ⟨18, _⟩ => ⟨S2x8448x8x1, .f32⟩
  | .hbm, ⟨19, _⟩ => ⟨S2x8448x8x128, .f32⟩
  | .hbm, ⟨20, _⟩ => ⟨S2x8448x8x128, .f32⟩
  | .hbm, ⟨21, _⟩ => ⟨S1x1x1x128, .f32⟩
  | .hbm, ⟨22, _⟩ => ⟨S2x8448x8x128, .f32⟩
  | .hbm, ⟨23, _⟩ => ⟨S2x8448x8x128, .f32⟩
  | .hbm, ⟨24, _⟩ => ⟨S2x8448x1024, .f32⟩
  | .hbm, ⟨25, _⟩ => ⟨S2x8448x1024, .f32⟩
  | .hbm, ⟨26, _⟩ => ⟨S2x8448x1024, .f32⟩
  | .hbm, ⟨27, _⟩ => ⟨S_, .f32⟩
  | .hbm, ⟨28, _⟩ => ⟨S2x8448x1024, .f32⟩
  | .hbm, ⟨29, _⟩ => ⟨S2x8448x1024, .f32⟩
  | .hbm, ⟨30, _⟩ => ⟨S_, .f32⟩
  | .hbm, ⟨31, _⟩ => ⟨S2x8448x1024, .f32⟩
  | .hbm, ⟨32, _⟩ => ⟨S2x8448x1024, .f32⟩
  | .hbm, ⟨33, _⟩ => ⟨S2x8448x1024, .f32⟩
  | .hbm, ⟨34, _⟩ => ⟨S2x8448x1024, .f32⟩
  | .hbm, ⟨35, _⟩ => ⟨S2x8448x1024, .bf16⟩
  | .hbm, ⟨36, _⟩ => ⟨S2x8448x2048, .bf16⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== Kernel9.lean ====
abbrev S2x2048 : Shape := ⟨2, ![2, 2048]⟩
abbrev S2048 : Shape := ⟨1, ![2048]⟩
abbrev S4x2048x12288 : Shape := ⟨3, ![4, 2048, 12288]⟩
abbrev S4x12288 : Shape := ⟨2, ![4, 12288]⟩
abbrev S_ : Shape := ⟨0, ![]⟩
abbrev S8x2048 : Shape := ⟨2, ![8, 2048]⟩
abbrev S1 : Shape := ⟨1, ![1]⟩
abbrev S4x1x12288 : Shape := ⟨3, ![4, 1, 12288]⟩
abbrev S4x8x12288 : Shape := ⟨3, ![4, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 14
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S_, .f32⟩
  | .hbm, ⟨5, _⟩ => ⟨S8x2048, .f32⟩
  | .hbm, ⟨6, _⟩ => ⟨S_, .i32⟩
  | .hbm, ⟨7, _⟩ => ⟨S1, .i32⟩
  | .hbm, ⟨8, _⟩ => ⟨S8x2048, .f32⟩
  | .hbm, ⟨9, _⟩ => ⟨S_, .i32⟩
  | .hbm, ⟨10, _⟩ => ⟨S1, .i32⟩
  | .hbm, ⟨11, _⟩ => ⟨S8x2048, .f32⟩
  | .hbm, ⟨12, _⟩ => ⟨S4x1x12288, .f32⟩
  | .hbm, ⟨13, _⟩ => ⟨S4x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S2x2048 : Shape := ⟨2, ![2, 2048]⟩
abbrev S2048 : Shape := ⟨1, ![2048]⟩
abbrev S4x2048x12288 : Shape := ⟨3, ![4, 2048, 12288]⟩
abbrev S4x12288 : Shape := ⟨2, ![4, 12288]⟩
abbrev S1x2048 : Shape := ⟨2, ![1, 2048]⟩
abbrev S_ : Shape := ⟨0, ![]⟩
abbrev S5x2048 : Shape := ⟨2, ![5, 2048]⟩
abbrev S8x2048 : Shape := ⟨2, ![8, 2048]⟩
abbrev S4x12288x8 : Shape := ⟨3, ![4, 12288, 8]⟩
abbrev S4x8x12288 : Shape := ⟨3, ![4, 8, 12288]⟩
abbrev S4x1x12288 : Shape := ⟨3, ![4, 1, 12288]⟩

abbrev nBuf : Space → Nat
  | .hbm => 22
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2048, .f32⟩
  | .hbm, ⟨2, _⟩ => ⟨S4x2048x12288, .f32⟩
  | .hbm, ⟨3, _⟩ => ⟨S4x12288, .f32⟩
  | .hbm, ⟨4, _⟩ => ⟨S1x2048, .f32⟩
  | .hbm, ⟨5, _⟩ => ⟨S_, .f32⟩
  | .hbm, ⟨6, _⟩ => ⟨S5x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S4x12288x8, .f32⟩
  | .hbm, ⟨18, _⟩ => ⟨S4x8x12288, .f32⟩
  | .hbm, ⟨19, _⟩ => ⟨S4x1x12288, .f32⟩
  | .hbm, ⟨20, _⟩ => ⟨S4x8x12288, .f32⟩
  | .hbm, ⟨21, _⟩ => ⟨S4x8x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel10.lean ====
abbrev S2x8192x2048 : Shape := ⟨3, ![2, 8192, 2048]⟩
abbrev S2x256x2048 : Shape := ⟨3, ![2, 256, 2048]⟩
abbrev S128 : Shape := ⟨1, ![128]⟩
abbrev S128x64 : Shape := ⟨2, ![128, 64]⟩
abbrev S8192 : Shape := ⟨1, ![8192]⟩
abbrev S8192x1 : Shape := ⟨2, ![8192, 1]⟩
abbrev S64 : Shape := ⟨1, ![64]⟩
abbrev S1x64 : Shape := ⟨2, ![1, 64]⟩
abbrev S512 : Shape := ⟨1, ![512]⟩
abbrev S_ : Shape := ⟨0, ![]⟩
abbrev S1x512 : Shape := ⟨2, ![1, 512]⟩
abbrev S8192x512 : Shape := ⟨2, ![8192, 512]⟩
abbrev S8192x2048 : Shape := ⟨2, ![8192, 2048]⟩
abbrev S2x8448x2048 : Shape := ⟨3, ![2, 8448, 2048]⟩
abbrev S1x256x2048 : Shape := ⟨3, ![1, 256, 2048]⟩
abbrev S256x2048 : Shape := ⟨2, ![256, 2048]⟩

abbrev nBuf : Space → Nat
  | .hbm => 37
  | .vmem => 8
  | .smem => 0
  | _ => 0

abbrev bufTy : (tb : Table) → Fin (tcTables nBuf tb) → BufTy
  | .hbm, ⟨0, _⟩ => ⟨S2x8192x2048, .f32⟩
  | .hbm, ⟨1, _⟩ => ⟨S2x256x2048, .f32⟩
  | .hbm, ⟨2, _⟩ => ⟨S128, .i32⟩
  | .hbm, ⟨3, _⟩ => ⟨S128x64, .i32⟩
  | .hbm, ⟨4, _⟩ => ⟨S8192, .i32⟩
  | .hbm, ⟨5, _⟩ => ⟨S8192, .f32⟩
  | .hbm, ⟨6, _⟩ => ⟨S8192x1, .f32⟩
  | .hbm, ⟨7, _⟩ => ⟨S64, .i32⟩
  | .hbm, ⟨8, _⟩ => ⟨S1x64, .i32⟩
  | .hbm, ⟨9, _⟩ => ⟨S128x64, .i32⟩
  | .hbm, ⟨10, _⟩ => ⟨S8192, .i32⟩
  | .hbm, ⟨11, _⟩ => ⟨S8192, .f32⟩
  | .hbm, ⟨12, _⟩ => ⟨S8192x1, .f32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S_, .f32⟩
  | .hbm, ⟨18, _⟩ => ⟨S512, .f32⟩
  | .hbm, ⟨19, _⟩ => ⟨S512, .f32⟩
  | .hbm, ⟨20, _⟩ => ⟨S_, .f32⟩
  | .hbm, ⟨21, _⟩ => ⟨S512, .f32⟩
  | .hbm, ⟨22, _⟩ => ⟨S512, .f32⟩
  | .hbm, ⟨23, _⟩ => ⟨S1x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S1x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x2048, .f32⟩
  | .hbm, ⟨36, _⟩ => ⟨S2x8448x2048, .f32⟩
  | .local _ .vmem, ⟨0, _⟩ => ⟨S1x256x2048, .f32⟩
  | .local _ .vmem, ⟨1, _⟩ => ⟨S1x256x2048, .f32⟩
  | .local _ .vmem, ⟨2, _⟩ => ⟨S256x2048, .f32⟩
  | .local _ .vmem, ⟨3, _⟩ => ⟨S256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 33], ![false, false]⟩

def k0_cond1 (i : grid0.Coords) : BitVec 1 :=
  let arg1 : BitVec 32 := BitVec.ofNat 32 (i 1).val
  let c32_i32 : BitVec 32 := 32#32
  let v0 : BitVec 1 := Scalar.cmpi .slt arg1 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c32_i32_0 : BitVec 32 := 32#32
  let v3 : BitVec 1 := Scalar.cmpi .sge arg1 c32_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S2x8192x2048 : Shape := ⟨3, ![2, 8192, 2048]⟩
abbrev S2x256x2048 : Shape := ⟨3, ![2, 256, 2048]⟩
abbrev S128 : Shape := ⟨1, ![128]⟩
abbrev S128x64 : Shape := ⟨2, ![128, 64]⟩
abbrev S8192 : Shape := ⟨1, ![8192]⟩
abbrev S8192x1 : Shape := ⟨2, ![8192, 1]⟩
abbrev S64 : Shape := ⟨1, ![64]⟩
abbrev S1x64 : Shape := ⟨2, ![1, 64]⟩
abbrev S512 : Shape := ⟨1, ![512]⟩
abbrev S_ : Shape := ⟨0, ![]⟩
abbrev S1x512 : Shape := ⟨2, ![1, 512]⟩
abbrev S8192x512 : Shape := ⟨2, ![8192, 512]⟩
abbrev S8192x2048 : Shape := ⟨2, ![8192, 2048]⟩
abbrev S1x8192x2048 : Shape := ⟨3, ![1, 8192, 2048]⟩
abbrev S2x8448x2048 : Shape := ⟨3, ![2, 8448, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x256x2048, .f32⟩
  | .hbm, ⟨2, _⟩ => ⟨S128, .i32⟩
  | .hbm, ⟨3, _⟩ => ⟨S128x64, .i32⟩
  | .hbm, ⟨4, _⟩ => ⟨S8192, .i32⟩
  | .hbm, ⟨5, _⟩ => ⟨S8192, .f32⟩
  | .hbm, ⟨6, _⟩ => ⟨S8192x1, .f32⟩
  | .hbm, ⟨7, _⟩ => ⟨S64, .i32⟩
  | .hbm, ⟨8, _⟩ => ⟨S1x64, .i32⟩
  | .hbm, ⟨9, _⟩ => ⟨S128x64, .i32⟩
  | .hbm, ⟨10, _⟩ => ⟨S8192, .i32⟩
  | .hbm, ⟨11, _⟩ => ⟨S8192, .f32⟩
  | .hbm, ⟨12, _⟩ => ⟨S8192x1, .f32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S_, .f32⟩
  | .hbm, ⟨18, _⟩ => ⟨S512, .f32⟩
  | .hbm, ⟨19, _⟩ => ⟨S512, .f32⟩
  | .hbm, ⟨20, _⟩ => ⟨S_, .f32⟩
  | .hbm, ⟨21, _⟩ => ⟨S512, .f32⟩
  | .hbm, ⟨22, _⟩ => ⟨S512, .f32⟩
  | .hbm, ⟨23, _⟩ => ⟨S1x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S1x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x2048, .f32⟩
  | .hbm, ⟨36, _⟩ => ⟨S1x8192x2048, .f32⟩
  | .hbm, ⟨37, _⟩ => ⟨S2x8192x2048, .f32⟩
  | .hbm, ⟨38, _⟩ => ⟨S2x8192x2048, .f32⟩
  | .hbm, ⟨39, _⟩ => ⟨S2x8448x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩

abbrev nD : Nat := 1
abbrev τ : Topo := Topo.v7x

variable {F : FTy → Type} [FloatOps F]
-- ==== Kernel11.lean ====
abbrev S2x8448x1024 : Shape := ⟨3, ![2, 8448, 1024]⟩
abbrev S256x256 : Shape := ⟨2, ![256, 256]⟩
abbrev S2x256x1024 : Shape := ⟨3, ![2, 256, 1024]⟩
abbrev S1x256x1024 : Shape := ⟨3, ![1, 256, 1024]⟩
abbrev S256x1024 : Shape := ⟨2, ![256, 1024]⟩
abbrev S1x256x256 : Shape := ⟨3, ![1, 256, 256]⟩

abbrev nBuf : Space → Nat
  | .hbm => 10
  | .vmem => 8
  | .smem => 0
  | _ => 0

abbrev bufTy : (tb : Table) → Fin (tcTables nBuf tb) → BufTy
  | .hbm, ⟨0, _⟩ => ⟨S2x8448x1024, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .bf16⟩
  | .hbm, ⟨6, _⟩ => ⟨S256x256, .bf16⟩
  | .hbm, ⟨7, _⟩ => ⟨S256x256, .bf16⟩
  | .hbm, ⟨8, _⟩ => ⟨S256x256, .bf16⟩
  | .hbm, ⟨9, _⟩ => ⟨S2x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S1x256x1024, .bf16⟩
  | .local _ .vmem, ⟨7, _⟩ => ⟨S1x256x1024, .bf16⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c32_i32 : BitVec 32 := 32#32
  let c0_i32 : BitVec 32 := 0#32
  let c0_i32_0 : BitVec 32 := 0#32
  ![arg0.toNat, c32_i32.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S2x8448x1024 : Shape := ⟨3, ![2, 8448, 1024]⟩
abbrev S256x256 : Shape := ⟨2, ![256, 256]⟩
abbrev S2x256x1024 : Shape := ⟨3, ![2, 256, 1024]⟩
abbrev S2x256x4x256 : Shape := ⟨4, ![2, 256, 4, 256]⟩
abbrev S2x4x256x256 : Shape := ⟨4, ![2, 4, 256, 256]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S2x256x1024, .f32⟩
  | .hbm, ⟨6, _⟩ => ⟨S2x256x4x256, .f32⟩
  | .hbm, ⟨7, _⟩ => ⟨S2x4x256x256, .f32⟩
  | .hbm, ⟨8, _⟩ => ⟨S2x256x4x256, .f32⟩
  | .hbm, ⟨9, _⟩ => ⟨S2x4x256x256, .f32⟩
  | .hbm, ⟨10, _⟩ => ⟨S2x256x4x256, .f32⟩
  | .hbm, ⟨11, _⟩ => ⟨S2x256x4x256, .f32⟩
  | .hbm, ⟨12, _⟩ => ⟨S2x256x4x256, .f32⟩
  | .hbm, ⟨13, _⟩ => ⟨S2x256x4x256, .f32⟩
  | .hbm, ⟨14, _⟩ => ⟨S_, .f32⟩
  | .hbm, ⟨15, _⟩ => ⟨S2x256x4x256, .f32⟩
  | .hbm, ⟨16, _⟩ => ⟨S2x256x4x256, .f32⟩
  | .hbm, ⟨17, _⟩ => ⟨S2x256x1024, .f32⟩
  | .hbm, ⟨18, _⟩ => ⟨S2x256x1024, .bf16⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Proof.Block.lean ====
/-
  The weighted activations of one block of experts, element by element.

  A grid point of the kernel handles 512 experts (four first-key rows of 128 experts each) against 384 tokens. For one
  expert and one token it adds, over the eight heads, the softmax weight `e2 · c1` of every head in which the expert is
  selected (`s2 ≥ thr`), and multiplies the sum into the GELU of the expert's pre-activation. The kernel writes the block
  in 32 strips of 16 rows; this file states the block as one function of its index (`weighted`), and shows that a strip's
  rows are the rows of that function (`strip_eq_weighted`).
-/
module

public import proofs.«01_k».proof.Proof.Gen.KernelIdeal.Frame
public import proofs.«01_k».proof.Proof.Gen.KernelIdeal.Loops
public import Idealize.ShloMosaic.Lib.ValueLayout
public import Idealize.ShloMosaic.Lib.WholeRead

@[expose] public section

set_option maxRecDepth 16384

noncomputable section

namespace Cert.KernelIdeal.Peer

open Idealize.ShloMosaic Idealize.ShloMosaic.TcCoe Idealize.ShloMosaic.ValueIdx
open Cert.KernelIdeal.Gen

variable {F : FTy → Type} [FloatOps F]

/-- One head's weight added: `e · c` where the score `s` reaches the threshold `t`, zero elsewhere. -/
def headStep (acc t c s e : F .f32) : F .f32 :=
  FloatOps.addf acc (FloatOps.mulf (Scalar.select (FloatOps.cmpf .oge s t) e (FloatOps.ofBits .f32 0x00000000#32)) c)

/-- The eight heads' weights added, from zero, in the order of the heads. -/
def headSum (t c s e : Fin 8 → F .f32) : F .f32 :=
  headStep (headStep (headStep (headStep (headStep (headStep (headStep (headStep (FloatOps.ofBits .f32 0x00000000#32)
    (t 0) (c 0) (s 0) (e 0)) (t 1) (c 1) (s 1) (e 1)) (t 2) (c 2) (s 2) (e 2)) (t 3) (c 3) (s 3) (e 3))
    (t 4) (c 4) (s 4) (e 4)) (t 5) (c 5) (s 5) (e 5)) (t 6) (c 6) (s 6) (e 6)) (t 7) (c 7) (s 7) (e 7)

/-- GELU by the error function: `x/2 · (1 + erf (x · 2^(-1/2)))`, with the constants' binary32 words. -/
def gelu (x : F .f32) : F .f32 :=
  FloatOps.mulf (FloatOps.mulf (FloatOps.ofBits .f32 0x3F000000#32) x)
    (FloatOps.addf (FloatOps.ofBits .f32 0x3F800000#32) (FloatOps.erf (FloatOps.mulf x (FloatOps.ofBits .f32 0x3F3504F3#32))))

/-- The activation of one expert at one token, weighted by the heads, as bf16. -/
def act (x : F .f32) (t c s e : Fin 8 → F .f32) : F .bf16 :=
  FloatOps.truncf .bf16 bitsLt_bf16_f32 (FloatOps.mulf (gelu x) (headSum t c s e))

/-- One strip of 16 rows: the thresholds and first-key weights are one row per head, the second-key scores and weights 16
rows per head. -/
def strip (t c : Fin 8 → FVec F S1x384 .f32) (s e : Fin 8 → Vec F S1x16x384 .f32) (x : Vec F S16x384 .f32) :
    FVec F S16x384 .bf16 :=
  k0_pay44
    (k0_pay5 (t 5) (t 6) (c 5) (c 6)
      (k0_pay4 (t 2) (t 3) (t 4) (c 2) (c 3) (c 4) (k0_pay2 (t 0) (t 1) (c 0) (c 1) (s 0) (e 0) (s 1) (e 1))
        (k0_pay3 (s 2)) (e 2) (s 3) (e 3) (s 4) (e 4))
      (s 5) (e 5) (s 6) (e 6))
    (k0_pay6 (t 7) (s 7) (e 7)) (k0_pay7 (c 7)) x

/-- A strip read at row `r`, token `l`. -/
theorem strip_apply (t c : Fin 8 → FVec F S1x384 .f32) (s e : Fin 8 → Vec F S1x16x384 .f32) (x : Vec F S16x384 .f32)
    (r : Fin 16) (l : Fin 384) :
    strip t c s e x (ix2 r l) = act (x (ix2 r l)) (fun h => t h (ix2 0 l)) (fun h => c h (ix2 0 l))
      (fun h => s h (ix3 0 r l)) (fun h => e h (ix3 0 r l)) := by
  have hb : ∀ v : FVec F S1x384 .f32, broadcastTo S16x384 v broadcasts_S1x384_S16x384 (ix2 r l) = v (ix2 0 l) :=
    fun v => broadcastTo_1b_ab_apply v _ r l
  have hs : ∀ v : Vec F S1x16x384 .f32, shapeCast S16x384 v shapeCasts_S1x16x384_S16x384 (ix2 r l) = v (ix3 0 r l) :=
    fun v => shapeCast_1ab_ab_apply v _ r l
  have hi : ∀ v : FVec F S16x384 .bf16, shapeCast S16x384 v shapeCasts_S16x384_S16x384 (ix2 r l) = v (ix2 r l) :=
    fun v => congrFun (shapeCast_self v _) _
  unfold strip k0_pay44 k0_pay5 k0_pay4 k0_pay2 k0_pay3 k0_pay6 k0_pay7
  rw [hi]
  simp only [truncf, mulf, addf, erf, select, cmpf, broadcast, hb, hs, Scalar.ofBits]
  rfl

/-- The row of a head's table a first-key row is: head `h`, first-key row `4 e + y / 128`. -/
def keyRow (e : Fin 32) (y : Fin 512) (h : Fin 8) : Fin 1024 := ⟨128 * h.val + 4 * e.val + y.val / 128, by omega⟩
/-- The row of a head's table a second-key row is: head `h`, second-key row `y % 128`. -/
def subRow (y : Fin 512) (h : Fin 8) : Fin 1024 := ⟨128 * h.val + y.val % 128, by omega⟩

/-- The block of weighted activations of the experts `512 e + y`, from the pre-activations `st` and the four tables. -/
def weighted (e : Fin 32) (st : Vec F S512x384 .f32) (t c s w : Vec F S1x1024x384 .f32) : Vec F S512x384 .bf16 :=
  fun y => act (st y) (fun h => t (ix3 0 (keyRow e (y 0) h) (y 1))) (fun h => c (ix3 0 (keyRow e (y 0) h) (y 1)))
    (fun h => s (ix3 0 (subRow (y 0) h) (y 1))) (fun h => w (ix3 0 (subRow (y 0) h) (y 1)))

/-- The strip at rows `128 s + 16 k …` is those rows of the block, where its rows of the tables are the block's: first-key
row `4 e + s` of every head, second-key rows `16 k …` of every head. -/
theorem strip_eq_weighted {e : Fin 32} {st : Vec F S512x384 .f32} {T C S W : Vec F S1x1024x384 .f32} (a : Fin 4) (k : Fin 8)
    {t c : Fin 8 → FVec F S1x384 .f32} {s w : Fin 8 → Vec F S1x16x384 .f32} {x : Vec F S16x384 .f32}
    (ht : ∀ h l, t h (ix2 0 l) = T (ix3 0 ⟨128 * h.val + 4 * e.val + a.val, by omega⟩ l))
    (hc : ∀ h l, c h (ix2 0 l) = C (ix3 0 ⟨128 * h.val + 4 * e.val + a.val, by omega⟩ l))
    (hs : ∀ h r l, s h (ix3 0 r l) = S (ix3 0 ⟨128 * h.val + 16 * k.val + r.val, by omega⟩ l))
    (hw : ∀ h r l, w h (ix3 0 r l) = W (ix3 0 ⟨128 * h.val + 16 * k.val + r.val, by omega⟩ l))
    (hx : ∀ r l, x (ix2 r l) = st (ix2 ⟨128 * a.val + 16 * k.val + r.val, by omega⟩ l))
    {off : Fin 2 → ℕ} (hoff : off = ![16 * k.val + 128 * a.val, 0]) (inb : ∀ b, off b + S16x384.size b ≤ S512x384.size b)
    (z : S16x384.Idx) : strip t c s w x z = weighted e st T C S W ((Rect.unit (s := S512x384) off S16x384.size inb).emb z) := by
  subst hoff
  obtain ⟨r, l, rfl⟩ : ∃ (r : Fin 16) (l : Fin 384), z = ix2 r l := ⟨z 0, z 1, eq_ix2 z⟩
  have hz : (Rect.unit (s := S512x384) ![16 * k.val + 128 * a.val, 0] S16x384.size inb).emb (ix2 r l)
      = ix2 (⟨128 * a.val + 16 * k.val + r.val, by omega⟩ : Fin 512) l := by
    funext b; apply Fin.ext; rw [Rect.emb_apply]
    match b with
    | ⟨0, _⟩ => show 16 * k.val + 128 * a.val + 1 * r.val = 128 * a.val + 16 * k.val + r.val; omega
    | ⟨1, _⟩ => show 0 + 1 * l.val = l.val; omega
  have hk : ∀ h : Fin 8, keyRow e (⟨128 * a.val + 16 * k.val + r.val, by omega⟩ : Fin 512) h
      = ⟨128 * h.val + 4 * e.val + a.val, by omega⟩ := fun h => Fin.ext (by simp only [keyRow]; omega)
  have hu : ∀ h : Fin 8, subRow (⟨128 * a.val + 16 * k.val + r.val, by omega⟩ : Fin 512) h
      = ⟨128 * h.val + 16 * k.val + r.val, by omega⟩ := fun h => Fin.ext (by simp only [subRow]; omega)
  rw [strip_apply, hz]
  simp only [weighted, ht, hc, hs, hw, hx]
  congr 1 <;> funext h
  · exact congrArg (fun q => T (ix3 0 q l)) (hk h).symm
  · exact congrArg (fun q => C (ix3 0 q l)) (hk h).symm
  · exact congrArg (fun q => S (ix3 0 q l)) (hu h).symm
  · exact congrArg (fun q => W (ix3 0 q l)) (hu h).symm

/-- A load of 16 rows of a table, at rows `128 h + 16 k …`. -/
theorem rows_apply {sp : Space} {v : View sig .tc sp S1x1024x384 .f32} {X : v.ty.Contents (Elt F)} {off : Fin 3 → ℕ} {n : ℕ}
    (hoff : off = ![0, n, 0]) (inb : ∀ b, off b + S1x16x384.size b ≤ S1x1024x384.size b) (r : Fin 16) (l : Fin 384)
    (hn : n + r.val < 1024) :
    v.readAt (Elt F) (Rect.unit (s := S1x1024x384) off S1x16x384.size inb).toLoadRect X (ix3 0 r l)
      = v.read (Elt F) X (ix3 0 ⟨n + r.val, hn⟩ l) := by
  subst hoff
  show v.read (Elt F) X _ = _
  congr 1
  funext b; apply Fin.ext
  match b with
  | ⟨0, _⟩ => rfl
  | ⟨1, _⟩ => show n + 1 * r.val = n + r.val; omega
  | ⟨2, _⟩ => show 0 + 1 * l.val = l.val; omega

/-- A load of one row of a table, its leading unit axis dropped. -/
theorem row_apply {sp : Space} {v : View sig .tc sp S1x1024x384 .f32} {X : v.ty.Contents (Elt F)} {off : Fin 3 → ℕ} {n : ℕ}
    (hoff : off = ![0, n, 0]) (inb : ∀ b, off b + S1x1x384.size b ≤ S1x1024x384.size b) (l : Fin 384)
    (hn : n < 1024) :
    k0_pay28 (v.readAt (Elt F) (Rect.unit (s := S1x1024x384) off S1x1x384.size inb).toLoadRect X) (ix2 0 l)
      = v.read (Elt F) X (ix3 0 ⟨n, hn⟩ l) := by
  subst hoff
  unfold k0_pay28
  rw [show shapeCast S1x384 _ shapeCasts_S1x1x384_S1x384 (ix2 0 l) = _ from shapeCast_1ab_ab_apply _ _ 0 l]
  show v.read (Elt F) X _ = _
  congr 1
  funext b; apply Fin.ext
  match b with
  | ⟨0, _⟩ => rfl
  | ⟨1, _⟩ => show n + 1 * 0 = n; omega
  | ⟨2, _⟩ => show 0 + 1 * l.val = l.val; omega

/-- A load of 16 rows of the pre-activations. -/
theorem pre_apply {sp : Space} {v : View sig .tc sp S512x384 .f32} {X : v.ty.Contents (Elt F)} {off : Fin 2 → ℕ} {a k : ℕ}
    (hoff : off = ![16 * k + 128 * a, 0]) (inb : ∀ b, off b + S16x384.size b ≤ S512x384.size b) (r : Fin 16) (l : Fin 384)
    (hn : 128 * a + 16 * k + r.val < 512) :
    v.readAt (Elt F) (Rect.unit (s := S512x384) off S16x384.size inb).toLoadRect X (ix2 r l)
      = v.read (Elt F) X (ix2 ⟨128 * a + 16 * k + r.val, hn⟩ l) := by
  subst hoff
  show v.read (Elt F) X _ = _
  congr 1
  funext b; apply Fin.ext
  match b with
  | ⟨0, _⟩ => show 16 * k + 128 * a + 1 * r.val = 128 * a + 16 * k + r.val; omega
  | ⟨1, _⟩ => show 0 + 1 * l.val = l.val; omega

/-- Row `y` of the block lies in the strip of 16 rows its first-key row and sixteenth name. -/
theorem mem_strip {off : Fin 2 → ℕ} (y : S512x384.Idx) (hoff : off = ![16 * ((y 0).val % 128 / 16) + 128 * ((y 0).val / 128), 0])
    (inb : ∀ b, off b + S16x384.size b ≤ S512x384.size b) :
    y ∈ (Rect.unit (s := S512x384) off S16x384.size inb).set := by
  subst hoff
  rw [Rect.mem_set_unit]
  have h0 : (y 0).val < 512 := (y 0).isLt
  have h1 : (y 1).val < 384 := (y 1).isLt
  intro b
  match b with
  | ⟨0, _⟩ =>
    show 16 * ((y 0).val % 128 / 16) + 128 * ((y 0).val / 128) ≤ (y 0).val
      ∧ (y 0).val < 16 * ((y 0).val % 128 / 16) + 128 * ((y 0).val / 128) + 16
    omega
  | ⟨1, _⟩ => exact ⟨Nat.zero_le _, by show (y 1).val < 0 + 384; omega⟩

/-- The strips of the four loops, last first, read back as the block, whatever the buffer held before: every strip is
the block's rows, and every row is in one of the strips. -/
theorem read_strips {sp : Space} (v : View sig .tc sp S512x384 .bf16) (f : v.ty.Contents (Elt F)) (G : Vec F S512x384 .bf16)
    (L : Fin 4 → List (View.Piece (Elt F) S512x384 .bf16))
    (hG : ∀ a, ∀ p ∈ L a, ∀ x, p.2 x = G (p.1.emb x))
    (hL : ∀ a (k : Fin 8), ∃ p ∈ L a, ∀ y : S512x384.Idx, (y 0).val / 128 = a.val → (y 0).val % 128 / 16 = k.val → y ∈ p.1.set) :
    v.read (Elt F) (v.writes (Elt F) f (L 3 ++ (L 2 ++ (L 1 ++ L 0)))) = G := by
  have hmem : ∀ p, p ∈ L 3 ++ (L 2 ++ (L 1 ++ L 0)) ↔ ∃ a, p ∈ L a := by
    intro p
    simp only [List.mem_append]
    constructor
    · rintro (h | h | h | h)
      exacts [⟨3, h⟩, ⟨2, h⟩, ⟨1, h⟩, ⟨0, h⟩]
    · rintro ⟨a, h⟩
      match a with
      | 0 => exact .inr (.inr (.inr h))
      | 1 => exact .inr (.inr (.inl h))
      | 2 => exact .inr (.inl h)
      | 3 => exact .inl h
  funext y
  refine View.read_writes_apply_of_pieces v f G _ (fun p hp x => ?_) y ?_
  · obtain ⟨a, ha⟩ := (hmem p).1 hp
    exact hG a p ha x
  · have h0 : (y 0).val < 512 := (y 0).isLt
    obtain ⟨p, hp, hy⟩ := hL ⟨(y 0).val / 128, by omega⟩ ⟨(y 0).val % 128 / 16, by omega⟩
    exact ⟨p, (hmem p).2 ⟨_, hp⟩, hy y rfl rfl⟩

end Cert.KernelIdeal.Peer
end
-- ==== Proof.Strips.lean ====
/-
  The four counted loops' strips. Each loop writes one first-key row's 128 rows of the block of weighted activations, in
  eight strips of 16 rows. For every loop: a trip writes one strip of the shape Block.lean reads (`strip`), and all its
  trips together write rows `128 a …` of the block (`StripPieces`).
-/
module

public import proofs.«01_k».proof.Proof.Block

@[expose] public section

set_option maxRecDepth 16384

noncomputable section

namespace Cert.KernelIdeal.Peer

open Idealize.ShloMosaic Idealize.ShloMosaic.TcCoe Idealize.ShloMosaic.ValueIdx
open Cert.KernelIdeal.Gen

variable {F : FTy → Type} [FloatOps F]

/-- The pieces `L` are rows of the block `G`, and they cover the 128 rows of first-key row `a`. -/
structure StripPieces (a : Fin 4) (G : Vec F S512x384 .bf16) (L : List (View.Piece (Elt F) S512x384 .bf16)) : Prop where
  good : ∀ p ∈ L, ∀ x, p.2 x = G (p.1.emb x)
  cover : ∀ k : Fin 8, ∃ p ∈ L, ∀ y : S512x384.Idx, (y 0).val / 128 = a.val → (y 0).val % 128 / 16 = k.val → y ∈ p.1.set

/-- The pieces before trip `m` of a loop that prepends each trip's pieces are those of the trips below `m`. -/
theorem mem_trips {α : Type} {n : ℕ} (pb : ℕ → List α) (trip : Fin n → List α) (h0 : pb 0 = [])
    (hs : ∀ k : Fin n, pb (k.val + 1) = trip k ++ pb k.val) (p : α) :
    ∀ m ≤ n, (p ∈ pb m ↔ ∃ k : Fin n, k.val < m ∧ p ∈ trip k)
  | 0, _ => by simp [h0]
  | m + 1, hm => by
    rw [hs ⟨m, hm⟩, List.mem_append, mem_trips pb trip h0 hs p m (Nat.le_of_succ_le hm)]
    constructor
    · rintro (h | ⟨k, hk, h⟩)
      · exact ⟨_, Nat.lt_succ_self m, h⟩
      · exact ⟨k, Nat.lt_succ_of_lt hk, h⟩
    · rintro ⟨k, hk, h⟩
      rcases Nat.lt_succ_iff_lt_or_eq.1 hk with hlt | heq
      · exact .inr ⟨k, hlt, h⟩
      · obtain rfl : k = ⟨m, hm⟩ := Fin.ext heq
        exact .inl h

/-- A loop of eight trips, each writing the one strip `w k` of `G` at rows `128 a + 16 k …`. -/
theorem stripPieces_of_trips {n : ℕ} (hn : n = 8) (a : Fin 4) (G : Vec F S512x384 .bf16)
    (pb : ℕ → List (View.Piece (Elt F) S512x384 .bf16)) (trip : Fin n → List (View.Piece (Elt F) S512x384 .bf16))
    (h0 : pb 0 = []) (hs : ∀ k : Fin n, pb (k.val + 1) = trip k ++ pb k.val)
    (off : Fin n → Fin 2 → ℕ) (inb : ∀ k b, off k b + S16x384.size b ≤ S512x384.size b) (w : Fin n → FVec F S16x384 .bf16)
    (hone : ∀ k, trip k = [⟨Rect.unit (s := S512x384) (off k) S16x384.size (inb k), w k⟩])
    (hoff : ∀ k, off k = ![16 * k.val + 128 * a.val, 0])
    (hw : ∀ k (z : S16x384.Idx), w k z = G ((Rect.unit (s := S512x384) (off k) S16x384.size (inb k)).emb z)) :
    StripPieces a G (pb n) := by
  subst hn
  have hm := fun p => mem_trips pb trip h0 hs p 8 (Nat.le_refl 8)
  refine ⟨fun p hp x => ?_, fun k => ?_⟩
  · obtain ⟨k, -, hk⟩ := (hm p).1 hp
    rw [hone, List.mem_singleton] at hk
    subst hk
    exact hw k x
  · refine ⟨_, (hm _).2 ⟨k, k.isLt, by rw [hone]; exact List.mem_singleton.2 rfl⟩, fun y ha hk => ?_⟩
    exact mem_strip y (by rw [hoff, hk, ha]) (inb k)

/-- The four loops' strips, last first, read back as the block, whatever the buffer held before. -/
theorem read_loops {sp : Space} (v : View sig .tc sp S512x384 .bf16) (f : v.ty.Contents (Elt F)) {G : Vec F S512x384 .bf16}
    {L0 L1 L2 L3 : List (View.Piece (Elt F) S512x384 .bf16)}
    (h0 : StripPieces 0 G L0) (h1 : StripPieces 1 G L1) (h2 : StripPieces 2 G L2) (h3 : StripPieces 3 G L3) :
    v.read (Elt F) (v.writes (Elt F) f (L3 ++ (L2 ++ (L1 ++ L0)))) = G := by
  have h : ∀ a, StripPieces a G ((![L0, L1, L2, L3] : Fin 4 → List (View.Piece (Elt F) S512x384 .bf16)) a) := fun a =>
    match a with
    | 0 => h0
    | 1 => h1
    | 2 => h2
    | 3 => h3
  exact read_strips v f G ![L0, L1, L2, L3] (fun a => (h a).good) (fun a => (h a).cover)

/-- The load of head `h`'s row of first-key row `4 e + a`. -/
theorem keyRow_apply {sp : Space} {v : View sig .tc sp S1x1024x384 .f32} {X : v.ty.Contents (Elt F)} {T : Vec F S1x1024x384 .f32}
    (hX : v.read (Elt F) X = T) (i : grid0.Coords) (h : Fin 8) (a : Fin 4) {b1 b2 : BitVec 32} (hb1 : b1 = BitVec.ofNat 32 (128 * h.val))
    (hb2 : b2 = BitVec.ofNat 32 a.val) (inb : ∀ b, k0_off1 i b1 b2 b + S1x1x384.size b ≤ S1x1024x384.size b) (l : Fin 384)
    (hn : 128 * h.val + 4 * (i 2).val + a.val < 1024) :
    k0_pay28 (v.readAt (Elt F) (Rect.unit (s := S1x1024x384) (k0_off1 i b1 b2) S1x1x384.size inb).toLoadRect X) (ix2 0 l)
      = T (ix3 0 ⟨128 * h.val + 4 * (i 2).val + a.val, hn⟩ l) := by
  subst hX hb1 hb2
  exact row_apply (k0_off1_eq i h a) inb l hn

/-- The eight heads' loads of first-key row `4 e + a`, as one function of the head. -/
theorem keyRows_apply {sp : Space} {v : View sig .tc sp S1x1024x384 .f32} {X : v.ty.Contents (Elt F)} {T : Vec F S1x1024x384 .f32}
    (hX : v.read (Elt F) X = T) (i : grid0.Coords) (a : Fin 4) {b2 : BitVec 32} (hb2 : b2 = BitVec.ofNat 32 a.val)
    (inb0 : ∀ b, k0_off1 i 0#32 b2 b + S1x1x384.size b ≤ S1x1024x384.size b)
    (inb1 : ∀ b, k0_off1 i 128#32 b2 b + S1x1x384.size b ≤ S1x1024x384.size b)
    (inb2 : ∀ b, k0_off1 i 256#32 b2 b + S1x1x384.size b ≤ S1x1024x384.size b)
    (inb3 : ∀ b, k0_off1 i 384#32 b2 b + S1x1x384.size b ≤ S1x1024x384.size b)
    (inb4 : ∀ b, k0_off1 i 512#32 b2 b + S1x1x384.size b ≤ S1x1024x384.size b)
    (inb5 : ∀ b, k0_off1 i 640#32 b2 b + S1x1x384.size b ≤ S1x1024x384.size b)
    (inb6 : ∀ b, k0_off1 i 768#32 b2 b + S1x1x384.size b ≤ S1x1024x384.size b)
    (inb7 : ∀ b, k0_off1 i 896#32 b2 b + S1x1x384.size b ≤ S1x1024x384.size b)
    (h : Fin 8) (l : Fin 384) :
    (![k0_pay28 (v.readAt (Elt F) (Rect.unit (s := S1x1024x384) (k0_off1 i 0#32 b2) S1x1x384.size inb0).toLoadRect X),
      k0_pay28 (v.readAt (Elt F) (Rect.unit (s := S1x1024x384) (k0_off1 i 128#32 b2) S1x1x384.size inb1).toLoadRect X),
      k0_pay28 (v.readAt (Elt F) (Rect.unit (s := S1x1024x384) (k0_off1 i 256#32 b2) S1x1x384.size inb2).toLoadRect X),
      k0_pay28 (v.readAt (Elt F) (Rect.unit (s := S1x1024x384) (k0_off1 i 384#32 b2) S1x1x384.size inb3).toLoadRect X),
      k0_pay28 (v.readAt (Elt F) (Rect.unit (s := S1x1024x384) (k0_off1 i 512#32 b2) S1x1x384.size inb4).toLoadRect X),
      k0_pay28 (v.readAt (Elt F) (Rect.unit (s := S1x1024x384) (k0_off1 i 640#32 b2) S1x1x384.size inb5).toLoadRect X),
      k0_pay28 (v.readAt (Elt F) (Rect.unit (s := S1x1024x384) (k0_off1 i 768#32 b2) S1x1x384.size inb6).toLoadRect X),
      k0_pay28 (v.readAt (Elt F) (Rect.unit (s := S1x1024x384) (k0_off1 i 896#32 b2) S1x1x384.size inb7).toLoadRect X)] : Fin 8 → FVec F S1x384 .f32) h (ix2 0 l)
      = T (ix3 0 ⟨128 * h.val + 4 * (i 2).val + a.val, by have : (i 2).val < 32 := (i 2).isLt; omega⟩ l) :=
  match h with
  | 0 => keyRow_apply hX i 0 a rfl hb2 inb0 l _
  | 1 => keyRow_apply hX i 1 a rfl hb2 inb1 l _
  | 2 => keyRow_apply hX i 2 a rfl hb2 inb2 l _
  | 3 => keyRow_apply hX i 3 a rfl hb2 inb3 l _
  | 4 => keyRow_apply hX i 4 a rfl hb2 inb4 l _
  | 5 => keyRow_apply hX i 5 a rfl hb2 inb5 l _
  | 6 => keyRow_apply hX i 6 a rfl hb2 inb6 l _
  | 7 => keyRow_apply hX i 7 a rfl hb2 inb7 l _

section Loops

variable (𝒱 : Variants) (c : Dev nD) (bd : Option 𝒱.V) (i : grid0.Coords) (arg3 : Memref sig .tc .vmem S1x384x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S1x1024x384 .f32) (harg6 : arg6.IsWhole) (arg7 : Memref sig .tc .vmem S1x1024x384 .f32) (harg7 : arg7.IsWhole) (arg8 : Memref sig .tc .vmem S1x1024x384 .f32) (harg8 : arg8.IsWhole) (arg9 : Memref sig .tc .vmem S1x1024x384 .f32) (harg9 : arg9.IsWhole) (arg10 : Memref sig .tc .vmem S1x384x2048 .f32) (harg10 : arg10.IsWhole) (arg11 : Memref sig .tc .vmem S8x1x2048 .f32) (harg11 : arg11.IsWhole) (arg12 : Memref sig .tc .vmem S1x384x2048 .f32) (harg12 : arg12.IsWhole) (arg13 : Memref sig .tc .vmem S2048x384 .f32) (harg13 : arg13.IsWhole) (arg14 : Memref sig .tc .vmem S512x384 .f32) (harg14 : arg14.IsWhole) (arg15 : Memref sig .tc .vmem S512x384 .bf16) (harg15 : arg15.IsWhole)
  (b1 b2 b3 : BitVec 32) (t0 t1 t2 t3 t4 t5 t6 t7 c0 c1 c2 c3 : FVec F S1x384 .f32) (c4 c5 c6 c7 : Vec F S1x1x384 .f32)
  (X8 : BufTy.Contents (Elt F) arg8.view.ty) (X9 : BufTy.Contents (Elt F) arg9.view.ty)
  (X14 : BufTy.Contents (Elt F) arg14.view.ty)
  {e : Fin 32} {T C S W : Vec F S1x1024x384 .f32} {st : Vec F S512x384 .f32}

/-- Loop 1: the rows of first-key row `4 e + 0`. -/
theorem stripPieces_t1 (h8 : arg8.view.read (Elt F) X8 = S) (h9 : arg9.view.read (Elt F) X9 = W) (h14 : arg14.view.read (Elt F) X14 = st)
    (hT : ∀ h l, (![t0, t1, t2, t3, t4, t5, t6, t7] : Fin 8 → FVec F S1x384 .f32) h (ix2 0 l)
      = T (ix3 0 ⟨128 * h.val + 4 * e.val + 0, by omega⟩ l))
    (hC : ∀ h l, (![c0, c1, c2, c3, k0_pay28 c4, k0_pay28 c5, k0_pay28 c6, k0_pay28 c7] : Fin 8 → FVec F S1x384 .f32) h (ix2 0 l)
      = C (ix3 0 ⟨128 * h.val + 4 * e.val + 0, by omega⟩ l)) :
    StripPieces 0 (weighted e st T C S W)
      (pb_k0_t1 𝒱 c bd i arg3 harg3 arg4 harg4 arg5 harg5 arg6 harg6 arg7 harg7 arg8 harg8 arg9 harg9 arg10 harg10 arg11 harg11 arg12 harg12 arg13 harg13 arg14 harg14 arg15 harg15 b1 b2 t0 t1 t2 t3 t4 t5 t6 t7 c0 c1 c2 c3 c4 c5 c6 c7 X8 X9 X14 k0_t1_loop.trips) := by
  subst h8 h9 h14
  have hn : k0_t1_loop.trips = 8 := by decide +kernel
  refine stripPieces_of_trips hn 0 _ (pb_k0_t1 𝒱 c bd i arg3 harg3 arg4 harg4 arg5 harg5 arg6 harg6 arg7 harg7 arg8 harg8 arg9 harg9 arg10 harg10 arg11 harg11 arg12 harg12 arg13 harg13 arg14 harg14 arg15 harg15 b1 b2 t0 t1 t2 t3 t4 t5 t6 t7 c0 c1 c2 c3 c4 c5 c6 c7 X8 X9 X14)
    (tripL_k0_t1 𝒱 c bd i arg3 harg3 arg4 harg4 arg5 harg5 arg6 harg6 arg7 harg7 arg8 harg8 arg9 harg9 arg10 harg10 arg11 harg11 arg12 harg12 arg13 harg13 arg14 harg14 arg15 harg15 b1 b2 t0 t1 t2 t3 t4 t5 t6 t7 c0 c1 c2 c3 c4 c5 c6 c7 X8 X9 X14) (pb_k0_t1.eq_1 ..) (fun k => pb_k0_t1_succ ..) k0_off3 k0_off3_inb
    (fun k => strip ![t0, t1, t2, t3, t4, t5, t6, t7]
      ![c0, c1, c2, c3, k0_pay28 c4, k0_pay28 c5, k0_pay28 c6, k0_pay28 c7]
      (fun h => arg8.view.readAt (Elt F) (Rect.unit (s := S1x1024x384) (k0_off2 k (BitVec.ofNat 32 (128 * h.val))) S1x16x384.size (k0_off2_inb k h)).toLoadRect X8)
      (fun h => arg9.view.readAt (Elt F) (Rect.unit (s := S1x1024x384) (k0_off2 k (BitVec.ofNat 32 (128 * h.val))) S1x16x384.size (k0_off2_inb k h)).toLoadRect X9)
      (arg14.view.readAt (Elt F) (Rect.unit (s := S512x384) (k0_off3 k) S16x384.size (k0_off3_inb k)).toLoadRect X14))
    (fun k => by unfold tripL_k0_t1 trip_k0_t1; rfl) (fun k => k0_off3_eq k) (fun k z => ?_)
  exact strip_eq_weighted 0 ⟨k.val, hn ▸ k.isLt⟩ hT hC
    (fun h r l => rows_apply (k0_off2_eq k h) _ r l _) (fun h r l => rows_apply (k0_off2_eq k h) _ r l _)
    (fun r l => pre_apply (k0_off3_eq k) _ r l _) (k0_off3_eq k) (k0_off3_inb k) z

/-- Loop 2: the rows of first-key row `4 e + 1`. -/
theorem stripPieces_t2 (h8 : arg8.view.read (Elt F) X8 = S) (h9 : arg9.view.read (Elt F) X9 = W) (h14 : arg14.view.read (Elt F) X14 = st)
    (hT : ∀ h l, (![t0, t1, t2, t3, t4, t5, t6, t7] : Fin 8 → FVec F S1x384 .f32) h (ix2 0 l)
      = T (ix3 0 ⟨128 * h.val + 4 * e.val + 1, by omega⟩ l))
    (hC : ∀ h l, (![c0, c1, c2, c3, k0_pay28 c4, k0_pay28 c5, k0_pay28 c6, k0_pay28 c7] : Fin 8 → FVec F S1x384 .f32) h (ix2 0 l)
      = C (ix3 0 ⟨128 * h.val + 4 * e.val + 1, by omega⟩ l)) :
    StripPieces 1 (weighted e st T C S W)
      (pb_k0_t2 𝒱 c bd i arg3 harg3 arg4 harg4 arg5 harg5 arg6 harg6 arg7 harg7 arg8 harg8 arg9 harg9 arg10 harg10 arg11 harg11 arg12 harg12 arg13 harg13 arg14 harg14 arg15 harg15 b1 b2 t0 t1 t2 t3 t4 t5 t6 t7 c0 c1 c2 c3 c4 c5 c6 c7 X8 X9 X14 k0_t2_loop.trips) := by
  subst h8 h9 h14
  have hn : k0_t2_loop.trips = 8 := by decide +kernel
  refine stripPieces_of_trips hn 1 _ (pb_k0_t2 𝒱 c bd i arg3 harg3 arg4 harg4 arg5 harg5 arg6 harg6 arg7 harg7 arg8 harg8 arg9 harg9 arg10 harg10 arg11 harg11 arg12 harg12 arg13 harg13 arg14 harg14 arg15 harg15 b1 b2 t0 t1 t2 t3 t4 t5 t6 t7 c0 c1 c2 c3 c4 c5 c6 c7 X8 X9 X14)
    (tripL_k0_t2 𝒱 c bd i arg3 harg3 arg4 harg4 arg5 harg5 arg6 harg6 arg7 harg7 arg8 harg8 arg9 harg9 arg10 harg10 arg11 harg11 arg12 harg12 arg13 harg13 arg14 harg14 arg15 harg15 b1 b2 t0 t1 t2 t3 t4 t5 t6 t7 c0 c1 c2 c3 c4 c5 c6 c7 X8 X9 X14) (pb_k0_t2.eq_1 ..) (fun k => pb_k0_t2_succ ..) k0_off5 k0_off5_inb
    (fun k => strip ![t0, t1, t2, t3, t4, t5, t6, t7]
      ![c0, c1, c2, c3, k0_pay28 c4, k0_pay28 c5, k0_pay28 c6, k0_pay28 c7]
      (fun h => arg8.view.readAt (Elt F) (Rect.unit (s := S1x1024x384) (k0_off4 k (BitVec.ofNat 32 (128 * h.val))) S1x16x384.size (k0_off4_inb k h)).toLoadRect X8)
      (fun h => arg9.view.readAt (Elt F) (Rect.unit (s := S1x1024x384) (k0_off4 k (BitVec.ofNat 32 (128 * h.val))) S1x16x384.size (k0_off4_inb k h)).toLoadRect X9)
      (arg14.view.readAt (Elt F) (Rect.unit (s := S512x384) (k0_off5 k) S16x384.size (k0_off5_inb k)).toLoadRect X14))
    (fun k => by unfold tripL_k0_t2 trip_k0_t2; rfl) (fun k => k0_off5_eq k) (fun k z => ?_)
  exact strip_eq_weighted 1 ⟨k.val, hn ▸ k.isLt⟩ hT hC
    (fun h r l => rows_apply (k0_off4_eq k h) _ r l _) (fun h r l => rows_apply (k0_off4_eq k h) _ r l _)
    (fun r l => pre_apply (k0_off5_eq k) _ r l _) (k0_off5_eq k) (k0_off5_inb k) z

/-- Loop 3: the rows of first-key row `4 e + 2`. -/
theorem stripPieces_t3 (h8 : arg8.view.read (Elt F) X8 = S) (h9 : arg9.view.read (Elt F) X9 = W) (h14 : arg14.view.read (Elt F) X14 = st)
    (hT : ∀ h l, (![t0, t1, t2, t3, t4, t5, t6, t7] : Fin 8 → FVec F S1x384 .f32) h (ix2 0 l)
      = T (ix3 0 ⟨128 * h.val + 4 * e.val + 2, by omega⟩ l))
    (hC : ∀ h l, (![c0, c1, c2, c3, k0_pay28 c4, k0_pay28 c5, k0_pay28 c6, k0_pay28 c7] : Fin 8 → FVec F S1x384 .f32) h (ix2 0 l)
      = C (ix3 0 ⟨128 * h.val + 4 * e.val + 2, by omega⟩ l)) :
    StripPieces 2 (weighted e st T C S W)
      (pb_k0_t3 𝒱 c bd i arg3 harg3 arg4 harg4 arg5 harg5 arg6 harg6 arg7 harg7 arg8 harg8 arg9 harg9 arg10 harg10 arg11 harg11 arg12 harg12 arg13 harg13 arg14 harg14 arg15 harg15 b1 b2 t0 t1 t2 t3 t4 t5 t6 t7 c0 c1 c2 c3 b3 c4 c5 c6 c7 X8 X9 X14 k0_t3_loop.trips) := by
  subst h8 h9 h14
  have hn : k0_t3_loop.trips = 8 := by decide +kernel
  refine stripPieces_of_trips hn 2 _ (pb_k0_t3 𝒱 c bd i arg3 harg3 arg4 harg4 arg5 harg5 arg6 harg6 arg7 harg7 arg8 harg8 arg9 harg9 arg10 harg10 arg11 harg11 arg12 harg12 arg13 harg13 arg14 harg14 arg15 harg15 b1 b2 t0 t1 t2 t3 t4 t5 t6 t7 c0 c1 c2 c3 b3 c4 c5 c6 c7 X8 X9 X14)
    (tripL_k0_t3 𝒱 c bd i arg3 harg3 arg4 harg4 arg5 harg5 arg6 harg6 arg7 harg7 arg8 harg8 arg9 harg9 arg10 harg10 arg11 harg11 arg12 harg12 arg13 harg13 arg14 harg14 arg15 harg15 b1 b2 t0 t1 t2 t3 t4 t5 t6 t7 c0 c1 c2 c3 b3 c4 c5 c6 c7 X8 X9 X14) (pb_k0_t3.eq_1 ..) (fun k => pb_k0_t3_succ ..) k0_off7 k0_off7_inb
    (fun k => strip ![t0, t1, t2, t3, t4, t5, t6, t7]
      ![c0, c1, c2, c3, k0_pay28 c4, k0_pay28 c5, k0_pay28 c6, k0_pay28 c7]
      (fun h => arg8.view.readAt (Elt F) (Rect.unit (s := S1x1024x384) (k0_off6 k (BitVec.ofNat 32 (128 * h.val))) S1x16x384.size (k0_off6_inb k h)).toLoadRect X8)
      (fun h => arg9.view.readAt (Elt F) (Rect.unit (s := S1x1024x384) (k0_off6 k (BitVec.ofNat 32 (128 * h.val))) S1x16x384.size (k0_off6_inb k h)).toLoadRect X9)
      (arg14.view.readAt (Elt F) (Rect.unit (s := S512x384) (k0_off7 k) S16x384.size (k0_off7_inb k)).toLoadRect X14))
    (fun k => by unfold tripL_k0_t3 trip_k0_t3; rfl) (fun k => k0_off7_eq k) (fun k z => ?_)
  exact strip_eq_weighted 2 ⟨k.val, hn ▸ k.isLt⟩ hT hC
    (fun h r l => rows_apply (k0_off6_eq k h) _ r l _) (fun h r l => rows_apply (k0_off6_eq k h) _ r l _)
    (fun r l => pre_apply (k0_off7_eq k) _ r l _) (k0_off7_eq k) (k0_off7_inb k) z

/-- Loop 4: the rows of first-key row `4 e + 3`. -/
theorem stripPieces_t4 (h8 : arg8.view.read (Elt F) X8 = S) (h9 : arg9.view.read (Elt F) X9 = W) (h14 : arg14.view.read (Elt F) X14 = st)
    (hT : ∀ h l, (![t0, t1, t2, t3, t4, t5, t6, t7] : Fin 8 → FVec F S1x384 .f32) h (ix2 0 l)
      = T (ix3 0 ⟨128 * h.val + 4 * e.val + 3, by omega⟩ l))
    (hC : ∀ h l, (![c0, c1, c2, c3, k0_pay28 c4, k0_pay28 c5, k0_pay28 c6, k0_pay28 c7] : Fin 8 → FVec F S1x384 .f32) h (ix2 0 l)
      = C (ix3 0 ⟨128 * h.val + 4 * e.val + 3, by omega⟩ l)) :
    StripPieces 3 (weighted e st T C S W)
      (pb_k0_t4 𝒱 c bd i arg3 harg3 arg4 harg4 arg5 harg5 arg6 harg6 arg7 harg7 arg8 harg8 arg9 harg9 arg10 harg10 arg11 harg11 arg12 harg12 arg13 harg13 arg14 harg14 arg15 harg15 t0 t1 t2 t3 t4 t5 t6 t7 c0 c1 c2 c3 c4 c5 c6 c7 X8 X9 X14 k0_t4_loop.trips) := by
  subst h8 h9 h14
  have hn : k0_t4_loop.trips = 8 := by decide +kernel
  refine stripPieces_of_trips hn 3 _ (pb_k0_t4 𝒱 c bd i arg3 harg3 arg4 harg4 arg5 harg5 arg6 harg6 arg7 harg7 arg8 harg8 arg9 harg9 arg10 harg10 arg11 harg11 arg12 harg12 arg13 harg13 arg14 harg14 arg15 harg15 t0 t1 t2 t3 t4 t5 t6 t7 c0 c1 c2 c3 c4 c5 c6 c7 X8 X9 X14)
    (tripL_k0_t4 𝒱 c bd i arg3 harg3 arg4 harg4 arg5 harg5 arg6 harg6 arg7 harg7 arg8 harg8 arg9 harg9 arg10 harg10 arg11 harg11 arg12 harg12 arg13 harg13 arg14 harg14 arg15 harg15 t0 t1 t2 t3 t4 t5 t6 t7 c0 c1 c2 c3 c4 c5 c6 c7 X8 X9 X14) (pb_k0_t4.eq_1 ..) (fun k => pb_k0_t4_succ ..) k0_off9 k0_off9_inb
    (fun k => strip ![t0, t1, t2, t3, t4, t5, t6, t7]
      ![c0, c1, c2, c3, k0_pay28 c4, k0_pay28 c5, k0_pay28 c6, k0_pay28 c7]
      (fun h => arg8.view.readAt (Elt F) (Rect.unit (s := S1x1024x384) (k0_off8 k (BitVec.ofNat 32 (128 * h.val))) S1x16x384.size (k0_off8_inb k h)).toLoadRect X8)
      (fun h => arg9.view.readAt (Elt F) (Rect.unit (s := S1x1024x384) (k0_off8 k (BitVec.ofNat 32 (128 * h.val))) S1x16x384.size (k0_off8_inb k h)).toLoadRect X9)
      (arg14.view.readAt (Elt F) (Rect.unit (s := S512x384) (k0_off9 k) S16x384.size (k0_off9_inb k)).toLoadRect X14))
    (fun k => by unfold tripL_k0_t4 trip_k0_t4; rfl) (fun k => k0_off9_eq k) (fun k z => ?_)
  exact strip_eq_weighted 3 ⟨k.val, hn ▸ k.isLt⟩ hT hC
    (fun h r l => rows_apply (k0_off8_eq k h) _ r l _) (fun h r l => rows_apply (k0_off8_eq k h) _ r l _)
    (fun r l => pre_apply (k0_off9_eq k) _ r l _) (k0_off9_eq k) (k0_off9_inb k) z

end Loops

end Cert.KernelIdeal.Peer
end
-- ==== Proof.Point.lean ====
/-
  What one grid point of the kernel computes, as functions of its blocks, and how its loads read.

  The point adds `vt · weighted` to the accumulator (cleared first at the first block of experts): `accNext`. At the last
  block of experts it writes the output block, the residual plus the gate times the transposed accumulator: `outBlock`.
-/
module

public import proofs.«01_k».proof.Proof.Strips
public import Idealize.ShloMosaic.Lib.VecWindow
public import Idealize.ShloMosaic.Lib.Claim

@[expose] public section

set_option maxRecDepth 16384

noncomputable section

namespace Cert.KernelIdeal.Peer

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The body's first condition: the first block of experts. -/
abbrev isFirst (i : grid0.Coords) : Prop :=
  (Scalar.cmpi .ne (Scalar.extui (Scalar.cmpi .eq (BitVec.ofNat 32 (i 2).val) 0#32)) 0#32) = 1#1
/-- The body's second condition: the last block of experts. -/
abbrev isLast (i : grid0.Coords) : Prop := k0_cond2 i = 1#1

/-- The block of weighted activations at point `i`. -/
def blockAct (i : grid0.Coords) (x0 : Vec F S1x384x2048 .bf16) (x1 : Vec F S512x2048 .bf16) (x3 x4 x5 x6 : Vec F S1x1024x384 .f32) :
    Vec F S512x384 .bf16 :=
  weighted (i 2) (k0_pay27 x1 x0) x3 x4 x5 x6

/-- What the accumulator holds after point `i`, from what it held before. -/
def accNext (i : grid0.Coords) (x0 : Vec F S1x384x2048 .bf16) (x1 : Vec F S512x2048 .bf16) (x2 : Vec F S2048x512 .bf16)
    (x3 x4 x5 x6 : Vec F S1x1024x384 .f32) (acc : Vec F S2048x384 .f32) : Vec F S2048x384 .f32 :=
  k0_pay96 (if isFirst i then k0_pay26 else acc) x2 (blockAct i x0 x1 x3 x4 x5 x6)

/-- The output block at the last block of experts, from the residual's block, the gate and the accumulator. -/
def outBlock (i : grid0.Coords) (x7 : Vec F S1x384x2048 .f32) (x8 : Vec F S8x1x2048 .f32) (acc : Vec F S2048x384 .f32) :
    Vec F S1x384x2048 .f32 :=
  k0_pay1 (BitVec.ofNat 32 (i 1).val) (fun z => x8 (ix3 2 0 (z 2))) (fun z => x8 (ix3 ⟨(i 0).val, Nat.lt_of_lt_of_le (i 0).isLt (by decide)⟩ 0 (z 2))) x7 acc

/-- A load of a whole memref held at the contents that read `X` reads `X`. -/
theorem whole_load {sp : Space} {s : Shape} {e : EltTy} {m : Memref sig .tc sp s e} (h : m.IsWhole) (X : s.Idx → Elt F e)
    {off : Fin s.rank → ℕ} (inb : ∀ a, off a + s.size a ≤ s.size a) :
    m.view.readAt (Elt F) (Rect.unit off s.size inb).toLoadRect (h.unread X) = X :=
  (View.readAt_full _ _ _).trans (h.read_unread X)

/-- The body's first condition holds at the first block of experts and nowhere else. -/
theorem isFirst_iff (i : grid0.Coords) : isFirst i ↔ (i 2).val = 0 := by
  have h : ∀ n : Fin 32, (Scalar.cmpi .ne (Scalar.extui (Scalar.cmpi .eq (BitVec.ofNat 32 n.val) 0#32)) 0#32) = 1#1 ↔ n.val = 0 := by
    decide
  exact h (i 2)

/-- The body's second condition holds at the last block of experts and nowhere else. -/
theorem isLast_iff (i : grid0.Coords) : isLast i ↔ (i 2).val = 31 := by
  have h : ∀ n : Fin 32, (Scalar.cmpi .ne (Scalar.extui (Scalar.cmpi .eq (BitVec.ofNat 32 n.val) 31#32)) 0#32) = 1#1 ↔ n.val = 31 := by
    decide
  exact h (i 2)

/-- The first block of experts is not the last. -/
theorem not_isLast_of_isFirst {i : grid0.Coords} (h : isFirst i) : ¬ isLast i := by
  rw [isFirst_iff] at h; rw [isLast_iff]; omega

/-- The output block from the loads: the gate's context row is row 2 of the packed modulation, its latent row row `i 0`. -/
theorem out_eq {arg10 : Memref sig .tc .vmem S1x384x2048 .f32} (harg10 : arg10.IsWhole)
    {arg11 : Memref sig .tc .vmem S8x1x2048 .f32} (harg11 : arg11.IsWhole) (i : grid0.Coords)
    (x7 : Vec F S1x384x2048 .f32) (x8 : Vec F S8x1x2048 .f32)
    (inb2 : ∀ a, (![2, 0, 0] : Fin 3 → ℕ) a + S1x1x2048.size a ≤ S8x1x2048.size a)
    (inb0 : ∀ a, k0_off10 i a + S1x1x2048.size a ≤ S8x1x2048.size a)
    (inb : ∀ a, (![0, 0, 0] : Fin 3 → ℕ) a + S1x384x2048.size a ≤ S1x384x2048.size a)
    {acc acc' : Vec F S2048x384 .f32} (h : acc = acc') :
    k0_pay1 (BitVec.ofNat 32 (i 1).val)
        (arg11.view.readAt (Elt F) (Rect.unit (s := S8x1x2048) ![2, 0, 0] S1x1x2048.size inb2).toLoadRect (harg11.unread x8))
        (arg11.view.readAt (Elt F) (Rect.unit (s := S8x1x2048) (k0_off10 i) S1x1x2048.size inb0).toLoadRect (harg11.unread x8))
        (arg10.view.readAt (Elt F) (Rect.unit (s := S1x384x2048) ![0, 0, 0] S1x384x2048.size inb).toLoadRect (harg10.unread x7)) acc
      = outBlock i x7 x8 acc' := by
  subst h
  unfold outBlock
  rw [whole_load harg10]
  congr 1
  · funext z
    rw [harg11.readAt_unread]
    congr 1; funext b; apply Fin.ext
    match b with
    | ⟨0, _⟩ => have h0 : (z 0).val < 1 := (z 0).isLt; show 2 + 1 * (z 0).val = 2; omega
    | ⟨1, _⟩ => have h0 : (z 1).val < 1 := (z 1).isLt; show 0 + 1 * (z 1).val = 0; omega
    | ⟨2, _⟩ => show 0 + 1 * (z 2).val = (z 2).val; omega
  · funext z
    rw [harg11.readAt_unread]
    congr 1; funext b; apply Fin.ext
    refine (congrArg (· + 1 * (z b).val) (congrFun (k0_off10_eq i) b)).trans ?_
    match b with
    | ⟨0, _⟩ => have h0 : (z 0).val < 1 := (z 0).isLt; show (i 0).val + 1 * (z 0).val = (i 0).val; omega
    | ⟨1, _⟩ => have h0 : (z 1).val < 1 := (z 1).isLt; show 0 + 1 * (z 1).val = 0; omega
    | ⟨2, _⟩ => show 0 + 1 * (z 2).val = (z 2).val; omega

/-- The pre-activations' buffer, once they are stored, reads them. -/
theorem pre_read {arg3 : Memref sig .tc .vmem S1x384x2048 .bf16} (harg3 : arg3.IsWhole)
    {arg4 : Memref sig .tc .vmem S512x2048 .bf16} (harg4 : arg4.IsWhole) (arg14 : Memref sig .tc .vmem S512x384 .f32)
    (f : arg14.view.ty.Contents (Elt F)) (x0 : Vec F S1x384x2048 .bf16) (x1 : Vec F S512x2048 .bf16)
    {off3 : Fin 3 → ℕ} {off4 off14 : Fin 2 → ℕ} (inb3 : ∀ a, off3 a + S1x384x2048.size a ≤ S1x384x2048.size a)
    (inb4 : ∀ a, off4 a + S512x2048.size a ≤ S512x2048.size a) (inb14 : ∀ a, off14 a + S512x384.size a ≤ S512x384.size a) :
    arg14.view.read (Elt F) (arg14.view.writes (Elt F) f [⟨Rect.unit (s := S512x384) off14 S512x384.size inb14,
      k0_pay27 (arg4.view.readAt (Elt F) (Rect.unit off4 S512x2048.size inb4).toLoadRect (harg4.unread x1))
        (arg3.view.readAt (Elt F) (Rect.unit off3 S1x384x2048.size inb3).toLoadRect (harg3.unread x0))⟩]) = k0_pay27 x1 x0 := by
  rw [View.read_writes_full, whole_load harg4, whole_load harg3]

end Cert.KernelIdeal.Peer
end
-- ==== Proof.Run.lean ====
/-
  One grid point of the kernel's body, run once for both programs' texts at any float instance.

  The point adds `vt · weighted` to the accumulator (cleared first at the first block of experts), and at the last block
  writes the output block: the residual plus the gate times the accumulator, transposed (`body_run`).
-/
module

public import proofs.«01_k».proof.Proof.Point

@[expose] public section

set_option maxRecDepth 16384

noncomputable section

namespace Cert.KernelIdeal.Peer

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

section Body

variable (c : Dev nD) (i : grid0.Coords) (arg3 : Memref sig .tc .vmem S1x384x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S1x1024x384 .f32) (harg6 : arg6.IsWhole) (arg7 : Memref sig .tc .vmem S1x1024x384 .f32) (harg7 : arg7.IsWhole) (arg8 : Memref sig .tc .vmem S1x1024x384 .f32) (harg8 : arg8.IsWhole) (arg9 : Memref sig .tc .vmem S1x1024x384 .f32) (harg9 : arg9.IsWhole) (arg10 : Memref sig .tc .vmem S1x384x2048 .f32) (harg10 : arg10.IsWhole) (arg11 : Memref sig .tc .vmem S8x1x2048 .f32) (harg11 : arg11.IsWhole) (arg12 : Memref sig .tc .vmem S1x384x2048 .f32) (harg12 : arg12.IsWhole) (arg13 : Memref sig .tc .vmem S2048x384 .f32) (harg13 : arg13.IsWhole) (arg14 : Memref sig .tc .vmem S512x384 .f32) (harg14 : arg14.IsWhole) (arg15 : Memref sig .tc .vmem S512x384 .bf16) (harg15 : arg15.IsWhole)
  (x0 : Vec F S1x384x2048 .bf16) (x1 : Vec F S512x2048 .bf16) (x2 : Vec F S2048x512 .bf16) (x3 x4 x5 x6 : Vec F S1x1024x384 .f32)
  (x7 : Vec F S1x384x2048 .f32) (x8 : Vec F S8x1x2048 .f32) (x9 : Vec F S1x384x2048 .f32) (xs0 : Vec F S2048x384 .f32)

set_option maxHeartbeats 4000000 in
/-- The body at a point: the input blocks stay, the accumulator takes `accNext`, the output block is written at the last
block of experts and left alone before it; the two other scratch buffers may hold anything before and after. -/
theorem body_run (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare x7 ∗ owns (c : Thread nD τ) arg11 fullShare x8
        ∗ owns (c : Thread nD τ) arg12 fullShare x9 ∗ owns (c : Thread nD τ) arg13 fullShare xs0
        ∗ (∃ d, owns (c : Thread nD τ) arg14 fullShare d) ∗ (∃ d, owns (c : Thread nD τ) arg15 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare x6 ∗ owns (c : Thread nD τ) arg10 fullShare x7 ∗ owns (c : Thread nD τ) arg11 fullShare x8
            ∗ owns (c : Thread nD τ) arg12 fullShare (if isLast i then outBlock i x7 x8 (accNext i x0 x1 x2 x3 x4 x5 x6 xs0) else x9)
            ∗ owns (c : Thread nD τ) arg13 fullShare (accNext i x0 x1 x2 x3 x4 x5 x6 xs0)
            ∗ (∃ d, owns (c : Thread nD τ) arg14 fullShare d) ∗ (∃ d, owns (c : Thread nD τ) arg15 fullShare d)) -∗ K ⟨⟩))
      ⊢ wp frame (wpE (defs₀ (F := F)) Variants.none c none) E (cc0_peer_main i arg3 harg3 arg4 harg4 arg5 harg5 arg6 harg6 arg7 harg7 arg8 harg8 arg9 harg9 arg10 harg10 arg11 harg11 arg12 harg12 arg13 harg13 arg14 harg14 arg15 harg15) K := by
  simp only [cc0_peer_main_eq_skeleton]; unfold cc0_peer_main_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%d10, %f10, -, H10⟩, ⟨%d11, %f11, -, H11⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hfs0
  by_cases hc0 : isFirst i <;> by_cases hc1 : isLast i
  · exact absurd hc1 (not_isLast_of_isFirst hc0)
  all_goals
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; swap; · iexact H9
      ipureintro
      first
        | rw [if_neg hc1]; exact harg12.read_unread _
        | rw [if_pos hc1]
          refine (View.read_writes_full _ _ _ _ _).trans ?_
          refine out_eq harg10 harg11 i x7 x8 _ _ _ ?_
          refine (View.readAt_writes_full _ _ _ _ _ _).trans ?_
          unfold accNext
          show k0_pay96 _ _ _ = k0_pay96 _ _ _
          congr 1
          · first
              | rw [if_neg hc0]; exact whole_load harg13 xs0 _
              | rw [if_pos hc0]; exact View.readAt_writes_full _ _ _ _ _ _
          · exact whole_load harg5 x2 _
          · refine (View.readAt_full _ _ _).trans (read_loops _ _
              (stripPieces_t1 (h8 := harg8.read_unread x5) (h9 := harg9.read_unread x6) (h14 := pre_read harg3 harg4 arg14 _ x0 x1 _ _ _)
                (hT := keyRows_apply (harg6.read_unread x3) i 0 rfl _ _ _ _ _ _ _ _) (hC := keyRows_apply (harg7.read_unread x4) i 0 rfl _ _ _ _ _ _ _ _) ..)
              (stripPieces_t2 (h8 := harg8.read_unread x5) (h9 := harg9.read_unread x6) (h14 := pre_read harg3 harg4 arg14 _ x0 x1 _ _ _)
                (hT := keyRows_apply (harg6.read_unread x3) i 1 rfl _ _ _ _ _ _ _ _) (hC := keyRows_apply (harg7.read_unread x4) i 1 rfl _ _ _ _ _ _ _ _) ..)
              (stripPieces_t3 (h8 := harg8.read_unread x5) (h9 := harg9.read_unread x6) (h14 := pre_read harg3 harg4 arg14 _ x0 x1 _ _ _)
                (hT := keyRows_apply (harg6.read_unread x3) i 2 rfl _ _ _ _ _ _ _ _) (hC := keyRows_apply (harg7.read_unread x4) i 2 rfl _ _ _ _ _ _ _ _) ..)
              (stripPieces_t4 (h8 := harg8.read_unread x5) (h9 := harg9.read_unread x6) (h14 := pre_read harg3 harg4 arg14 _ x0 x1 _ _ _)
                (hT := keyRows_apply (harg6.read_unread x3) i 3 rfl _ _ _ _ _ _ _ _) (hC := keyRows_apply (harg7.read_unread x4) i 3 rfl _ _ _ _ _ _ _ _) ..))
    isplitl [HS0]
    · iexists _; isplitr; swap; · iexact HS0
      ipureintro
      refine (View.read_writes_full _ _ _ _ _).trans ?_
      unfold accNext
      show k0_pay96 _ _ _ = k0_pay96 _ _ _
      congr 1
      · first
          | rw [if_neg hc0]; exact whole_load harg13 xs0 _
          | rw [if_pos hc0]; exact View.readAt_writes_full _ _ _ _ _ _
      · exact whole_load harg5 x2 _
      · refine (View.readAt_full _ _ _).trans (read_loops _ _
          (stripPieces_t1 (h8 := harg8.read_unread x5) (h9 := harg9.read_unread x6) (h14 := pre_read harg3 harg4 arg14 _ x0 x1 _ _ _)
            (hT := keyRows_apply (harg6.read_unread x3) i 0 rfl _ _ _ _ _ _ _ _) (hC := keyRows_apply (harg7.read_unread x4) i 0 rfl _ _ _ _ _ _ _ _) ..)
          (stripPieces_t2 (h8 := harg8.read_unread x5) (h9 := harg9.read_unread x6) (h14 := pre_read harg3 harg4 arg14 _ x0 x1 _ _ _)
            (hT := keyRows_apply (harg6.read_unread x3) i 1 rfl _ _ _ _ _ _ _ _) (hC := keyRows_apply (harg7.read_unread x4) i 1 rfl _ _ _ _ _ _ _ _) ..)
          (stripPieces_t3 (h8 := harg8.read_unread x5) (h9 := harg9.read_unread x6) (h14 := pre_read harg3 harg4 arg14 _ x0 x1 _ _ _)
            (hT := keyRows_apply (harg6.read_unread x3) i 2 rfl _ _ _ _ _ _ _ _) (hC := keyRows_apply (harg7.read_unread x4) i 2 rfl _ _ _ _ _ _ _ _) ..)
          (stripPieces_t4 (h8 := harg8.read_unread x5) (h9 := harg9.read_unread x6) (h14 := pre_read harg3 harg4 arg14 _ x0 x1 _ _ _)
            (hT := keyRows_apply (harg6.read_unread x3) i 3 rfl _ _ _ _ _ _ _ _) (hC := keyRows_apply (harg7.read_unread x4) i 3 rfl _ _ _ _ _ _ _ _) ..))
    isplitl [H10]
    · iexists _, _; isplitr; swap; · iexact H10
      ipureintro; rfl
    iexists _, _; isplitr; swap; · iexact H11
    ipureintro; rfl

end Body

end Cert.KernelIdeal.Peer
end
-- ==== Proof.Track.lean ====
/-
  The kernel's run over its whole grid.

  The accumulator is carried from point to point (`accAt`); the output block is written at the last block of experts and
  left alone before it. From one point's run (`body_run`) the pipeline's rule gives the whole program's: it terminates, its
  arguments end unchanged, every counter is zero again, and the output array is what `dats` says (`run_main_quiescent`).
-/
module

public import proofs.«01_k».proof.Proof.Run
public import proofs.«01_k».proof.Proof.Gen.KernelIdeal.Frame

@[expose] public section

set_option maxRecDepth 16384

noncomputable section

namespace Cert.KernelIdeal.Peer

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of experts a position belongs to. -/
theorem coord2 (t : Fin cfg0.N) : (grid0.coords t 2).val = t.val % 32 := by
  have e : (grid0.coords t 2).val = t.val / 1 % 32 := Pipeline.Grid.coords_val t 2 (by decide) rfl
  rw [e, Nat.div_one]

theorem isFirst_pos (t : Fin cfg0.N) : isFirst (grid0.coords t) ↔ t.val % 32 = 0 := by rw [isFirst_iff, coord2]
theorem isLast_pos (t : Fin cfg0.N) : isLast (grid0.coords t) ↔ t.val % 32 = 31 := by rw [isLast_iff, coord2]

/-- At the first block of experts the accumulator is cleared: what it held does not matter. -/
theorem accNext_first {i : grid0.Coords} (h : isFirst i) (x0 : Vec F S1x384x2048 .bf16) (x1 : Vec F S512x2048 .bf16) (x2 : Vec F S2048x512 .bf16)
    (x3 x4 x5 x6 : Vec F S1x1024x384 .f32) (a a' : Vec F S2048x384 .f32) :
    accNext i x0 x1 x2 x3 x4 x5 x6 a = accNext i x0 x1 x2 x3 x4 x5 x6 a' := by
  unfold accNext; rw [if_pos h, if_pos h]

/-- One point's step on the accumulator, at the point's blocks. -/
def accStep (c : Dev nD) (t : Fin cfg0.N) (a : Vec F S2048x384 .f32) : Vec F S2048x384 .f32 :=
  accNext (grid0.coords t) (iblk m c 0 t) (iblk m c 1 t) (iblk m c 2 t) (iblk m c 3 t) (iblk m c 4 t) (iblk m c 5 t) (iblk m c 6 t) a

/-- The accumulator after position `n`. -/
def accAt (c : Dev nD) : (n : ℕ) → n < cfg0.N → Vec F S2048x384 .f32
  | 0, hn => accStep m c ⟨0, hn⟩ k0_pay26
  | n + 1, hn => accStep m c ⟨n + 1, hn⟩ (accAt c n (Nat.lt_of_succ_lt hn))

/-- The step from what the position before left. -/
theorem accStep_eq (c : Dev nD) (t : Fin cfg0.N) (a : Vec F S2048x384 .f32)
    (h : ∀ (k : ℕ) (hk : k + 1 = t.val), a = accAt m c k (by have := t.isLt; omega)) : accStep m c t a = accAt m c t.val t.isLt := by
  obtain ⟨n, hn⟩ := t
  cases n with
  | zero => exact accNext_first ((isFirst_pos ⟨0, hn⟩).mpr (Nat.zero_mod _)) _ _ _ _ _ _ _ _ _
  | succ n => exact congrArg (accStep m c ⟨n + 1, hn⟩) (h n rfl)

/-- The invariant before position `n`: the accumulator at what the position before left, the two other scratch buffers at
    anything, the generator register at some state. -/
def PhiS (c : Dev nD) (n : ℕ) (h : n ≤ cfg0.N) : sProp 𝕄 :=
  iprop(((∃ a, ⌜∀ (k : ℕ) (hk : k + 1 = n), a = accAt m c k (by omega)⌝ ∗ owns (c : Thread nD τ) (Memref.whole cc0_scratch0) fullShare a)
    ∗ (∃ d, owns (c : Thread nD τ) (Memref.whole cc0_scratch1) fullShare d)
    ∗ (∃ d, owns (c : Thread nD τ) (Memref.whole cc0_scratch2) fullShare d)) ∗ (∃ r, prngReg c r))

/-- The launch's invariant: every scratch buffer at anything. -/
theorem PhiA_eq (c : Dev nD) :
    (Pipeline.ΦA spec0 c : sProp 𝕄)
      = iprop(((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)) ∗ (∃ r, prngReg c r)) := by
  unfold Pipeline.ΦA; rw [scopedRest0_eq]; simp only [owns_whole]; try rfl

/-- The proof data: each input's buffer keeps its block, the output's holds the output block of the accumulator so far
    (said only of the last block of experts). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (grid0.coords t) (iblk m c 7 t) (iblk m c 8 t) (accAt m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t
    = outBlock (grid0.coords t) (iblk m c 7 t) (iblk m c 8 t) (accAt m c t.val t.isLt) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-- What the output's buffer is left at after a point: the output block at the last block of experts, what it held before. -/
abbrev outPost (c : Dev nD) (t : Fin cfg0.N) : sProp 𝕄 :=
  match cfg0.idle 9 (grid0.coords t) with
  | true =>
    match (cfg0.win 9).flush t with
    | false => iprop(∃ d, owns (c : Thread nD τ) (win0_9.stage (cfg0.slots t 9)) fullShare ((dats m 0 c).before 9 t d))
    | true => owns (c : Thread nD τ) (win0_9.stage (cfg0.slots t 9)) fullShare ((dats m 0 c).after 9 t)
  | false => owns (c : Thread nD τ) (win0_9.stage (cfg0.slots t 9)) fullShare ((dats m 0 c).after 9 t)

theorem idle9 (i : grid0.Coords) : cfg0.idle 9 i = !decide (k0_cond2 i = 1#1) := rfl

/-- The output's buffer after the body: the condition of the store, read as the pipeline's. -/
theorem outPost_of (c : Dev nD) (t : Fin cfg0.N) (d) (acc : Vec F S2048x384 .f32) (hacc : acc = accAt m c t.val t.isLt) :
    owns (c : Thread nD τ) (win0_9.stage (cfg0.slots t 9)) fullShare
        (if isLast (grid0.coords t) then outBlock (grid0.coords t) (iblk m c 7 t) (iblk m c 8 t) acc else (dats m 0 c).before 9 t d)
      ⊢ outPost m c t := by
  subst hacc
  unfold outPost
  by_cases h : isLast (grid0.coords t)
  · rw [if_pos h, idle9, decide_eq_true h, after9]
    exact Idealize.SL.BI.Entails.refl _
  · have hf : (cfg0.win 9).flush t = false := by
      rw [Bool.eq_false_iff]; intro hc; exact h ((isLast_pos t).mpr ((flush0_9 t).mp hc))
    rw [if_neg h, idle9, decide_eq_false h, hf]
    show _ ⊢ iprop(∃ d, owns (c : Thread nD τ) (win0_9.stage (cfg0.slots t 9)) fullShare ((dats m 0 c).before 9 t d))
    iintro H
    iexists d
    iexact H

/-- What the rule hands the body at a point. -/
abbrev bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

/-- What the body hands back. -/
abbrev bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ outPost m c t)

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).owesAt () t.succ = (dats m 0 c).owesAt () t.castSucc from rfl, after0, after1, after2, after3, after4, after5,
    after6, after7, after8, show (dats m 0 c).Φ t.succ = PhiS m c (t.val + 1) t.isLt from rfl, PhiS_castSucc]
  unfold PhiS
  iintro ⟨⟨⟨⟨%a, %ha, HA⟩, HS, HT⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hstep : accNext (grid0.coords t) (iblk m c 0 t) (iblk m c 1 t) (iblk m c 2 t) (iblk m c 3 t) (iblk m c 4 t) (iblk m c 5 t) (iblk m c 6 t) a
      = accAt m c t.val t.isLt := accStep_eq m c t a ha
  iapply (body_run c (grid0.coords t) _ _ _ _ _ _ _ _ _ _ _ _ _ _ _ _ _ _ _ _ (Memref.whole cc0_scratch0) (Memref.isWhole_whole _)
    (Memref.whole cc0_scratch1) (Memref.isWhole_whole _) (Memref.whole cc0_scratch2) (Memref.isWhole_whole _)
    (iblk m c 0 t) (iblk m c 1 t) (iblk m c 2 t) (iblk m c 3 t) (iblk m c 4 t) (iblk m c 5 t) (iblk m c 6 t) (iblk m c 7 t) (iblk m c 8 t)
    ((dats m 0 c).before 9 t d9) a Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [HA]
  · iexact HA
  isplitl [HS]
  · iexact HS
  isplitl [HT]
  · iexact HT
  iintro ⟨H0, H1, H2, H3, H4, H5, H6, H7, H8, H9, HA, HS, HT⟩
  isplitl [HA HS HT Hg]
  · isplitl [HA HS HT]
    · isplitl [HA]
      · iexists _
        isplitr [HA]
        · ipureintro
          intro k hk
          obtain rfl : k = t.val := by omega
          exact hstep
        iexact HA
      isplitl [HS]
      · iexact HS
      iexact HT
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  iapply (outPost_of m c t d9 _ hstep)
  iexact H9

theorem body_obligation (c : Dev nD) : BodyObligation (dats (F := F) m 0 c) defs₀ Variants.none () Set.univ := fun t => by
  rw [bigSep_W0, bigSep_W0]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨⟨%a, HA⟩, HS, HT⟩, Hg⟩
  isplitl [HA HS HT]
  · isplitl [HA]
    · iexists a
      isplitr [HA]
      · ipureintro
        intro k hk
        exact absurd hk (Nat.succ_ne_zero k)
      iexact HA
    isplitl [HS]
    · iexact HS
    iexact HT
  iexact Hg

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS
  iintro ⟨⟨⟨%a, %ha, HA⟩, HS, HT⟩, Hg⟩
  isplitl [HA HS HT]
  · isplitl [HA]
    · iexists a
      iexact HA
    isplitl [HS]
    · iexact HS
    iexact HT
  iexact Hg

set_option backward.isDefEq.respectTransparency.types false in
/-- The whole program: it terminates, each array ends at what the proof data says, every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

end Cert.KernelIdeal.Peer
end
-- ==== Proof.Frames.lean ====
/-
  The frames of both programs, from the one run: the two programs have the same text.
-/
module

public import proofs.«01_k».proof.Proof.Track
public import proofs.«01_k».proof.Proof.Gen.Kernel
public import proofs.«01_k».proof.Proof.Gen.KernelIdeal
public import proofs.«01_k».proof.Defs

@[expose] public section

set_option maxRecDepth 16384

noncomputable section

namespace Cert.KernelIdeal.Peer

open Idealize.ShloMosaic Idealize.ShloMosaic.TcCoe Idealize.ShloMosaic.Tactic Idealize.SL.Sem

variable {F : FTy → Type} [FloatOps F] (m : (ℓ : Loc nD τ sig) → Buf (Elt F) ℓ) (ρ : Dev nD → PrngReg)

/-- The arguments end unchanged and every counter is zero, at any float instance. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (Gen.frame_of m ρ (dats m) (A_eq m) (run_main m ρ)) ((θ_run defs _ _).mono (fun _ h => h.2) (run_main_quiescent m ρ))

theorem frame_ideal : Cert.quiescent_KernelIdeal := fun m ρ _ => frame m ρ

/-- The two programs' body tables are the same. -/
theorem defs_eq : @Cert.Kernel.defs Bits _ Cert.Kernel.Gen.facts = @Cert.KernelIdeal.defs Bits _ Cert.KernelIdeal.Gen.facts := by
  sl_kernel_rfl

theorem frame_kernel : Cert.quiescent_Kernel := fun m ρ _ => by
  have h := frame (F := Bits) m ρ
  rw [← defs_eq] at h
  exact h

end Cert.KernelIdeal.Peer
end
-- ==== Proof.Value.lean ====
/-
  What the kernel computes over the extended reals, in closed form.

  The accumulator after a block of experts is the sum of the contributions of the blocks so far (`accAt_apply`), so the
  output block at the last one holds the residual plus the gate times the sum over every expert (`out_apply`), and the
  output array is `result` of the argument arrays (`final_out`).
-/
module

public import proofs.«01_k».proof.Proof.Track
public import Idealize.ShloMosaic.Lib.Pipeline.Value
public import Idealize.ShloMosaic.Lib.Pipeline.ValueKit
public import Idealize.ShloMosaic.Lib.MatmulPlain
public import Idealize.ShloMosaic.Lib.ValueLayout
public import Idealize.ShloMosaic.PureOps.Ideal.Laws

@[expose] public section

set_option maxRecDepth 16384

noncomputable section

namespace Cert.KernelIdeal.Peer

open Idealize.ShloMosaic hiding ix2 ix3
open Idealize.ShloMosaic.TcCoe Idealize.ShloMosaic.Tactic Idealize.ShloMosaic.ValueIdx
open Idealize.SL Idealize.SL.RA Idealize.SL.BI Idealize.SL.Sem
open Cert.KernelIdeal.Gen

/-- The first-key row of expert `e` in head `h`'s table. -/
def firstRow (e : Fin 16384) (h : Fin 8) : Fin 1024 := ⟨128 * h.val + e.val / 128, by omega⟩
/-- Its second-key row. -/
def secondRow (e : Fin 16384) (h : Fin 8) : Fin 1024 := ⟨128 * h.val + e.val % 128, by omega⟩

/-- The heads' weight of expert `e` at token `l` of batch `b`. -/
def weight (t c s w : Vec Ideal S2x1024x8448 .f32) (b : Fin 2) (l : Fin 8448) (e : Fin 16384) : Ideal .f32 :=
  ∑ h : Fin 8, Scalar.select (FloatOps.cmpf (F := Ideal) (φ := .f32) .oge (s (ix3 b (secondRow e h) l)) (t (ix3 b (firstRow e h) l))) (w (ix3 b (secondRow e h) l)) 0
    * c (ix3 b (firstRow e h) l)

/-- Expert `e`'s pre-activation at a token. -/
def preact (h : Vec Ideal S2x8448x2048 .bf16) (u : Vec Ideal S16384x2048 .f32) (b : Fin 2) (l : Fin 8448) (e : Fin 16384) : Ideal .f32 :=
  ∑ k : Fin 2048, u (ix2 e k) * h (ix3 b l k)

/-- Expert `e`'s contribution to feature `d` at a token. -/
def contrib (h : Vec Ideal S2x8448x2048 .bf16) (u v : Vec Ideal S16384x2048 .f32) (t c s w : Vec Ideal S2x1024x8448 .f32)
    (b : Fin 2) (l : Fin 8448) (d : Fin 2048) (e : Fin 16384) : Ideal .f32 :=
  v (ix2 e d) * (gelu (F := Ideal) (preact h u b l e) * weight t c s w b l e)

/-- The gate of feature `d`: row 2 of the modulation for the context's tokens, the batch's row for the others. -/
def gate (md : Vec Ideal S8x6x2048 .f32) (b : Fin 2) (l : Fin 8448) (d : Fin 2048) : Ideal .f32 :=
  if 8192 ≤ l.val then md (ix3 2 5 d) else md (ix3 ⟨b.val, by omega⟩ 5 d)

/-- The layer's result. -/
def result (h : Vec Ideal S2x8448x2048 .bf16) (u v : Vec Ideal S16384x2048 .f32) (t c s w : Vec Ideal S2x1024x8448 .f32)
    (x : Vec Ideal S2x8448x2048 .f32) (md : Vec Ideal S8x6x2048 .f32) : Vec Ideal S2x8448x2048 .f32 :=
  fun y => x y + gate md (y 0) (y 1) (y 2) * ∑ e : Fin 16384, contrib h u v t c s w (y 0) (y 1) (y 2) e

/-! ## One point -/

/-- The heads' weights added one after another are their sum. -/
theorem headSum_eq (t c s e : Fin 8 → Ideal .f32) :
    headSum t c s e = ∑ h : Fin 8, Scalar.select (FloatOps.cmpf .oge (s h) (t h)) (e h) 0 * c h := by
  unfold headSum headStep
  simp only [Ideal.addf_def, Ideal.mulf_def, Ideal.ofBits_def, Ideal.ofBits_zero_f32, Fin.sum_univ_eight, zero_add]

/-- The pre-activations of a block. -/
theorem pay27_apply (x1 : Vec Ideal S512x2048 .bf16) (x0 : Vec Ideal S1x384x2048 .bf16) (j : Fin 512) (l : Fin 384) :
    k0_pay27 (F := Ideal) x1 x0 (ix2 j l) = ∑ k : Fin 2048, x1 (ix2 j k) * x0 (ix3 0 l k) := by
  unfold k0_pay27
  simp only [shapeCast_self]
  refine (Ideal.matmul_transposedRhs_apply (M := 512) (K := 2048) (N := 384) none x1 _ _ j l).trans ?_
  rw [show constant (F := Ideal) S512x384 .f32 0x00000000#32 (ix2 j l) = 0 from Ideal.ofBits_zero_f32, zero_add]
  refine Finset.sum_congr rfl fun k _ => ?_
  rw [shapeCast_1ab_ab_apply]

/-- The accumulator's step. -/
theorem pay96_apply (a : Vec Ideal S2048x384 .f32) (x2 : Vec Ideal S2048x512 .bf16) (B : Vec Ideal S512x384 .bf16) (d : Fin 2048) (l : Fin 384) :
    k0_pay96 (F := Ideal) a x2 B (ix2 d l) = a (ix2 d l) + ∑ j : Fin 512, x2 (ix2 d j) * B (ix2 j l) := by
  unfold k0_pay96
  simp only [shapeCast_self]
  refine congrArg (a (ix2 d l) + ·) ((Ideal.matmul_plain_apply (M := 2048) (K := 512) (N := 384) none x2 B _ d l).trans ?_)
  rw [show constant (F := Ideal) S2048x384 .f32 0x00000000#32 (ix2 d l) = 0 from Ideal.ofBits_zero_f32, zero_add]

theorem pay26_apply (y : S2048x384.Idx) : k0_pay26 (F := Ideal) y = 0 := by
  unfold k0_pay26
  simp only [shapeCast_self]
  exact Ideal.ofBits_zero_f32

/-! ## The blocks, read off the argument arrays -/

variable (m : (ℓ : Loc nD τ sig) → Buf (Elt Ideal) ℓ)

theorem V_v0 (c : Dev nD) : V m c main_v0 = m ((c : Thread nD τ).loc main_arg1) := by
  show StableHlo.after hostOps0 _ (Proc.devRef .tc main_v0) = _
  after_results
  rfl

theorem V_v2 (c : Dev nD) : V m c main_v2
    = transpose S2048x16384 [1, 0] (m ((c : Thread nD τ).loc main_arg2) : Vec Ideal S16384x2048 .bf16) transposes_S16384x2048_S2048x16384_1_0 := by
  show StableHlo.after hostOps0 _ (Proc.devRef .tc main_v2) = _
  after_results
  rfl

theorem V_v3 (c : Dev nD) : V m c main_v3
    = extractStridedSlice S8x1x2048 ![0, 5, 0] (m ((c : Thread nD τ).loc main_arg8) : Vec Ideal S8x6x2048 .f32) slices_S8x6x2048_S8x1x2048_0_5_0 := by
  show StableHlo.after hostOps0 _ (Proc.devRef .tc main_v3) = _
  after_results

/-- The batch, the token and the expert of a position's blocks. -/
def batch (t : Fin cfg0.N) : Fin 2 := ⟨t.val / 704, by have h : t.val < 1408 := Nat.lt_of_lt_of_eq t.isLt N_0; omega⟩
def token (t : Fin cfg0.N) (l : Fin 384) : Fin 8448 := ⟨384 * (t.val / 32 % 22) + l.val, by have := l.isLt; omega⟩
def expert (n : ℕ) (j : Fin 512) : Fin 16384 := ⟨512 * (n % 32) + j.val, by omega⟩

theorem coord0 (t : Fin cfg0.N) : (grid0.coords t 0).val = t.val / 704 := by
  have h : t.val < 1408 := Nat.lt_of_lt_of_eq t.isLt N_0
  have e : (grid0.coords t 0).val = t.val / 704 % 2 := Pipeline.Grid.coords_val t 0 (by decide) rfl
  rw [e]; omega
theorem coord1 (t : Fin cfg0.N) : (grid0.coords t 1).val = t.val / 32 % 22 := Pipeline.Grid.coords_val t 1 (by decide) rfl

theorem pos0 : ∀ t : Fin cfg0.N, win0_0.index t = ![t.val / 704, t.val / 32 % 22, 0] := (by decide +kernel : ∀ t : Fin grid0.N, _)
theorem pos1 : ∀ t : Fin cfg0.N, win0_1.index t = ![t.val % 32, 0] := (by decide +kernel : ∀ t : Fin grid0.N, _)
theorem pos2 : ∀ t : Fin cfg0.N, win0_2.index t = ![0, t.val % 32] := (by decide +kernel : ∀ t : Fin grid0.N, _)
theorem pos3 : ∀ t : Fin cfg0.N, win0_3.index t = ![t.val / 704, 0, t.val / 32 % 22] := (by decide +kernel : ∀ t : Fin grid0.N, _)
theorem pos4 : ∀ t : Fin cfg0.N, win0_4.index t = ![t.val / 704, 0, t.val / 32 % 22] := (by decide +kernel : ∀ t : Fin grid0.N, _)
theorem pos5 : ∀ t : Fin cfg0.N, win0_5.index t = ![t.val / 704, 0, t.val / 32 % 22] := (by decide +kernel : ∀ t : Fin grid0.N, _)
theorem pos6 : ∀ t : Fin cfg0.N, win0_6.index t = ![t.val / 704, 0, t.val / 32 % 22] := (by decide +kernel : ∀ t : Fin grid0.N, _)
theorem pos7 : ∀ t : Fin cfg0.N, win0_7.index t = ![t.val / 704, t.val / 32 % 22, 0] := (by decide +kernel : ∀ t : Fin grid0.N, _)
theorem pos8 : ∀ t : Fin cfg0.N, win0_8.index t = ![0, 0, 0] := (by decide +kernel : ∀ t : Fin grid0.N, _)
theorem pos9 : ∀ t : Fin cfg0.N, win0_9.index t = ![t.val / 704, t.val / 32 % 22, 0] := (by decide +kernel : ∀ t : Fin grid0.N, _)

end Cert.KernelIdeal.Peer
end
-- ==== Proof.Total.lean ====
/-
  The blocks of the kernel's windows, read off the argument arrays; the accumulator in closed form; the output array.
-/
module

public import proofs.«01_k».proof.Proof.Value

@[expose] public section

set_option maxRecDepth 16384

noncomputable section

namespace Cert.KernelIdeal.Peer

open Idealize.ShloMosaic hiding ix2 ix3
open Idealize.ShloMosaic.TcCoe Idealize.ShloMosaic.Tactic Idealize.ShloMosaic.ValueIdx
open Idealize.SL Idealize.SL.RA Idealize.SL.BI Idealize.SL.Sem
open Cert.KernelIdeal.Gen

variable (m : (ℓ : Loc nD τ sig) → Buf (Elt Ideal) ℓ)

theorem blk0 (c : Dev nD) (t : Fin cfg0.N) (l : Fin 384) (k : Fin 2048) :
    iblk m c 0 t (ix3 0 l k) = m ((c : Thread nD τ).loc main_arg0) (ix3 (batch t) (token t l) k) := by
  blk_ext! [iblk, pos0, batch, token]
  exact congrArg (· + l.val) (Nat.mul_comm _ _)

theorem blk1 (c : Dev nD) (t : Fin cfg0.N) (j : Fin 512) (k : Fin 2048) :
    iblk m c 1 t (ix2 j k) = m ((c : Thread nD τ).loc main_arg1) (ix2 (expert t.val j) k) := by
  blk_ext! [iblk, V_v0, pos1, expert]
  exact congrArg (· + j.val) (Nat.mul_comm _ _)

theorem blk2 (c : Dev nD) (t : Fin cfg0.N) (d : Fin 2048) (j : Fin 512) :
    iblk m c 2 t (ix2 d j) = m ((c : Thread nD τ).loc main_arg2) (ix2 (expert t.val j) d) := by
  blk_ext! [iblk, V_v2, pos2, expert]
  exact congrArg (· + j.val) (Nat.mul_comm _ _)

theorem blk3 (c : Dev nD) (t : Fin cfg0.N) (r : Fin 1024) (l : Fin 384) :
    iblk m c 3 t (ix3 0 r l) = m ((c : Thread nD τ).loc main_arg3) (ix3 (batch t) r (token t l)) := by
  blk_ext! [iblk, pos3, batch, token]
  exact congrArg (· + l.val) (Nat.mul_comm _ _)

theorem blk4 (c : Dev nD) (t : Fin cfg0.N) (r : Fin 1024) (l : Fin 384) :
    iblk m c 4 t (ix3 0 r l) = m ((c : Thread nD τ).loc main_arg4) (ix3 (batch t) r (token t l)) := by
  blk_ext! [iblk, pos4, batch, token]
  exact congrArg (· + l.val) (Nat.mul_comm _ _)

theorem blk5 (c : Dev nD) (t : Fin cfg0.N) (r : Fin 1024) (l : Fin 384) :
    iblk m c 5 t (ix3 0 r l) = m ((c : Thread nD τ).loc main_arg5) (ix3 (batch t) r (token t l)) := by
  blk_ext! [iblk, pos5, batch, token]
  exact congrArg (· + l.val) (Nat.mul_comm _ _)

theorem blk6 (c : Dev nD) (t : Fin cfg0.N) (r : Fin 1024) (l : Fin 384) :
    iblk m c 6 t (ix3 0 r l) = m ((c : Thread nD τ).loc main_arg6) (ix3 (batch t) r (token t l)) := by
  blk_ext! [iblk, pos6, batch, token]
  exact congrArg (· + l.val) (Nat.mul_comm _ _)

theorem blk7 (c : Dev nD) (t : Fin cfg0.N) (l : Fin 384) (k : Fin 2048) :
    iblk m c 7 t (ix3 0 l k) = m ((c : Thread nD τ).loc main_arg7) (ix3 (batch t) (token t l) k) := by
  blk_ext! [iblk, pos7, batch, token]
  exact congrArg (· + l.val) (Nat.mul_comm _ _)

theorem blk8 (c : Dev nD) (t : Fin cfg0.N) (r : Fin 8) (d : Fin 2048) :
    iblk m c 8 t (ix3 r 0 d) = m ((c : Thread nD τ).loc main_arg8) (ix3 r 5 d) := by
  blk_ext! [iblk, V_v3, pos8]

/-! ## The accumulator -/

/-- What expert `e` adds to feature `d` of the token, from the argument arrays. -/
abbrev addend (c : Dev nD) (b : Fin 2) (l : Fin 8448) (d : Fin 2048) (e : Fin 16384) : Ideal .f32 :=
  contrib (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) b l d e

theorem keyRow_eq (t : Fin cfg0.N) (j : Fin 512) (h : Fin 8) : keyRow (grid0.coords t 2) j h = firstRow (expert t.val j) h := by
  refine Fin.ext ?_
  show 128 * h.val + 4 * (grid0.coords t 2).val + j.val / 128 = 128 * h.val + (512 * (t.val % 32) + j.val) / 128
  rw [coord2]; omega

theorem subRow_eq (n : ℕ) (j : Fin 512) (h : Fin 8) : subRow j h = secondRow (expert n j) h := by
  refine Fin.ext ?_
  show 128 * h.val + j.val % 128 = 128 * h.val + (512 * (n % 32) + j.val) % 128
  omega

theorem blockAct_apply (c : Dev nD) (t : Fin cfg0.N) (j : Fin 512) (l : Fin 384) :
    blockAct (grid0.coords t) (iblk m c 0 t) (iblk m c 1 t) (iblk m c 3 t) (iblk m c 4 t) (iblk m c 5 t) (iblk m c 6 t) (ix2 j l)
      = gelu (F := Ideal) (preact (m ((c : Thread nD τ).loc main_arg0)) (m ((c : Thread nD τ).loc main_arg1)) (batch t) (token t l) (expert t.val j))
        * weight (m ((c : Thread nD τ).loc main_arg3)) (m ((c : Thread nD τ).loc main_arg4)) (m ((c : Thread nD τ).loc main_arg5))
            (m ((c : Thread nD τ).loc main_arg6)) (batch t) (token t l) (expert t.val j) := by
  show gelu (k0_pay27 (iblk m c 1 t) (iblk m c 0 t) (ix2 j l))
      * headSum (fun h => iblk m c 3 t (ix3 0 (keyRow (grid0.coords t 2) j h) l)) (fun h => iblk m c 4 t (ix3 0 (keyRow (grid0.coords t 2) j h) l))
          (fun h => iblk m c 5 t (ix3 0 (subRow j h) l)) (fun h => iblk m c 6 t (ix3 0 (subRow j h) l)) = _
  rw [pay27_apply, headSum_eq]
  simp only [blk0, blk1, blk3, blk4, blk5, blk6, keyRow_eq, subRow_eq t.val]
  rfl

/-- One step: the accumulator, cleared at the first block of experts, plus the block's experts. -/
theorem accStep_apply (c : Dev nD) (t : Fin cfg0.N) (a : Vec Ideal S2048x384 .f32) (d : Fin 2048) (l : Fin 384) :
    accStep m c t a (ix2 d l)
      = (if t.val % 32 = 0 then 0 else a (ix2 d l)) + ∑ j : Fin 512, addend m c (batch t) (token t l) d (expert t.val j) := by
  unfold accStep accNext
  rw [pay96_apply]
  congr 1
  · by_cases h : t.val % 32 = 0
    · rw [if_pos h, if_pos ((isFirst_pos t).mpr h), pay26_apply]
    · rw [if_neg h, if_neg (fun hc => h ((isFirst_pos t).mp hc))]
  · refine Finset.sum_congr rfl fun j _ => ?_
    rw [blk2, blockAct_apply]
    rfl

/-- The accumulator after a position holds the sum over the experts met since the token block began. -/
theorem accAt_apply (c : Dev nD) (n : ℕ) (hn : n < cfg0.N) (d : Fin 2048) (l : Fin 384) :
    accAt m c n hn (ix2 d l)
      = ∑ e ∈ Finset.range (n % 32 + 1), ∑ j : Fin 512, addend m c (batch ⟨n, hn⟩) (token ⟨n, hn⟩ l) d (expert e j) := by
  induction n with
  | zero =>
    rw [show accAt m c 0 hn = accStep m c ⟨0, hn⟩ (k0_pay26 (F := Ideal)) by unfold accAt; rfl, accStep_apply]
    simp only [Nat.zero_mod, if_true, zero_add, Finset.sum_range_one]
  | succ n ih =>
    have hs := accStep_apply m c ⟨n + 1, hn⟩ (accAt m c n (Nat.lt_of_succ_lt hn)) d l
    rw [show accAt m c (n + 1) hn = accStep m c ⟨n + 1, hn⟩ (accAt m c n (Nat.lt_of_succ_lt hn)) from rfl, hs]
    have hx : ∀ j, expert (n + 1) j = expert ((n + 1) % 32) j := fun j =>
      Fin.ext (show 512 * ((n + 1) % 32) + j.val = 512 * ((n + 1) % 32 % 32) + j.val by rw [Nat.mod_mod])
    by_cases h : (n + 1) % 32 = 0
    · rw [if_pos h, zero_add]
      simp only [hx, h, zero_add, Finset.sum_range_one]
    · rw [if_neg h, ih]
      have hb : batch ⟨n, Nat.lt_of_succ_lt hn⟩ = batch ⟨n + 1, hn⟩ := Fin.ext (show n / 704 = (n + 1) / 704 by omega)
      have ht : token ⟨n, Nat.lt_of_succ_lt hn⟩ l = token ⟨n + 1, hn⟩ l :=
        Fin.ext (show 384 * (n / 32 % 22) + l.val = 384 * ((n + 1) / 32 % 22) + l.val by omega)
      have he : (n + 1) % 32 = n % 32 + 1 := by omega
      simp only [hb, ht, hx, he, Finset.sum_range_succ]

/-- The 32 blocks of 512 experts are the 16384 experts. -/
theorem sum_experts (f : Fin 16384 → Ideal .f32) : ∑ e ∈ Finset.range 32, ∑ j : Fin 512, f (expert e j) = ∑ e : Fin 16384, f e := by
  rw [Finset.sum_range, ← Fintype.sum_prod_type' (f := fun (e : Fin 32) (j : Fin 512) => f (expert e.val j))]
  refine Fintype.sum_equiv (finProdFinEquiv : Fin 32 × Fin 512 ≃ Fin (32 * 512)) _ f fun x => congrArg f (Fin.ext ?_)
  show 512 * (x.1.val % 32) + x.2.val = x.2.val + 512 * x.1.val
  have := x.1.isLt
  omega

/-! ## The output -/

/-- The row test of the gate, on words: row `l` of token block `i` lies in the context. -/
theorem context_iff (i : Fin 22) (l : Fin 384) :
    Scalar.cmpi .sge (Scalar.addi (Scalar.muli (BitVec.ofNat 32 i.val) 384#32) (BitVec.ofNat 32 l.val)) 8192#32
      = if 8192 ≤ 384 * i.val + l.val then 1#1 else 0#1 := by
  revert l; revert i
  decide +kernel

theorem pay1_apply (i : Fin 22) (g2 gb : Vec Ideal S1x1x2048 .f32) (x7 : Vec Ideal S1x384x2048 .f32) (acc : Vec Ideal S2048x384 .f32)
    (l : Fin 384) (d : Fin 2048) :
    k0_pay1 (F := Ideal) (BitVec.ofNat 32 i.val) g2 gb x7 acc (ix3 0 l d)
      = x7 (ix3 0 l d) + (if 8192 ≤ 384 * i.val + l.val then g2 (ix3 0 0 d) else gb (ix3 0 0 d)) * acc (ix2 d l) := by
  unfold k0_pay1
  simp only [shapeCast_self]
  rw [shapeCast_ab_1ab_apply]
  show (shapeCast S384x2048 x7 shapeCasts_S1x384x2048_S384x2048) (ix2 l d) + _ * _ = _
  rw [shapeCast_1ab_ab_apply]
  congr 1
  rw [transpose_ix2_apply]
  refine congrArg (· * acc (ix2 d l)) ?_
  show Scalar.select (broadcastTo S384x2048 _ _ (ix2 l d)) (broadcastTo S384x2048 _ _ (ix2 l d)) (broadcastTo S384x2048 _ _ (ix2 l d)) = _
  rw [broadcastTo_1b_ab_apply, broadcastTo_1b_ab_apply, shapeCast_1ab_ab_apply, shapeCast_1ab_ab_apply,
    broadcastTo_apply _ _ (ix2 l d) (ix2 l 0) (by intro a; fin_cases a <;> rfl)]
  have hi : iota .tc S384x1 32 [0] iota_S384x1_d0_w32 (ix2 l 0) = BitVec.ofNat 32 l.val := iota_single_apply _ _ _ _ _ _
  show Scalar.select (Scalar.cmpi .sge (Scalar.addi (Scalar.muli (BitVec.ofNat 32 i.val) 384#32) (iota .tc S384x1 32 [0] iota_S384x1_d0_w32 (ix2 l 0))) 8192#32) _ _ = _
  rw [hi]
  show Scalar.select (Scalar.cmpi .sge (Scalar.addi (Scalar.muli (BitVec.ofNat 32 i.val) 384#32) (BitVec.ofNat 32 l.val)) 8192#32) _ _ = _
  rw [context_iff]
  split <;> rfl

/-- The block written at the last block of experts, entry by entry. -/
theorem outBlock_apply (c : Dev nD) (t : Fin cfg0.N) (h31 : t.val % 32 = 31) (l : Fin 384) (d : Fin 2048) :
    outBlock (grid0.coords t) (iblk m c 7 t) (iblk m c 8 t) (accAt m c t.val t.isLt) (ix3 0 l d)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (ix3 (batch t) (token t l) d) := by
  unfold outBlock
  refine (pay1_apply ((grid0.coords t 1 : Fin 22)) _ _ _ _ l d).trans ?_
  rw [blk7, accAt_apply, h31, sum_experts (addend m c (batch t) (token t l) d)]
  have hrow : (if 8192 ≤ 384 * (grid0.coords t 1).val + l.val then iblk m c 8 t (ix3 2 0 d)
      else iblk m c 8 t (ix3 ⟨(grid0.coords t 0).val, Nat.lt_of_lt_of_le (grid0.coords t 0).isLt (by decide)⟩ 0 d))
      = gate (m ((c : Thread nD τ).loc main_arg8)) (batch t) (token t l) d := by
    rw [blk8, blk8]
    unfold gate
    have h0 : (⟨(grid0.coords t 0).val, Nat.lt_of_lt_of_le (grid0.coords t 0).isLt (by decide)⟩ : Fin 8) = ⟨(batch t).val, by omega⟩ :=
      Fin.ext (coord0 t)
    rw [h0, coord1]
    rfl
  exact congrArg (fun g : Ideal .f32 => (id (m ((c : Thread nD τ).loc main_arg7) (ix3 (batch t) (token t l) d)) : Ideal .f32)
    + g * ∑ e : Fin 16384, addend m c (batch t) (token t l) d e) hrow

/-- The output array after the whole grid. -/
theorem final_out (c : Dev nD) : (dats m 0 c).arrAt 9 cfg0.N
    = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  refine (dats m 0 c).arrAt_eq_of_covers 9 _ (by decide +kernel) fun t hf y => ?_
  rw [after9]
  obtain ⟨z, l, d, rfl⟩ : ∃ (z : Fin 1) (l : Fin 384) (d : Fin 2048), y = ix3 z l d := ⟨y 0, y 1, y 2, by funext a; fin_cases a <;> rfl⟩
  obtain rfl : z = 0 := Fin.ext (by omega)
  refine (outBlock_apply m c t ((flush0_9 t).mp hf) l d).trans (congrArg _ ?_)
  symm
  blk_ext! [pos9, batch, token]
  exact congrArg (· + l.val) (Nat.mul_comm _ _)

end Cert.KernelIdeal.Peer
end
-- ==== Proof.RefValue.lean ====
/-
  The reference's result is `result` of its arguments: the reshapes that split the expert number into its two keys read the
  rows `firstRow` and `secondRow`, the exact GELU is one function in both spellings, and the concatenation is the gate's row
  test.
-/
module

public import proofs.«01_k».proof.Proof.Value
public import proofs.«01_k».proof.Proof.Gen.ReferenceIdeal.Read

@[expose] public section

set_option maxRecDepth 16384

noncomputable section

namespace Cert.ReferenceIdeal.Peer

open Idealize.ShloMosaic hiding ix2 ix3 ix4 ix5
open Idealize.ShloMosaic.TcCoe Idealize.ShloMosaic.ValueIdx
open Cert.ReferenceIdeal Cert.ReferenceIdeal.Read
open Cert.KernelIdeal.Peer (firstRow secondRow weight preact contrib gate result gelu)

variable (x0 : Vec Ideal S2x8448x2048 .bf16) (x1 x2 : Vec Ideal S16384x2048 .f32) (x3 x4 x5 x6 : Vec Ideal S2x1024x8448 .f32)
  (x7 : Vec Ideal S2x8448x2048 .f32) (x8 : Vec Ideal S8x6x2048 .f32)

/-- The expert number's two keys. -/
theorem keys (b : Fin 2) (e : Fin 16384) (l : Fin 8448) :
    idx_main_v11 (ix3 b e l) = ix4 b (⟨e.val / 128, by omega⟩ : Fin 128) (⟨e.val % 128, by omega⟩ : Fin 128) l := by
  funext a
  have hb := b.isLt; have he := e.isLt; have hl := l.isLt
  match a with
  | ⟨0, _⟩ => exact Fin.ext (show ((b.val * 16384 + e.val) * 8448 + l.val) / 138412032 = b.val by omega)
  | ⟨1, _⟩ => exact Fin.ext (show ((b.val * 16384 + e.val) * 8448 + l.val) / 1081344 % 128 = e.val / 128 by omega)
  | ⟨2, _⟩ => exact Fin.ext (show ((b.val * 16384 + e.val) * 8448 + l.val) / 8448 % 128 = e.val % 128 by omega)
  | ⟨3, _⟩ => exact Fin.ext (show ((b.val * 16384 + e.val) * 8448 + l.val) % 8448 = l.val by omega)

/-- The row of a table split into heads and second keys. -/
theorem second_idx (b : Fin 2) (h : Fin 8) (p q : Fin 128) (l : Fin 8448) :
    idx_main_v0 (idx_main_v2 (ix5 b h p q l)) = ix3 b (⟨128 * h.val + q.val, by omega⟩ : Fin 1024) l := by
  funext a
  have hb := b.isLt; have hh := h.isLt; have hq := q.isLt; have hl := l.isLt
  match a with
  | ⟨0, _⟩ => exact Fin.ext (show ((((b.val * 8 + h.val) * 1 + 0) * 128 + q.val) * 8448 + l.val) / 8650752 = b.val by omega)
  | ⟨1, _⟩ => exact Fin.ext (show ((((b.val * 8 + h.val) * 1 + 0) * 128 + q.val) * 8448 + l.val) / 8448 % 1024 = 128 * h.val + q.val by omega)
  | ⟨2, _⟩ => exact Fin.ext (show ((((b.val * 8 + h.val) * 1 + 0) * 128 + q.val) * 8448 + l.val) % 8448 = l.val by omega)

/-- The row of a table split into heads and first keys. -/
theorem first_idx (b : Fin 2) (h : Fin 8) (p q : Fin 128) (l : Fin 8448) :
    idx_main_v1 (idx_main_v3 (ix5 b h p q l)) = ix3 b (⟨128 * h.val + p.val, by omega⟩ : Fin 1024) l := by
  funext a
  have hb := b.isLt; have hh := h.isLt; have hp := p.isLt; have hl := l.isLt
  match a with
  | ⟨0, _⟩ => exact Fin.ext (show ((((b.val * 8 + h.val) * 128 + p.val) * 1 + 0) * 8448 + l.val) / 8650752 = b.val by omega)
  | ⟨1, _⟩ => exact Fin.ext (show ((((b.val * 8 + h.val) * 128 + p.val) * 1 + 0) * 8448 + l.val) / 8448 % 1024 = 128 * h.val + p.val by omega)
  | ⟨2, _⟩ => exact Fin.ext (show ((((b.val * 8 + h.val) * 128 + p.val) * 1 + 0) * 8448 + l.val) % 8448 = l.val by omega)

theorem head_idx (b : Fin 2) (p q : Fin 128) (l : Fin 8448) (h : Fin 8) :
    idx_main_v10 (ix4 b p q l) h = ix5 b h p q l := by
  funext a
  match a with
  | ⟨0, _⟩ => rfl
  | ⟨1, _⟩ => rfl
  | ⟨2, _⟩ => rfl
  | ⟨3, _⟩ => rfl
  | ⟨4, _⟩ => rfl

/-- One head's term of the weights. -/
theorem v9_at (b : Fin 2) (h : Fin 8) (p q : Fin 128) (l : Fin 8448) :
    val_main_v9 (F := Ideal) x3 x4 x5 x6 (ix5 b h p q l)
      = Scalar.select (FloatOps.cmpf (F := Ideal) (φ := .f32) .oge (x5 (ix3 b (⟨128 * h.val + q.val, by omega⟩ : Fin 1024) l)) (x3 (ix3 b (⟨128 * h.val + p.val, by omega⟩ : Fin 1024) l)))
          (x6 (ix3 b (⟨128 * h.val + q.val, by omega⟩ : Fin 1024) l)) (0 : Ideal .f32)
        * x4 (ix3 b (⟨128 * h.val + p.val, by omega⟩ : Fin 1024) l) := by
  have e2 := second_idx b h p q l
  have e1 := first_idx b h p q l
  rw [val_main_v9_apply, val_main_v6_apply, val_main_v4_apply, val_main_v2_apply, val_main_v0_apply, val_main_v3_apply,
    val_main_v1_apply, val_main_call0_v1_apply, val_main_v5_apply, val_main_call0_v2_apply, val_main_call0_v0_apply,
    val_main_cst_apply, val_main_v8_apply, val_main_v7_apply, Ideal.ofBits_def, Ideal.ofBits_zero_f32, Ideal.mulf_def,
    e2, e1]
  rw [show idx_main_v5 (idx_main_call0_v1 (ix5 b h p q l)) = _ from e2, show idx_main_v7 (idx_main_v8 (ix5 b h p q l)) = _ from e1]

/-- The heads' weights. -/
theorem v11_at (b : Fin 2) (e : Fin 16384) (l : Fin 8448) :
    val_main_v11 (F := Ideal) x3 x4 x5 x6 (ix3 b e l) = weight x3 x4 x5 x6 b l e := by
  rw [val_main_v11_apply, keys, val_main_v10_apply, val_main_cst_0_apply, Ideal.ofBits_def, Ideal.ofBits_zero_f32, zero_add]
  refine Finset.sum_congr rfl fun h _ => ?_
  rw [head_idx, v9_at]
  rfl

/-- The pre-activations. -/
theorem v14_at (b : Fin 2) (e : Fin 16384) (l : Fin 8448) :
    val_main_v14 (F := Ideal) x0 x1 (ix3 b e l) = preact x0 x1 b l e := by
  rw [val_main_v14_apply, val_main_v13_apply]
  refine Finset.sum_congr rfl fun k _ => ?_
  rw [val_main_v12_apply, Ideal.extf_def]
  refine congrArg₂ (· * ·) (congrArg x1 ?_) (congrArg x0 ?_)
  · funext a
    match a with
    | ⟨0, _⟩ => rfl
    | ⟨1, _⟩ => rfl
  · funext a
    match a with
    | ⟨0, _⟩ => rfl
    | ⟨1, _⟩ => rfl
    | ⟨2, _⟩ => rfl

/-- The exact GELU of the pre-activations, written with the complementary error function. -/
theorem v21_at (i : S2x16384x8448.Idx) :
    val_main_v21 (F := Ideal) x0 x1 i = gelu (F := Ideal) (val_main_v14 (F := Ideal) x0 x1 i) := by
  rw [val_main_v21_apply, val_main_v16_apply, val_main_v20_apply, val_main_v19_apply, val_main_v17_apply, val_main_v15_apply,
    val_main_v18_apply, val_main_cst_1_apply, val_main_cst_2_apply]
  unfold gelu
  simp only [Ideal.mulf_def, Ideal.addf_def, Ideal.erf_def, Ideal.hostUnary_erfc_def, Ideal.hostNegf_def, Ideal.negf_def, neg_mul, Ideal.erfc_neg]
  rw [Ideal.ofBits_def (φ := .f32) 0x3F800000#32, Ideal.ofBits_one_f32]

/-- The layer before the gate. -/
theorem v23_at (b : Fin 2) (l : Fin 8448) (d : Fin 2048) :
    val_main_v23 (F := Ideal) x0 x1 x2 x3 x4 x5 x6 (ix3 b l d) = ∑ e : Fin 16384, contrib x0 x1 x2 x3 x4 x5 x6 b l d e := by
  rw [val_main_v23_apply]
  refine Finset.sum_congr rfl fun e _ => ?_
  have h1 : lidx_main_v23 (ix3 b l d) e = ix3 b e l := by
    funext a
    match a with
    | ⟨0, _⟩ => rfl
    | ⟨1, _⟩ => rfl
    | ⟨2, _⟩ => rfl
  have h2 : ridx_main_v23 (ix3 b l d) e = ix2 e d := by
    funext a
    match a with
    | ⟨0, _⟩ => rfl
    | ⟨1, _⟩ => rfl
  rw [h1, h2, val_main_v22_apply, v11_at, v21_at, v14_at, Ideal.mulf_def]
  unfold contrib
  rw [mul_comm, mul_comm (gelu _)]

/-- The gate's row for the latent tokens. -/
theorem gate_latent (b : Fin 2) (l : Fin 8192) (d : Fin 2048) :
    val_main_v31 (F := Ideal) x8 (ix3 b l d) = x8 (ix3 (⟨b.val, by omega⟩ : Fin 8) (5 : Fin 6) d) := by
  rw [val_main_v31_apply, val_main_v26_apply, val_main_v25_apply, val_main_v24_apply]
  refine congrArg x8 ?_
  funext a
  have hb := b.isLt; have hd := d.isLt
  match a with
  | ⟨0, _⟩ => exact Fin.ext (show (b.val * 2048 + d.val) / 2048 = b.val by omega)
  | ⟨1, _⟩ => rfl
  | ⟨2, _⟩ => exact Fin.ext (show (b.val * 2048 + d.val) % 2048 = d.val by omega)

/-- The gate's row for the context tokens. -/
theorem gate_context (b : Fin 2) (l : Fin 256) (d : Fin 2048) :
    val_main_v37 (F := Ideal) x8 (ix3 b l d) = x8 (ix3 (2 : Fin 8) (5 : Fin 6) d) := by
  rw [val_main_v37_apply, val_main_v36_apply, val_main_v28_apply, val_main_v27_apply]
  refine congrArg x8 ?_
  funext a
  have hd := d.isLt
  match a with
  | ⟨0, _⟩ => rfl
  | ⟨1, _⟩ => rfl
  | ⟨2, _⟩ => exact Fin.ext (show d.val % 2048 = d.val by omega)

/-- The reference's result. -/
theorem value : val_main_v40 (F := Ideal) x0 x1 x2 x3 x4 x5 x6 x7 x8 = result x0 x1 x2 x3 x4 x5 x6 x7 x8 := by
  funext y
  obtain ⟨b, l, d, rfl⟩ : ∃ (b : Fin 2) (l : Fin 8448) (d : Fin 2048), y = ix3 b l d :=
    ⟨y 0, y 1, y 2, by funext a; match a with | ⟨0, _⟩ => rfl | ⟨1, _⟩ => rfl | ⟨2, _⟩ => rfl⟩
  unfold val_main_v40
  show _ = x7 (ix3 b l d) + gate x8 b l d * ∑ e : Fin 16384, contrib x0 x1 x2 x3 x4 x5 x6 b l d e
  by_cases h : l.val < 8192
  · rw [concatenate_pair_apply_left (s₁ := S2x8192x2048) (s₂ := S2x256x2048) 1 _ _ _ (ix3 b l d) rfl (ix3 b (⟨l.val, h⟩ : Fin 8192) d)
      (fun a => match a with | ⟨0, _⟩ => rfl | ⟨1, _⟩ => rfl | ⟨2, _⟩ => rfl)]
    rw [val_main_v33_apply, val_main_v32_apply, gate_latent, val_main_v30_apply, val_main_v29_apply, Ideal.addf_def, Ideal.mulf_def]
    have hi : idx_main_v30 (ix3 b (⟨l.val, h⟩ : Fin 8192) d) = ix3 b l d := by
      funext a
      match a with
      | ⟨0, _⟩ => rfl
      | ⟨1, _⟩ => rfl
      | ⟨2, _⟩ => rfl
    rw [show idx_main_v29 (ix3 b (⟨l.val, h⟩ : Fin 8192) d) = _ from hi, hi, v23_at]
    unfold gate
    rw [if_neg (by omega)]
  · have hl := l.isLt
    rw [concatenate_pair_apply_right (s₁ := S2x8192x2048) (s₂ := S2x256x2048) 1 _ _ _ (ix3 b l d) rfl rfl (ix3 b (⟨l.val - 8192, by omega⟩ : Fin 256) d)
      (fun a ha => match a with | ⟨0, _⟩ => rfl | ⟨1, _⟩ => absurd rfl ha | ⟨2, _⟩ => rfl)
      (show l.val - 8192 + 8192 = l.val by omega)]
    rw [val_main_v39_apply, val_main_v38_apply, gate_context, val_main_v35_apply, val_main_v34_apply, Ideal.addf_def, Ideal.mulf_def]
    have hi : idx_main_v35 (ix3 b (⟨l.val - 8192, by omega⟩ : Fin 256) d) = ix3 b l d := by
      funext a
      match a with
      | ⟨0, _⟩ => rfl
      | ⟨1, _⟩ => exact Fin.ext (show 8192 + (l.val - 8192) = l.val by omega)
      | ⟨2, _⟩ => rfl
    rw [show idx_main_v34 (ix3 b (⟨l.val - 8192, by omega⟩ : Fin 256) d) = _ from hi, hi, v23_at]
    unfold gate
    rw [if_pos (by omega)]

end Cert.ReferenceIdeal.Peer
end
-- ==== Proof.Equal.lean ====
/-
  The expert layer's kernel and its reference compute the same array, from the two runs: each ends holding `result` of the
  arguments.
-/
module

public import proofs.«01_k».proof.Proof.Frames
public import proofs.«01_k».proof.Proof.Total
public import proofs.«01_k».proof.Proof.RefValue
public import proofs.«01_k».proof.Proof.Gen.ReferenceIdeal
public import Idealize.ShloMosaic.Lib.Quiescent

@[expose] public section

noncomputable section

namespace Cert.Peer

open Idealize.ShloMosaic Idealize.SL.Sem
open Cert.KernelIdeal.Peer (result)

/-- The reference leaves its arguments alone; it has no counters. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- Equal results from equal arguments. -/
theorem algebraic : Cert.algebraic_KernelIdeal_ReferenceIdeal := by
  intro m ρ m' ρ' _ hargs
  refine ⟨fun c => result (m ((c.tc : Thread _ Cert.KernelIdeal.τ).loc Cert.KernelIdeal.main_arg0))
    (m ((c.tc : Thread _ Cert.KernelIdeal.τ).loc Cert.KernelIdeal.main_arg1)) (m ((c.tc : Thread _ Cert.KernelIdeal.τ).loc Cert.KernelIdeal.main_arg2))
    (m ((c.tc : Thread _ Cert.KernelIdeal.τ).loc Cert.KernelIdeal.main_arg3)) (m ((c.tc : Thread _ Cert.KernelIdeal.τ).loc Cert.KernelIdeal.main_arg4))
    (m ((c.tc : Thread _ Cert.KernelIdeal.τ).loc Cert.KernelIdeal.main_arg5)) (m ((c.tc : Thread _ Cert.KernelIdeal.τ).loc Cert.KernelIdeal.main_arg6))
    (m ((c.tc : Thread _ Cert.KernelIdeal.τ).loc Cert.KernelIdeal.main_arg7)) (m ((c.tc : Thread _ Cert.KernelIdeal.τ).loc Cert.KernelIdeal.main_arg8)), ?_, ?_⟩
  · have h1 := Cert.KernelIdeal.Peer.run_main m ρ
    have h2 := Cert.KernelIdeal.Peer.frame m ρ
    exact (θ_run Cert.KernelIdeal.defs _ _).mono
      (fun r h c => ⟨(h.1.out_eq c 9).trans (Cert.KernelIdeal.Peer.final_out m c), h.2.1 c⟩) (θ_run_and h1 h2)
  · refine (θ_run Cert.ReferenceIdeal.defs _ _).mono (fun r h c => ⟨(h c).1.trans ?_, (h c).2⟩) (Cert.ReferenceIdeal.Value.run m' ρ')
    obtain ⟨h0, h1, h2, h3, h4, h5, h6, h7, h8⟩ := hargs c
    rw [Cert.ReferenceIdeal.Read.val_main_v40_eq, h0, h1, h2, h3, h4, h5, h6, h7, h8]
    exact Cert.ReferenceIdeal.Peer.value _ _ _ _ _ _ _ _ _

end Cert.Peer
end
-- ==== Proof.Specs.lean ====
/-
  What the dense calls of a layer compute over the extended reals, in closed form, from the argument arrays.

  A token's modulation row is row 2 for the context's tokens and the batch's row for the latent ones (`modRow`). A token is
  normalised by the root of its mean square, weighted, scaled and shifted (`stream`). The projections multiply the stream by a
  matrix (`project`); the output projection adds its gated product to the residual (`outProj`); the result is the latent
  tokens normalised and weighted (`normed`).
-/
module

public import Idealize.ShloMosaic.Lib.Pipeline.Value
public import Idealize.ShloMosaic.Lib.Pipeline.ValueKit
public import Idealize.ShloMosaic.Lib.MatmulPlain
public import Idealize.ShloMosaic.Lib.ValueLayout
public import Idealize.ShloMosaic.Lib.ValueLayoutCasts
public import Idealize.ShloMosaic.PureOps.Ideal.Laws

@[expose] public section

noncomputable section

namespace Cert.Layer

open Idealize.ShloMosaic hiding ix1 ix2 ix3 ix4 ix5
open Idealize.ShloMosaic.ValueIdx

/-- A float for every token's feature, in either format. -/
abbrev Tokens (φ : FTy) := FVec Ideal ⟨3, ![2, 8448, 2048]⟩ φ
/-- The modulation's six rows per batch. -/
abbrev Modulation := FVec Ideal ⟨3, ![8, 6, 2048]⟩ .f32
/-- A matrix of `n` columns. -/
abbrev Matrix (n : ℕ) (φ : FTy) := FVec Ideal ⟨2, ![2048, n]⟩ φ
/-- A weight for every feature. -/
abbrev Features := FVec Ideal ⟨1, ![2048]⟩ .f32

/-- The batch as a row of the modulation. -/
def batchRow (b : Fin 2) : Fin 8 := ⟨b.val, by omega⟩

/-- Modulation `k` of feature `d` at a token. -/
def modRow (md : Modulation) (k : Fin 6) (b : Fin 2) (l : Fin 8448) (d : Fin 2048) : Ideal .f32 :=
  if 8192 ≤ l.val then md (ix3 2 k d) else md (ix3 (batchRow b) k d)

/-- The reciprocal root of a row's mean square. -/
def invRms (x : Fin 2048 → Ideal .f32) : Ideal .f32 :=
  FloatOps.rsqrt (F := Ideal) (φ := .f32)
    (Ideal.div (∑ k : Fin 2048, x k * x k) (FloatOps.ofBits (F := Ideal) .f32 0x45000000#32) + FloatOps.ofBits (F := Ideal) .f32 0x358637BD#32)

/-- A normalised and weighted feature of a row. -/
def normed (x : Fin 2048 → Ideal .f32) (w : Features) (d : Fin 2048) : Ideal .f32 := x d * invRms x * w (ix1 d)

/-- The stream a projection reads: normalised, weighted, scaled by modulation `k₁` and shifted by modulation `k₀`. -/
def stream (x : Tokens .f32) (w : Features) (md : Modulation) (k₀ k₁ : Fin 6) (b : Fin 2) (l : Fin 8448) (d : Fin 2048) : Ideal .f32 :=
  normed (fun k => x (ix3 b l k)) w d * (FloatOps.ofBits (F := Ideal) .f32 0x3F800000#32 + modRow md k₁ b l d) + modRow md k₀ b l d

/-- The stream's product with column `j` of a matrix. -/
def project {n : ℕ} (x : Tokens .f32) (w : Features) (md : Modulation) (k₀ k₁ : Fin 6) (p : Matrix n .f32) (b : Fin 2) (l : Fin 8448)
    (j : Fin n) : Ideal .f32 :=
  ∑ k : Fin 2048, stream x w md k₀ k₁ b l k * p (ix2 k j)

/-- The output projection with its gated residual. -/
def outProj (u : Tokens .bf16) (p : Matrix 2048 .f32) (x : Tokens .f32) (md : Modulation) : Tokens .f32 := fun y =>
  x y + modRow md 2 (y 0) (y 1) (y 2) * ∑ k : Fin 2048, u (ix3 (y 0) (y 1) k) * p (ix2 k (y 2))

/-- The row test of a block of 768 tokens, on words: row `l` of token block `i` lies in the context. -/
theorem context_iff (i : Fin 11) (l : Fin 768) :
    Scalar.cmpi .sge (Scalar.addi (Scalar.muli (BitVec.ofNat 32 i.val) 768#32) (BitVec.ofNat 32 l.val)) 8192#32
      = if 8192 ≤ 768 * i.val + l.val then 1#1 else 0#1 := by
  revert l; revert i
  decide +kernel

end Cert.Layer
end
-- ==== Proof.Project2.lean ====
/-
  A projection of the normalised stream: on the first column block of every 768 tokens the kernel normalises them into its
  scratch, and on every column block multiplies the scratch by the block's columns. The scratch holds the stream throughout a
  row of column blocks, so every block of the result is one of `project`'s.
-/
module

public import proofs.«01_k».proof.Proof.Specs
public import proofs.«01_k».proof.Proof.Gen.Kernel2Ideal.Value

@[expose] public section

set_option maxRecDepth 16384

noncomputable section

namespace Cert.Kernel2Ideal.Dense

open Idealize.ShloMosaic hiding ix1 ix2 ix3 ix4 ix5
open Idealize.ShloMosaic.TcCoe Idealize.ShloMosaic.Tactic Idealize.ShloMosaic.ValueIdx
open Idealize.SL Idealize.SL.RA Idealize.SL.BI Idealize.SL.Sem
open Cert.Kernel2Ideal.Gen Cert.Layer

/-- The row test at a row. -/
theorem pay3_apply (i : Fin 11) (l : Fin 768) :
    k0_pay3 (BitVec.ofNat 32 i.val) (ix2 l 0) = if 8192 ≤ 768 * i.val + l.val then 1#1 else 0#1 := by
  unfold k0_pay3
  have hi : iota .tc S768x1 32 [0] iota_S768x1_d0_w32 (ix2 l 0) = BitVec.ofNat 32 l.val := iota_single_apply _ _ _ _ _ _
  show Scalar.cmpi .sge (Scalar.addi (Scalar.muli (BitVec.ofNat 32 i.val) 768#32) (iota .tc S768x1 32 [0] iota_S768x1_d0_w32 (ix2 l 0))) 8192#32 = _
  rw [hi, context_iff]

/-- A modulation row chosen by the row test. -/
theorem pay4_apply (i : Fin 11) (g gb : Vec Ideal S1x1x2048 .f32) (l : Fin 768) (d : Fin 2048) :
    k0_pay4 (F := Ideal) (BitVec.ofNat 32 i.val) gb g (ix2 l d) = if 8192 ≤ 768 * i.val + l.val then g (ix3 0 0 d) else gb (ix3 0 0 d) := by
  unfold k0_pay4
  simp only [shapeCast_self]
  show Scalar.select (broadcastTo S768x2048 _ _ (ix2 l d)) (broadcastTo S768x2048 _ _ (ix2 l d)) (broadcastTo S768x2048 _ _ (ix2 l d)) = _
  rw [broadcastTo_1b_ab_apply, broadcastTo_1b_ab_apply, shapeCast_1ab_ab_apply, shapeCast_1ab_ab_apply,
    broadcastTo_apply _ _ (ix2 l d) (ix2 l 0) (by intro a; fin_cases a <;> rfl), pay3_apply]
  split <;> rfl

theorem pay5_apply (i : Fin 11) (g gb : Vec Ideal S1x1x2048 .f32) (l : Fin 768) (d : Fin 2048) :
    k0_pay5 (F := Ideal) (BitVec.ofNat 32 i.val) gb g (ix2 l d) = if 8192 ≤ 768 * i.val + l.val then g (ix3 0 0 d) else gb (ix3 0 0 d) := by
  unfold k0_pay5
  simp only [shapeCast_self]
  show Scalar.select (broadcastTo S768x2048 _ _ (ix2 l d)) (broadcastTo S768x2048 _ _ (ix2 l d)) (broadcastTo S768x2048 _ _ (ix2 l d)) = _
  rw [broadcastTo_1b_ab_apply, broadcastTo_1b_ab_apply, shapeCast_1ab_ab_apply, shapeCast_1ab_ab_apply,
    broadcastTo_apply _ _ (ix2 l d) (ix2 l 0) (by intro a; fin_cases a <;> rfl), pay3_apply]
  split <;> rfl

theorem pay6_apply (x : Vec Ideal S1x768x2048 .f32) (l : Fin 768) (d : Fin 2048) : k0_pay6 (F := Ideal) x (ix2 l d) = x (ix3 0 l d) := by
  unfold k0_pay6
  rw [shapeCast_1ab_ab_apply]

/-- A row's mean square. -/
theorem pay8_apply (x : Vec Ideal S1x768x2048 .f32) (l : Fin 768) :
    k0_pay8 (F := Ideal) x (ix2 l 0)
      = Ideal.div (∑ k : Fin 2048, x (ix3 0 l k) * x (ix3 0 l k)) (FloatOps.ofBits (F := Ideal) .f32 0x45000000#32) := by
  unfold k0_pay8
  show FloatOps.divf (F := Ideal) (φ := .f32) (shapeCast S768x1 _ _ (ix2 l 0)) _ = _
  rw [Ideal.divf_def, shapeCast_a_a1_apply]
  refine congrArg₂ Ideal.div ((Ideal.multiReduction_add_single _ _ _ _ _ _).trans (Finset.sum_congr rfl fun k _ => ?_)) rfl
  show k0_pay6 x _ * k0_pay6 x _ = _
  have hk : reduces_S768x2048_S768.lift (ix1 l) k = ix2 l k := by
    funext a
    match a with
    | ⟨0, _⟩ => rfl
    | ⟨1, _⟩ => rfl
  rw [show reduces_S768x2048_S768.lift (ix1 l) k = ix2 l k from hk]
  exact congrArg₂ (· * ·) (pay6_apply x l k) (pay6_apply x l k)

/-- The normalised, weighted, scaled and shifted row. -/
theorem pay1_apply (sh sc x : Vec Ideal S768x2048 .f32) (w : Vec Ideal S1x2048 .f32) (ms eps : Vec Ideal S768x1 .f32) (l : Fin 768) (d : Fin 2048) :
    k0_pay1 (F := Ideal) sh sc x w ms eps (ix2 l d)
      = x (ix2 l d) * FloatOps.rsqrt (F := Ideal) (φ := .f32) (ms (ix2 l 0) + eps (ix2 l 0)) * w (ix2 0 d)
          * (FloatOps.ofBits (F := Ideal) .f32 0x3F800000#32 + sc (ix2 l d)) + sh (ix2 l d) := by
  unfold k0_pay1
  simp only [shapeCast_self]
  show x (ix2 l d) * broadcastTo S768x2048 _ _ (ix2 l d) * broadcastTo S768x2048 _ _ (ix2 l d) * _ + _ = _
  rw [broadcastTo_1b_ab_apply, broadcastTo_apply _ _ (ix2 l d) (ix2 l 0) (by intro a; fin_cases a <;> rfl)]
  rfl

/-- The product of the scratch and a block of columns. -/
theorem pay2_apply (u : Vec Ideal S768x2048 .bf16) (p : Vec Ideal S2048x512 .bf16) (l : Fin 768) (d : Fin 512) :
    k0_pay2 (F := Ideal) u p (ix3 0 l d) = ∑ k : Fin 2048, u (ix2 l k) * p (ix2 k d) := by
  unfold k0_pay2
  simp only [shapeCast_self]
  rw [shapeCast_ab_1ab_apply]
  refine (Ideal.matmul_plain_apply (M := 768) (K := 2048) (N := 512) none _ _ _ l d).trans ?_
  rw [show constant (F := Ideal) S768x512 .f32 0x00000000#32 (ix2 l d) = 0 from Ideal.ofBits_zero_f32, zero_add]

variable (m : (ℓ : Loc nD τ sig) → Buf (Elt Ideal) ℓ)

theorem V_w (c : Dev nD) (d : Fin 2048) : (V m c main_v2 : Vec Ideal S1x2048 .f32) (ix2 0 d)
    = (m ((c : Thread nD τ).loc main_arg1) : Vec Ideal S2048 .f32) (ix1 d) := by
  have h : V m c main_v2 = shapeCast S1x2048 (m ((c : Thread nD τ).loc main_arg1) : Vec Ideal S2048 .f32) shapeCasts_S2048_S1x2048 := by
    show StableHlo.after hostOps0 _ (Proc.devRef .tc main_v2) = _
    after_results
    rfl
  rw [h, shapeCast_a_1a_apply]

theorem V_p (c : Dev nD) : V m c main_v1
    = extractStridedSlice S2048x5120 ![0, 1024] (m ((c : Thread nD τ).loc main_arg3) : Vec Ideal S2048x6144 .f32) slices_S2048x6144_S2048x5120_0_1024 := by
  show StableHlo.after hostOps0 _ (Proc.devRef .tc main_v1) = _
  after_results
  rfl

/-- The batch, the token and the column of a point's block. -/
def batch (t : Fin cfg0.N) : Fin 2 := ⟨t.val / 110, by have h : t.val < 220 := Nat.lt_of_lt_of_eq t.isLt N_0; omega⟩
def token (t : Fin cfg0.N) (l : Fin 768) : Fin 8448 := ⟨768 * (t.val / 10 % 11) + l.val, by have := l.isLt; omega⟩
def column (t : Fin cfg0.N) (d : Fin 512) : Fin 5120 := ⟨512 * (t.val % 10) + d.val, by have := d.isLt; omega⟩
/-- The column in the whole matrix. -/
def source (j : Fin 5120) : Fin 6144 := ⟨1024 + j.val, by omega⟩

theorem coord0 (t : Fin cfg0.N) : (grid0.coords t 0).val = t.val / 110 := by
  have h : t.val < 220 := Nat.lt_of_lt_of_eq t.isLt N_0
  have e : (grid0.coords t 0).val = t.val / 110 % 2 := Pipeline.Grid.coords_val t 0 (by decide) rfl
  rw [e]; omega
theorem coord1 (t : Fin cfg0.N) : (grid0.coords t 1).val = t.val / 10 % 11 := Pipeline.Grid.coords_val t 1 (by decide) rfl

theorem pos0 : ∀ t : Fin cfg0.N, win0_0.index t = ![t.val / 110, t.val / 10 % 11, 0] := (by decide +kernel : ∀ t : Fin grid0.N, _)
theorem pos1 : ∀ t : Fin cfg0.N, win0_1.index t = ![0, 0] := (by decide +kernel : ∀ t : Fin grid0.N, _)
theorem pos2 : ∀ t : Fin cfg0.N, win0_2.index t = ![0, 0, 0] := (by decide +kernel : ∀ t : Fin grid0.N, _)
theorem pos3 : ∀ t : Fin cfg0.N, win0_3.index t = ![0, t.val % 10] := (by decide +kernel : ∀ t : Fin grid0.N, _)
theorem pos4 : ∀ t : Fin cfg0.N, win0_4.index t = ![t.val / 110, t.val / 10 % 11, t.val % 10] := (by decide +kernel : ∀ t : Fin grid0.N, _)

theorem blk0 (c : Dev nD) (t : Fin cfg0.N) (l : Fin 768) (k : Fin 2048) :
    iblk m c 0 t (ix3 0 l k) = m ((c : Thread nD τ).loc main_arg0) (ix3 (batch t) (token t l) k) := by
  blk_ext! [iblk, pos0, batch, token]
  exact congrArg (· + l.val) (Nat.mul_comm _ _)

theorem blk1 (c : Dev nD) (t : Fin cfg0.N) (k : Fin 2048) :
    iblk m c 1 t (ix2 0 k) = m ((c : Thread nD τ).loc main_arg1) (ix1 k) := by
  refine Eq.trans ?_ (V_w m c k)
  blk_ext! [iblk, pos1]

theorem blk2 (c : Dev nD) (t : Fin cfg0.N) (r : Fin 8) (k : Fin 6) (d : Fin 2048) :
    iblk m c 2 t (ix3 r k d) = m ((c : Thread nD τ).loc main_arg2) (ix3 r k d) := by
  blk_ext! [iblk, pos2]

theorem blk3 (c : Dev nD) (t : Fin cfg0.N) (k : Fin 2048) (d : Fin 512) :
    iblk m c 3 t (ix2 k d) = m ((c : Thread nD τ).loc main_arg3) (ix2 k (source (column t d))) := by
  blk_ext! [iblk, V_p, pos3, column, source]
  exact congrArg (1024 + · ) (congrArg (· + d.val) (Nat.mul_comm _ _))

/-- A row of the modulation read out of the whole. -/
theorem mod_row (X : Vec Ideal S8x6x2048 .f32) (r : Fin 8) (k : Fin 6) (off : Fin 3 → Nat) (inb : ∀ a, off a + ![1, 1, 2048] a ≤ S8x6x2048.size a)
    (h : off = ![r.val, k.val, 0]) (d : Fin 2048) : View.ld X (Rect.unit off ![1, 1, 2048] inb) (ix3 0 0 d) = X (ix3 r k d) := by
  subst h
  refine congrArg X (funext fun a => Fin.ext ?_)
  match a with
  | ⟨0, _⟩ => rfl
  | ⟨1, _⟩ => rfl
  | ⟨2, _⟩ => show 0 + 1 * d.val = d.val; omega

theorem row_word : ∀ b : Fin 2, (Scalar.indexCast (BitVec.ofNat 32 b.val)).toNat = b.val := by decide

theorem off1_eq (t : Fin cfg0.N) : k0_off1 (grid0.coords t) = ![(batchRow (batch t)).val, (0 : Fin 6).val, 0] := by
  refine congrArg (fun n : ℕ => ![n, 0, 0]) ?_
  exact (row_word (grid0.coords t 0)).trans (coord0 t)

theorem off2_eq (t : Fin cfg0.N) : k0_off2 (grid0.coords t) = ![(batchRow (batch t)).val, (1 : Fin 6).val, 0] := by
  refine congrArg (fun n : ℕ => ![n, 1, 0]) ?_
  exact (row_word (grid0.coords t 0)).trans (coord0 t)

/-- The stream of the arguments. -/
abbrev streamOf (c : Dev nD) : Fin 2 → Fin 8448 → Fin 2048 → Ideal .f32 :=
  stream (m ((c : Thread nD τ).loc main_arg0)) (m ((c : Thread nD τ).loc main_arg1)) (m ((c : Thread nD τ).loc main_arg2)) 0 1

/-- The scratch after a first column block. -/
theorem scratch_first (c : Dev nD) (t : Fin cfg0.N) (h0 : t.val % 10 = 0) (l : Fin 768) (k : Fin 2048) :
    (outsAt0 m c t.val t.isLt).2 (ix2 l k) = streamOf m c (batch t) (token t l) k := by
  rw [outsAt0_A m c t h0]
  frame_out
  rw [pay1_apply, pay4_apply (grid0.coords t 1), pay5_apply (grid0.coords t 1), pay6_apply, pay8_apply]
  rw [mod_row _ 2 0 ![2, 0, 0] _ rfl, mod_row _ 2 1 ![2, 1, 0] _ rfl, mod_row _ (batchRow (batch t)) 0 _ _ (off1_eq t),
    mod_row _ (batchRow (batch t)) 1 _ _ (off2_eq t)]
  have h7 : k0_pay7 (F := Ideal) (iblk m c 1 t) (ix2 0 k) = iblk m c 1 t (ix2 0 k) := by
    unfold k0_pay7
    simp only [shapeCast_self]
  rw [h7]
  simp only [blk0, blk1, blk2, coord1]
  unfold streamOf stream normed invRms modRow
  rfl

/-- A later column block keeps it. -/
theorem scratch_later (c : Dev nD) (t : Fin cfg0.N) (h0 : ¬t.val % 10 = 0) :
    (outsAt0 m c t.val t.isLt).2 = (outsAt0 m c (t.val - 1) (Nat.lt_of_le_of_lt (Nat.sub_le _ _) t.isLt)).2 := by
  rw [outsAt0_B m c t h0]
  rfl

/-- A block is the product of the scratch as the block leaves it and the block's columns. -/
theorem block_eq (c : Dev nD) (t : Fin cfg0.N) :
    (outsAt0 m c t.val t.isLt).1 = k0_pay2 (outsAt0 m c t.val t.isLt).2 (iblk m c 3 t) := by
  by_cases h0 : t.val % 10 = 0
  · rw [outsAt0_A m c t h0]
    frame_out
  · rw [scratch_later m c t h0, outsAt0_B m c t h0]
    frame_out
    exact congrArg (k0_pay2 · (iblk m c 3 t)) (Memref.IsWhole.read_unread _ _)

/-- The scratch holds the stream of the point's tokens. -/
theorem scratch_eq (c : Dev nD) : ∀ (n : ℕ) (t : Fin cfg0.N), t.val = n → ∀ (l : Fin 768) (k : Fin 2048),
    (outsAt0 m c t.val t.isLt).2 (ix2 l k) = streamOf m c (batch t) (token t l) k := by
  intro n
  induction n with
  | zero => intro t ht; exact scratch_first m c t (by omega)
  | succ n ih =>
    intro t ht l k
    by_cases h0 : t.val % 10 = 0
    · exact scratch_first m c t h0 l k
    · rw [scratch_later m c t h0]
      have hn : t.val - 1 < cfg0.N := Nat.lt_of_le_of_lt (Nat.sub_le _ _) t.isLt
      refine (ih ⟨t.val - 1, hn⟩ (show t.val - 1 = n by omega) l k).trans ?_
      rw [show batch ⟨t.val - 1, hn⟩ = batch t from Fin.ext (show (t.val - 1) / 110 = t.val / 110 by omega),
        show token ⟨t.val - 1, hn⟩ l = token t l from
          Fin.ext (show 768 * ((t.val - 1) / 10 % 11) + l.val = 768 * (t.val / 10 % 11) + l.val by omega)]

/-- The array of the products with the taken columns. -/
def projected (c : Dev nD) : Vec Ideal S2x8448x5120 .f32 := fun y =>
  project (m ((c : Thread nD τ).loc main_arg0)) (m ((c : Thread nD τ).loc main_arg1)) (m ((c : Thread nD τ).loc main_arg2)) 0 1
    (m ((c : Thread nD τ).loc main_arg3)) (y 0) (y 1) (source (y 2))

/-- The point's block of the result. -/
theorem out_apply (c : Dev nD) (t : Fin cfg0.N) (l : Fin 768) (d : Fin 512) :
    (outsAt0 m c t.val t.isLt).1 (ix3 0 l d) = projected m c (ix3 (batch t) (token t l) (column t d)) := by
  rw [block_eq, pay2_apply]
  simp only [scratch_eq m c t.val t rfl, blk3]
  rfl

/-- The output array after the whole grid. -/
theorem final_out (c : Dev nD) : (dats m 0 c).arrAt 4 cfg0.N = projected m c := by
  refine (dats m 0 c).arrAt_eq_of_covers 4 _ (by decide +kernel) fun t hf y => ?_
  rw [after0_4]
  have h := out_apply m c t
  generalize outsAt0 m c t.val t.isLt = o at h ⊢
  obtain ⟨z, l, d, rfl⟩ : ∃ (z : Fin 1) (l : Fin 768) (d : Fin 512), y = ix3 z l d := ⟨y 0, y 1, y 2, by funext a; fin_cases a <;> rfl⟩
  obtain rfl : z = 0 := Fin.ext (by omega)
  refine (h l d).trans (congrArg _ ?_)
  symm
  blk_ext! [pos4, batch, token, column]
  · exact congrArg (· + l.val) (Nat.mul_comm _ _)
  · exact congrArg (· + d.val) (Nat.mul_comm _ _)

end Cert.Kernel2Ideal.Dense
end
-- ==== Proof.Project2Ref.lean ====
/-
  The projection's reference: its stream is `stream` of its arguments, for latent and context tokens alike, and its result is
  the stream's product with the taken columns.
-/
module

public import proofs.«01_k».proof.Proof.Specs
public import proofs.«01_k».proof.Proof.Gen.Reference2Ideal.Read

@[expose] public section

set_option maxRecDepth 16384

noncomputable section

namespace Cert.Reference2Ideal.Dense

open Idealize.ShloMosaic hiding ix1 ix2 ix3 ix4 ix5
open Idealize.ShloMosaic.TcCoe Idealize.ShloMosaic.ValueIdx
open Cert.Reference2Ideal Cert.Reference2Ideal.Read Cert.Layer

variable (x : Vec Ideal S2x8448x2048 .f32) (w : Vec Ideal S2048 .f32) (md : Vec Ideal S8x6x2048 .f32)

/-- The latent tokens of the input. -/
theorem v0_at (b : Fin 2) (l : Fin 8192) (d : Fin 2048) : val_main_v0 (F := Ideal) x (ix3 b l d) = x (ix3 b (⟨l.val, by omega⟩ : Fin 8448) d) := by
  rw [val_main_v0_apply]
  refine congrArg x ?_
  funext a
  match a with
  | ⟨0, _⟩ => rfl
  | ⟨1, _⟩ => rfl
  | ⟨2, _⟩ => rfl

/-- The context tokens of the input. -/
theorem v26_at (b : Fin 2) (l : Fin 256) (d : Fin 2048) :
    val_main_v26 (F := Ideal) x (ix3 b l d) = x (ix3 b (⟨8192 + l.val, by omega⟩ : Fin 8448) d) := by
  rw [val_main_v26_apply]
  refine congrArg x ?_
  funext a
  match a with
  | ⟨0, _⟩ => rfl
  | ⟨1, _⟩ => rfl
  | ⟨2, _⟩ => rfl

/-- The reciprocal root mean square of a latent token. -/
theorem v8_at (b : Fin 2) (l : Fin 8192) (i : S2x8192x1.Idx) (hi : idx_main_v3 i = ix2 b l) :
    val_main_v8 (F := Ideal) x i = invRms fun k => x (ix3 b (⟨l.val, by omega⟩ : Fin 8448) k) := by
  rw [val_main_v8_apply, val_main_v7_apply, val_main_v5_apply, val_main_v3_apply, hi, val_main_v2_apply, val_main_v4_apply, val_main_v6_apply,
    val_main_cst_0_apply, val_main_cst_1_apply, val_main_cst_apply]
  have hs : ∀ k : Fin 2048, val_main_v1 (F := Ideal) x (idx_main_v2 (ix2 b l) k)
      = x (ix3 b (⟨l.val, by omega⟩ : Fin 8448) k) * x (ix3 b (⟨l.val, by omega⟩ : Fin 8448) k) := by
    intro k
    rw [val_main_v1_apply, show idx_main_v2 (ix2 b l) k = ix3 b l k from by
      funext a
      match a with
      | ⟨0, _⟩ => rfl
      | ⟨1, _⟩ => rfl
      | ⟨2, _⟩ => rfl, v0_at]
    rfl
  rw [Finset.sum_congr rfl fun k _ => hs k, show FloatOps.ofBits (F := Ideal) .f32 0x00000000#32 = 0 from Ideal.ofBits_zero_f32, zero_add]
  rfl

/-- The reciprocal root mean square of a context token. -/
theorem v34_at (b : Fin 2) (l : Fin 256) (i : S2x256x1.Idx) (hi : idx_main_v29 i = ix2 b l) :
    val_main_v34 (F := Ideal) x i = invRms fun k => x (ix3 b (⟨8192 + l.val, by omega⟩ : Fin 8448) k) := by
  rw [val_main_v34_apply, val_main_v33_apply, val_main_v31_apply, val_main_v29_apply, hi, val_main_v28_apply, val_main_v30_apply,
    val_main_v32_apply, val_main_cst_4_apply, val_main_cst_5_apply, val_main_cst_3_apply]
  have hs : ∀ k : Fin 2048, val_main_v27 (F := Ideal) x (idx_main_v28 (ix2 b l) k)
      = x (ix3 b (⟨8192 + l.val, by omega⟩ : Fin 8448) k) * x (ix3 b (⟨8192 + l.val, by omega⟩ : Fin 8448) k) := by
    intro k
    rw [val_main_v27_apply, show idx_main_v28 (ix2 b l) k = ix3 b l k from by
      funext a
      match a with
      | ⟨0, _⟩ => rfl
      | ⟨1, _⟩ => rfl
      | ⟨2, _⟩ => rfl, v26_at]
    rfl
  rw [Finset.sum_congr rfl fun k _ => hs k, show FloatOps.ofBits (F := Ideal) .f32 0x00000000#32 = 0 from Ideal.ofBits_zero_f32, zero_add]
  rfl

/-- The shift of a latent token. -/
theorem v24_at (b : Fin 2) (l : Fin 8192) (d : Fin 2048) :
    val_main_v24 (F := Ideal) md (ix3 b l d) = md (ix3 (batchRow b) (0 : Fin 6) d) := by
  rw [val_main_v24_apply, val_main_v16_apply, val_main_v15_apply, val_main_v14_apply]
  refine congrArg md ?_
  funext a
  have hb := b.isLt; have hd := d.isLt
  match a with
  | ⟨0, _⟩ => exact Fin.ext (show (b.val * 2048 + d.val) / 2048 = b.val by omega)
  | ⟨1, _⟩ => rfl
  | ⟨2, _⟩ => exact Fin.ext (show (b.val * 2048 + d.val) % 2048 = d.val by omega)

/-- One plus the scale of a latent token. -/
theorem v22_at (b : Fin 2) (l : Fin 8192) (d : Fin 2048) :
    val_main_v22 (F := Ideal) md (ix3 b l d) = FloatOps.ofBits (F := Ideal) .f32 0x3F800000#32 + md (ix3 (batchRow b) (1 : Fin 6) d) := by
  rw [val_main_v22_apply, val_main_v21_apply, val_main_v20_apply, val_main_cst_2_apply, val_main_v19_apply, val_main_v18_apply, val_main_v17_apply,
    Ideal.addf_def]
  refine congrArg (_ + md ·) ?_
  funext a
  have hb := b.isLt; have hd := d.isLt
  match a with
  | ⟨0, _⟩ => exact Fin.ext (show (b.val * 2048 + d.val) / 2048 = b.val by omega)
  | ⟨1, _⟩ => rfl
  | ⟨2, _⟩ => exact Fin.ext (show (b.val * 2048 + d.val) % 2048 = d.val by omega)

/-- The shift of a context token. -/
theorem v50_at (b : Fin 2) (l : Fin 256) (d : Fin 2048) :
    val_main_v50 (F := Ideal) md (ix3 b l d) = md (ix3 (2 : Fin 8) (0 : Fin 6) d) := by
  rw [val_main_v50_apply, val_main_v49_apply, val_main_v41_apply, val_main_v40_apply]
  refine congrArg md ?_
  funext a
  have hd := d.isLt
  match a with
  | ⟨0, _⟩ => rfl
  | ⟨1, _⟩ => rfl
  | ⟨2, _⟩ => exact Fin.ext (show d.val % 2048 = d.val by omega)

/-- One plus the scale of a context token. -/
theorem v47_at (b : Fin 2) (l : Fin 256) (d : Fin 2048) :
    val_main_v47 (F := Ideal) md (ix3 b l d) = FloatOps.ofBits (F := Ideal) .f32 0x3F800000#32 + md (ix3 (2 : Fin 8) (1 : Fin 6) d) := by
  rw [val_main_v47_apply, val_main_v46_apply, val_main_v45_apply, val_main_v44_apply, val_main_cst_6_apply, val_main_v43_apply, val_main_v42_apply,
    Ideal.addf_def]
  refine congrArg (_ + md ·) ?_
  funext a
  have hd := d.isLt
  match a with
  | ⟨0, _⟩ => rfl
  | ⟨1, _⟩ => rfl
  | ⟨2, _⟩ => exact Fin.ext (show d.val % 2048 = d.val by omega)

/-- The latent stream. -/
theorem v25_at (b : Fin 2) (l : Fin 8192) (d : Fin 2048) :
    val_main_v25 (F := Ideal) x w md (ix3 b l d) = stream x w md 0 1 b (⟨l.val, by omega⟩ : Fin 8448) d := by
  rw [val_main_v25_apply, val_main_v23_apply, val_main_v13_apply, val_main_v10_apply, v24_at, v22_at, v0_at, val_main_v9_apply,
    v8_at x b l (idx_main_v9 (ix3 b l d)) (by
      funext a
      match a with
      | ⟨0, _⟩ => rfl
      | ⟨1, _⟩ => rfl), val_main_v12_apply, val_main_v11_apply,
    show idx_main_v11 (idx_main_v12 (ix3 b l d)) = ix1 d from by
      funext a
      match a with
      | ⟨0, _⟩ => rfl]
  rw [Ideal.addf_def, Ideal.mulf_def, Ideal.mulf_def, Ideal.mulf_def]
  unfold stream normed modRow
  rw [if_neg (show ¬8192 ≤ l.val by omega), if_neg (show ¬8192 ≤ l.val by omega)]

/-- The context stream. -/
theorem v51_at (b : Fin 2) (l : Fin 256) (d : Fin 2048) :
    val_main_v51 (F := Ideal) x w md (ix3 b l d) = stream x w md 0 1 b (⟨8192 + l.val, by omega⟩ : Fin 8448) d := by
  rw [val_main_v51_apply, val_main_v48_apply, val_main_v39_apply, val_main_v36_apply, v50_at, v47_at, v26_at, val_main_v35_apply,
    v34_at x b l (idx_main_v35 (ix3 b l d)) (by
      funext a
      match a with
      | ⟨0, _⟩ => rfl
      | ⟨1, _⟩ => rfl), val_main_v38_apply, val_main_v37_apply,
    show idx_main_v37 (idx_main_v38 (ix3 b l d)) = ix1 d from by
      funext a
      match a with
      | ⟨0, _⟩ => rfl]
  rw [Ideal.addf_def, Ideal.mulf_def, Ideal.mulf_def, Ideal.mulf_def]
  unfold stream normed modRow
  rw [if_pos (show 8192 ≤ 8192 + l.val by omega), if_pos (show 8192 ≤ 8192 + l.val by omega)]

/-- The stream of every token. -/
theorem stream_at (b : Fin 2) (l : Fin 8448) (d : Fin 2048) : val_main_v52 (F := Ideal) x w md (ix3 b l d) = stream x w md 0 1 b l d := by
  unfold val_main_v52
  by_cases h : l.val < 8192
  · rw [concatenate_pair_apply_left (s₁ := S2x8192x2048) (s₂ := S2x256x2048) 1 _ _ _ (ix3 b l d) rfl (ix3 b (⟨l.val, h⟩ : Fin 8192) d)
      (fun a => match a with | ⟨0, _⟩ => rfl | ⟨1, _⟩ => rfl | ⟨2, _⟩ => rfl)]
    exact v25_at x w md b ⟨l.val, h⟩ d
  · have hl := l.isLt
    rw [concatenate_pair_apply_right (s₁ := S2x8192x2048) (s₂ := S2x256x2048) 1 _ _ _ (ix3 b l d) rfl rfl (ix3 b (⟨l.val - 8192, by omega⟩ : Fin 256) d)
      (fun a ha => match a with | ⟨0, _⟩ => rfl | ⟨1, _⟩ => absurd rfl ha | ⟨2, _⟩ => rfl)
      (show l.val - 8192 + 8192 = l.val by omega), v51_at]
    exact congrArg (stream x w md 0 1 b · d) (Fin.ext (show 8192 + (l.val - 8192) = l.val by omega))

/-- The product with a column. -/
theorem product_at (p : Vec Ideal S2048x6144 .f32) (b : Fin 2) (l : Fin 8448) (j : Fin 6144) :
    val_main_v53 (F := Ideal) x w md p (ix3 b l j) = project x w md 0 1 p b l j := by
  rw [val_main_v53_apply]
  refine Finset.sum_congr rfl fun k _ => congrArg₂ (· * ·) ?_ (congrArg p ?_)
  · rw [← stream_at]
    refine congrArg (val_main_v52 (F := Ideal) x w md) ?_
    funext a
    match a with
    | ⟨0, _⟩ => rfl
    | ⟨1, _⟩ => rfl
    | ⟨2, _⟩ => rfl
  · funext a
    match a with
    | ⟨0, _⟩ => rfl
    | ⟨1, _⟩ => rfl

/-- The reference's result: the product with the columns from 1024 on. -/
theorem value (p : Vec Ideal S2048x6144 .f32) : val_main_v54 (F := Ideal) x w md p
    = fun y => project x w md 0 1 p (y 0) (y 1) (⟨1024 + (y 2).val, by have h : (y 2).val < 5120 := (y 2).isLt; omega⟩ : Fin 6144) := by
  funext y
  rw [val_main_v54_apply]
  refine Eq.trans ?_ (product_at x w md p (y 0) (y 1) _)
  refine congrArg (val_main_v53 (F := Ideal) x w md p) ?_
  funext a
  match a with
  | ⟨0, _⟩ => rfl
  | ⟨1, _⟩ => rfl
  | ⟨2, _⟩ => rfl

end Cert.Reference2Ideal.Dense
end
-- ==== Proof.Project2Equal.lean ====
/-
  The projection and its reference compute the same array.
-/
module

public import proofs.«01_k».proof.Defs
public import proofs.«01_k».proof.Proof.Project2
public import proofs.«01_k».proof.Proof.Project2Ref
public import proofs.«01_k».proof.Proof.Gen.Kernel2.Frame
public import Idealize.ShloMosaic.Lib.Quiescent

@[expose] public section

noncomputable section

namespace Cert.Project2

open Idealize.ShloMosaic Idealize.SL.Sem

theorem frame_kernel : Cert.quiescent_Kernel2 := fun m ρ _ => Cert.Kernel2.Gen.frame m ρ
theorem frame_ideal : Cert.quiescent_Kernel2Ideal := fun m ρ _ => Cert.Kernel2Ideal.Gen.frame m ρ
/-- The reference leaves its arguments alone; it has no counters. -/
theorem frame_reference : Cert.quiescent_Reference2Ideal := fun m ρ _ =>
  (θ_run Cert.Reference2Ideal.defs _ _).mono
    (fun r h => ⟨fun c => (h c).2, sem_eq_zero_of_no_sems (by decide) r.2⟩) (Cert.Reference2Ideal.Value.run m ρ)

/-- Equal results from equal arguments. -/
theorem algebraic : Cert.algebraic_Kernel2Ideal_Reference2Ideal := by
  intro m ρ m' ρ' _ hargs
  refine ⟨fun c => Cert.Kernel2Ideal.Dense.projected m c, ?_, ?_⟩
  · exact (θ_run Cert.Kernel2Ideal.defs _ _).mono
      (fun r h c => ⟨(h c).1.trans (Cert.Kernel2Ideal.Dense.final_out m c), (h c).2⟩) (Cert.Kernel2Ideal.Value.run_blocks m ρ)
  · refine (θ_run Cert.Reference2Ideal.defs _ _).mono (fun r h c => ⟨(h c).1.trans ?_, (h c).2⟩) (Cert.Reference2Ideal.Value.run m' ρ')
    obtain ⟨h0, h1, h2, h3⟩ := hargs c
    rw [Cert.Reference2Ideal.Read.val_main_v54_eq, h0, h1, h2, h3]
    exact Cert.Reference2Ideal.Dense.value _ _ _ _

end Cert.Project2
end
-- ==== Proof.Project3.lean ====
/-
  A projection of the normalised stream: on the first column block of every 768 tokens the kernel normalises them into its
  scratch, and on every column block multiplies the scratch by the block's columns. The scratch holds the stream throughout a
  row of column blocks, so every block of the result is one of `project`'s.
-/
module

public import proofs.«01_k».proof.Proof.Specs
public import proofs.«01_k».proof.Proof.Gen.Kernel3Ideal.Value

@[expose] public section

set_option maxRecDepth 16384

noncomputable section

namespace Cert.Kernel3Ideal.Dense

open Idealize.ShloMosaic hiding ix1 ix2 ix3 ix4 ix5
open Idealize.ShloMosaic.TcCoe Idealize.ShloMosaic.Tactic Idealize.ShloMosaic.ValueIdx
open Idealize.SL Idealize.SL.RA Idealize.SL.BI Idealize.SL.Sem
open Cert.Kernel3Ideal.Gen Cert.Layer

/-- The row test at a row. -/
theorem pay3_apply (i : Fin 11) (l : Fin 768) :
    k0_pay3 (BitVec.ofNat 32 i.val) (ix2 l 0) = if 8192 ≤ 768 * i.val + l.val then 1#1 else 0#1 := by
  unfold k0_pay3
  have hi : iota .tc S768x1 32 [0] iota_S768x1_d0_w32 (ix2 l 0) = BitVec.ofNat 32 l.val := iota_single_apply _ _ _ _ _ _
  show Scalar.cmpi .sge (Scalar.addi (Scalar.muli (BitVec.ofNat 32 i.val) 768#32) (iota .tc S768x1 32 [0] iota_S768x1_d0_w32 (ix2 l 0))) 8192#32 = _
  rw [hi, context_iff]

/-- A modulation row chosen by the row test. -/
theorem pay4_apply (i : Fin 11) (g gb : Vec Ideal S1x1x2048 .f32) (l : Fin 768) (d : Fin 2048) :
    k0_pay4 (F := Ideal) (BitVec.ofNat 32 i.val) gb g (ix2 l d) = if 8192 ≤ 768 * i.val + l.val then g (ix3 0 0 d) else gb (ix3 0 0 d) := by
  unfold k0_pay4
  simp only [shapeCast_self]
  show Scalar.select (broadcastTo S768x2048 _ _ (ix2 l d)) (broadcastTo S768x2048 _ _ (ix2 l d)) (broadcastTo S768x2048 _ _ (ix2 l d)) = _
  rw [broadcastTo_1b_ab_apply, broadcastTo_1b_ab_apply, shapeCast_1ab_ab_apply, shapeCast_1ab_ab_apply,
    broadcastTo_apply _ _ (ix2 l d) (ix2 l 0) (by intro a; fin_cases a <;> rfl), pay3_apply]
  split <;> rfl

theorem pay5_apply (i : Fin 11) (g gb : Vec Ideal S1x1x2048 .f32) (l : Fin 768) (d : Fin 2048) :
    k0_pay5 (F := Ideal) (BitVec.ofNat 32 i.val) gb g (ix2 l d) = if 8192 ≤ 768 * i.val + l.val then g (ix3 0 0 d) else gb (ix3 0 0 d) := by
  unfold k0_pay5
  simp only [shapeCast_self]
  show Scalar.select (broadcastTo S768x2048 _ _ (ix2 l d)) (broadcastTo S768x2048 _ _ (ix2 l d)) (broadcastTo S768x2048 _ _ (ix2 l d)) = _
  rw [broadcastTo_1b_ab_apply, broadcastTo_1b_ab_apply, shapeCast_1ab_ab_apply, shapeCast_1ab_ab_apply,
    broadcastTo_apply _ _ (ix2 l d) (ix2 l 0) (by intro a; fin_cases a <;> rfl), pay3_apply]
  split <;> rfl

theorem pay6_apply (x : Vec Ideal S1x768x2048 .f32) (l : Fin 768) (d : Fin 2048) : k0_pay6 (F := Ideal) x (ix2 l d) = x (ix3 0 l d) := by
  unfold k0_pay6
  rw [shapeCast_1ab_ab_apply]

/-- A row's mean square. -/
theorem pay8_apply (x : Vec Ideal S1x768x2048 .f32) (l : Fin 768) :
    k0_pay8 (F := Ideal) x (ix2 l 0)
      = Ideal.div (∑ k : Fin 2048, x (ix3 0 l k) * x (ix3 0 l k)) (FloatOps.ofBits (F := Ideal) .f32 0x45000000#32) := by
  unfold k0_pay8
  show FloatOps.divf (F := Ideal) (φ := .f32) (shapeCast S768x1 _ _ (ix2 l 0)) _ = _
  rw [Ideal.divf_def, shapeCast_a_a1_apply]
  refine congrArg₂ Ideal.div ((Ideal.multiReduction_add_single _ _ _ _ _ _).trans (Finset.sum_congr rfl fun k _ => ?_)) rfl
  show k0_pay6 x _ * k0_pay6 x _ = _
  have hk : reduces_S768x2048_S768.lift (ix1 l) k = ix2 l k := by
    funext a
    match a with
    | ⟨0, _⟩ => rfl
    | ⟨1, _⟩ => rfl
  rw [show reduces_S768x2048_S768.lift (ix1 l) k = ix2 l k from hk]
  exact congrArg₂ (· * ·) (pay6_apply x l k) (pay6_apply x l k)

/-- The normalised, weighted, scaled and shifted row. -/
theorem pay1_apply (sh sc x : Vec Ideal S768x2048 .f32) (w : Vec Ideal S1x2048 .f32) (ms eps : Vec Ideal S768x1 .f32) (l : Fin 768) (d : Fin 2048) :
    k0_pay1 (F := Ideal) sh sc x w ms eps (ix2 l d)
      = x (ix2 l d) * FloatOps.rsqrt (F := Ideal) (φ := .f32) (ms (ix2 l 0) + eps (ix2 l 0)) * w (ix2 0 d)
          * (FloatOps.ofBits (F := Ideal) .f32 0x3F800000#32 + sc (ix2 l d)) + sh (ix2 l d) := by
  unfold k0_pay1
  simp only [shapeCast_self]
  show x (ix2 l d) * broadcastTo S768x2048 _ _ (ix2 l d) * broadcastTo S768x2048 _ _ (ix2 l d) * _ + _ = _
  rw [broadcastTo_1b_ab_apply, broadcastTo_apply _ _ (ix2 l d) (ix2 l 0) (by intro a; fin_cases a <;> rfl)]
  rfl

/-- The product of the scratch and a block of columns. -/
theorem pay2_apply (u : Vec Ideal S768x2048 .bf16) (p : Vec Ideal S2048x512 .bf16) (l : Fin 768) (d : Fin 512) :
    k0_pay2 (F := Ideal) u p (ix3 0 l d) = ∑ k : Fin 2048, u (ix2 l k) * p (ix2 k d) := by
  unfold k0_pay2
  simp only [shapeCast_self]
  rw [shapeCast_ab_1ab_apply]
  refine (Ideal.matmul_plain_apply (M := 768) (K := 2048) (N := 512) none _ _ _ l d).trans ?_
  rw [show constant (F := Ideal) S768x512 .f32 0x00000000#32 (ix2 l d) = 0 from Ideal.ofBits_zero_f32, zero_add]

variable (m : (ℓ : Loc nD τ sig) → Buf (Elt Ideal) ℓ)

theorem V_w (c : Dev nD) (d : Fin 2048) : (V m c main_v2 : Vec Ideal S1x2048 .f32) (ix2 0 d)
    = (m ((c : Thread nD τ).loc main_arg1) : Vec Ideal S2048 .f32) (ix1 d) := by
  have h : V m c main_v2 = shapeCast S1x2048 (m ((c : Thread nD τ).loc main_arg1) : Vec Ideal S2048 .f32) shapeCasts_S2048_S1x2048 := by
    show StableHlo.after hostOps0 _ (Proc.devRef .tc main_v2) = _
    after_results
    rfl
  rw [h, shapeCast_a_1a_apply]

theorem V_p (c : Dev nD) : V m c main_v1
    = extractStridedSlice S2048x1024 ![0, 0] (m ((c : Thread nD τ).loc main_arg3) : Vec Ideal S2048x6144 .f32) slices_S2048x6144_S2048x1024_0_0 := by
  show StableHlo.after hostOps0 _ (Proc.devRef .tc main_v1) = _
  after_results
  rfl

/-- The batch, the token and the column of a point's block. -/
def batch (t : Fin cfg0.N) : Fin 2 := ⟨t.val / 22, by have h : t.val < 44 := Nat.lt_of_lt_of_eq t.isLt N_0; omega⟩
def token (t : Fin cfg0.N) (l : Fin 768) : Fin 8448 := ⟨768 * (t.val / 2 % 11) + l.val, by have := l.isLt; omega⟩
def column (t : Fin cfg0.N) (d : Fin 512) : Fin 1024 := ⟨512 * (t.val % 2) + d.val, by have := d.isLt; omega⟩
/-- The column in the whole matrix. -/
def source (j : Fin 1024) : Fin 6144 := ⟨j.val, by omega⟩

theorem coord0 (t : Fin cfg0.N) : (grid0.coords t 0).val = t.val / 22 := by
  have h : t.val < 44 := Nat.lt_of_lt_of_eq t.isLt N_0
  have e : (grid0.coords t 0).val = t.val / 22 % 2 := Pipeline.Grid.coords_val t 0 (by decide) rfl
  rw [e]; omega
theorem coord1 (t : Fin cfg0.N) : (grid0.coords t 1).val = t.val / 2 % 11 := Pipeline.Grid.coords_val t 1 (by decide) rfl

theorem pos0 : ∀ t : Fin cfg0.N, win0_0.index t = ![t.val / 22, t.val / 2 % 11, 0] := (by decide +kernel : ∀ t : Fin grid0.N, _)
theorem pos1 : ∀ t : Fin cfg0.N, win0_1.index t = ![0, 0] := (by decide +kernel : ∀ t : Fin grid0.N, _)
theorem pos2 : ∀ t : Fin cfg0.N, win0_2.index t = ![0, 0, 0] := (by decide +kernel : ∀ t : Fin grid0.N, _)
theorem pos3 : ∀ t : Fin cfg0.N, win0_3.index t = ![0, t.val % 2] := (by decide +kernel : ∀ t : Fin grid0.N, _)
theorem pos4 : ∀ t : Fin cfg0.N, win0_4.index t = ![t.val / 22, t.val / 2 % 11, t.val % 2] := (by decide +kernel : ∀ t : Fin grid0.N, _)

theorem blk0 (c : Dev nD) (t : Fin cfg0.N) (l : Fin 768) (k : Fin 2048) :
    iblk m c 0 t (ix3 0 l k) = m ((c : Thread nD τ).loc main_arg0) (ix3 (batch t) (token t l) k) := by
  blk_ext! [iblk, pos0, batch, token]
  exact congrArg (· + l.val) (Nat.mul_comm _ _)

theorem blk1 (c : Dev nD) (t : Fin cfg0.N) (k : Fin 2048) :
    iblk m c 1 t (ix2 0 k) = m ((c : Thread nD τ).loc main_arg1) (ix1 k) := by
  refine Eq.trans ?_ (V_w m c k)
  blk_ext! [iblk, pos1]

theorem blk2 (c : Dev nD) (t : Fin cfg0.N) (r : Fin 8) (k : Fin 6) (d : Fin 2048) :
    iblk m c 2 t (ix3 r k d) = m ((c : Thread nD τ).loc main_arg2) (ix3 r k d) := by
  blk_ext! [iblk, pos2]

theorem blk3 (c : Dev nD) (t : Fin cfg0.N) (k : Fin 2048) (d : Fin 512) :
    iblk m c 3 t (ix2 k d) = m ((c : Thread nD τ).loc main_arg3) (ix2 k (source (column t d))) := by
  blk_ext! [iblk, V_p, pos3, column, source]
  exact congrArg (· + d.val) (Nat.mul_comm _ _)

/-- A row of the modulation read out of the whole. -/
theorem mod_row (X : Vec Ideal S8x6x2048 .f32) (r : Fin 8) (k : Fin 6) (off : Fin 3 → Nat) (inb : ∀ a, off a + ![1, 1, 2048] a ≤ S8x6x2048.size a)
    (h : off = ![r.val, k.val, 0]) (d : Fin 2048) : View.ld X (Rect.unit off ![1, 1, 2048] inb) (ix3 0 0 d) = X (ix3 r k d) := by
  subst h
  refine congrArg X (funext fun a => Fin.ext ?_)
  match a with
  | ⟨0, _⟩ => rfl
  | ⟨1, _⟩ => rfl
  | ⟨2, _⟩ => show 0 + 1 * d.val = d.val; omega

theorem row_word : ∀ b : Fin 2, (Scalar.indexCast (BitVec.ofNat 32 b.val)).toNat = b.val := by decide

theorem off1_eq (t : Fin cfg0.N) : k0_off1 (grid0.coords t) = ![(batchRow (batch t)).val, (0 : Fin 6).val, 0] := by
  refine congrArg (fun n : ℕ => ![n, 0, 0]) ?_
  exact (row_word (grid0.coords t 0)).trans (coord0 t)

theorem off2_eq (t : Fin cfg0.N) : k0_off2 (grid0.coords t) = ![(batchRow (batch t)).val, (1 : Fin 6).val, 0] := by
  refine congrArg (fun n : ℕ => ![n, 1, 0]) ?_
  exact (row_word (grid0.coords t 0)).trans (coord0 t)

/-- The stream of the arguments. -/
abbrev streamOf (c : Dev nD) : Fin 2 → Fin 8448 → Fin 2048 → Ideal .f32 :=
  stream (m ((c : Thread nD τ).loc main_arg0)) (m ((c : Thread nD τ).loc main_arg1)) (m ((c : Thread nD τ).loc main_arg2)) 0 1

/-- The scratch after a first column block. -/
theorem scratch_first (c : Dev nD) (t : Fin cfg0.N) (h0 : t.val % 2 = 0) (l : Fin 768) (k : Fin 2048) :
    (outsAt0 m c t.val t.isLt).2 (ix2 l k) = streamOf m c (batch t) (token t l) k := by
  rw [outsAt0_A m c t h0]
  frame_out
  rw [pay1_apply, pay4_apply (grid0.coords t 1), pay5_apply (grid0.coords t 1), pay6_apply, pay8_apply]
  rw [mod_row _ 2 0 ![2, 0, 0] _ rfl, mod_row _ 2 1 ![2, 1, 0] _ rfl, mod_row _ (batchRow (batch t)) 0 _ _ (off1_eq t),
    mod_row _ (batchRow (batch t)) 1 _ _ (off2_eq t)]
  have h7 : k0_pay7 (F := Ideal) (iblk m c 1 t) (ix2 0 k) = iblk m c 1 t (ix2 0 k) := by
    unfold k0_pay7
    simp only [shapeCast_self]
  rw [h7]
  simp only [blk0, blk1, blk2, coord1]
  unfold streamOf stream normed invRms modRow
  rfl

/-- A later column block keeps it. -/
theorem scratch_later (c : Dev nD) (t : Fin cfg0.N) (h0 : ¬t.val % 2 = 0) :
    (outsAt0 m c t.val t.isLt).2 = (outsAt0 m c (t.val - 1) (Nat.lt_of_le_of_lt (Nat.sub_le _ _) t.isLt)).2 := by
  rw [outsAt0_B m c t h0]
  rfl

/-- A block is the product of the scratch as the block leaves it and the block's columns. -/
theorem block_eq (c : Dev nD) (t : Fin cfg0.N) :
    (outsAt0 m c t.val t.isLt).1 = k0_pay2 (outsAt0 m c t.val t.isLt).2 (iblk m c 3 t) := by
  by_cases h0 : t.val % 2 = 0
  · rw [outsAt0_A m c t h0]
    frame_out
  · rw [scratch_later m c t h0, outsAt0_B m c t h0]
    frame_out
    exact congrArg (k0_pay2 · (iblk m c 3 t)) (Memref.IsWhole.read_unread _ _)

/-- The scratch holds the stream of the point's tokens. -/
theorem scratch_eq (c : Dev nD) : ∀ (n : ℕ) (t : Fin cfg0.N), t.val = n → ∀ (l : Fin 768) (k : Fin 2048),
    (outsAt0 m c t.val t.isLt).2 (ix2 l k) = streamOf m c (batch t) (token t l) k := by
  intro n
  induction n with
  | zero => intro t ht; exact scratch_first m c t (by omega)
  | succ n ih =>
    intro t ht l k
    by_cases h0 : t.val % 2 = 0
    · exact scratch_first m c t h0 l k
    · rw [scratch_later m c t h0]
      have hn : t.val - 1 < cfg0.N := Nat.lt_of_le_of_lt (Nat.sub_le _ _) t.isLt
      refine (ih ⟨t.val - 1, hn⟩ (show t.val - 1 = n by omega) l k).trans ?_
      rw [show batch ⟨t.val - 1, hn⟩ = batch t from Fin.ext (show (t.val - 1) / 22 = t.val / 22 by omega),
        show token ⟨t.val - 1, hn⟩ l = token t l from
          Fin.ext (show 768 * ((t.val - 1) / 2 % 11) + l.val = 768 * (t.val / 2 % 11) + l.val by omega)]

/-- The array of the products with the taken columns. -/
def projected (c : Dev nD) : Vec Ideal S2x8448x1024 .f32 := fun y =>
  project (m ((c : Thread nD τ).loc main_arg0)) (m ((c : Thread nD τ).loc main_arg1)) (m ((c : Thread nD τ).loc main_arg2)) 0 1
    (m ((c : Thread nD τ).loc main_arg3)) (y 0) (y 1) (source (y 2))

/-- The point's block of the result. -/
theorem out_apply (c : Dev nD) (t : Fin cfg0.N) (l : Fin 768) (d : Fin 512) :
    (outsAt0 m c t.val t.isLt).1 (ix3 0 l d) = projected m c (ix3 (batch t) (token t l) (column t d)) := by
  rw [block_eq, pay2_apply]
  simp only [scratch_eq m c t.val t rfl, blk3]
  rfl

/-- The output array after the whole grid. -/
theorem final_out (c : Dev nD) : (dats m 0 c).arrAt 4 cfg0.N = projected m c := by
  refine (dats m 0 c).arrAt_eq_of_covers 4 _ (by decide +kernel) fun t hf y => ?_
  rw [after0_4]
  have h := out_apply m c t
  generalize outsAt0 m c t.val t.isLt = o at h ⊢
  obtain ⟨z, l, d, rfl⟩ : ∃ (z : Fin 1) (l : Fin 768) (d : Fin 512), y = ix3 z l d := ⟨y 0, y 1, y 2, by funext a; fin_cases a <;> rfl⟩
  obtain rfl : z = 0 := Fin.ext (by omega)
  refine (h l d).trans (congrArg _ ?_)
  symm
  blk_ext! [pos4, batch, token, column]
  · exact congrArg (· + l.val) (Nat.mul_comm _ _)
  · exact congrArg (· + d.val) (Nat.mul_comm _ _)

end Cert.Kernel3Ideal.Dense
end
-- ==== Proof.Project3Ref.lean ====
/-
  The projection's reference: its stream is `stream` of its arguments, for latent and context tokens alike, and its result is
  the stream's product with the first 1024 columns.
-/
module

public import proofs.«01_k».proof.Proof.Specs
public import proofs.«01_k».proof.Proof.Gen.Reference3Ideal.Read

@[expose] public section

set_option maxRecDepth 16384

noncomputable section

namespace Cert.Reference3Ideal.Dense

open Idealize.ShloMosaic hiding ix1 ix2 ix3 ix4 ix5
open Idealize.ShloMosaic.TcCoe Idealize.ShloMosaic.ValueIdx
open Cert.Reference3Ideal Cert.Reference3Ideal.Read Cert.Layer

variable (x : Vec Ideal S2x8448x2048 .f32) (w : Vec Ideal S2048 .f32) (md : Vec Ideal S8x6x2048 .f32)

/-- The latent tokens of the input. -/
theorem v0_at (b : Fin 2) (l : Fin 8192) (d : Fin 2048) : val_main_v0 (F := Ideal) x (ix3 b l d) = x (ix3 b (⟨l.val, by omega⟩ : Fin 8448) d) := by
  rw [val_main_v0_apply]
  refine congrArg x ?_
  funext a
  match a with
  | ⟨0, _⟩ => rfl
  | ⟨1, _⟩ => rfl
  | ⟨2, _⟩ => rfl

/-- The context tokens of the input. -/
theorem v26_at (b : Fin 2) (l : Fin 256) (d : Fin 2048) :
    val_main_v26 (F := Ideal) x (ix3 b l d) = x (ix3 b (⟨8192 + l.val, by omega⟩ : Fin 8448) d) := by
  rw [val_main_v26_apply]
  refine congrArg x ?_
  funext a
  match a with
  | ⟨0, _⟩ => rfl
  | ⟨1, _⟩ => rfl
  | ⟨2, _⟩ => rfl

/-- The reciprocal root mean square of a latent token. -/
theorem v8_at (b : Fin 2) (l : Fin 8192) (i : S2x8192x1.Idx) (hi : idx_main_v3 i = ix2 b l) :
    val_main_v8 (F := Ideal) x i = invRms fun k => x (ix3 b (⟨l.val, by omega⟩ : Fin 8448) k) := by
  rw [val_main_v8_apply, val_main_v7_apply, val_main_v5_apply, val_main_v3_apply, hi, val_main_v2_apply, val_main_v4_apply, val_main_v6_apply,
    val_main_cst_0_apply, val_main_cst_1_apply, val_main_cst_apply]
  have hs : ∀ k : Fin 2048, val_main_v1 (F := Ideal) x (idx_main_v2 (ix2 b l) k)
      = x (ix3 b (⟨l.val, by omega⟩ : Fin 8448) k) * x (ix3 b (⟨l.val, by omega⟩ : Fin 8448) k) := by
    intro k
    rw [val_main_v1_apply, show idx_main_v2 (ix2 b l) k = ix3 b l k from by
      funext a
      match a with
      | ⟨0, _⟩ => rfl
      | ⟨1, _⟩ => rfl
      | ⟨2, _⟩ => rfl, v0_at]
    rfl
  rw [Finset.sum_congr rfl fun k _ => hs k, show FloatOps.ofBits (F := Ideal) .f32 0x00000000#32 = 0 from Ideal.ofBits_zero_f32, zero_add]
  rfl

/-- The reciprocal root mean square of a context token. -/
theorem v34_at (b : Fin 2) (l : Fin 256) (i : S2x256x1.Idx) (hi : idx_main_v29 i = ix2 b l) :
    val_main_v34 (F := Ideal) x i = invRms fun k => x (ix3 b (⟨8192 + l.val, by omega⟩ : Fin 8448) k) := by
  rw [val_main_v34_apply, val_main_v33_apply, val_main_v31_apply, val_main_v29_apply, hi, val_main_v28_apply, val_main_v30_apply,
    val_main_v32_apply, val_main_cst_4_apply, val_main_cst_5_apply, val_main_cst_3_apply]
  have hs : ∀ k : Fin 2048, val_main_v27 (F := Ideal) x (idx_main_v28 (ix2 b l) k)
      = x (ix3 b (⟨8192 + l.val, by omega⟩ : Fin 8448) k) * x (ix3 b (⟨8192 + l.val, by omega⟩ : Fin 8448) k) := by
    intro k
    rw [val_main_v27_apply, show idx_main_v28 (ix2 b l) k = ix3 b l k from by
      funext a
      match a with
      | ⟨0, _⟩ => rfl
      | ⟨1, _⟩ => rfl
      | ⟨2, _⟩ => rfl, v26_at]
    rfl
  rw [Finset.sum_congr rfl fun k _ => hs k, show FloatOps.ofBits (F := Ideal) .f32 0x00000000#32 = 0 from Ideal.ofBits_zero_f32, zero_add]
  rfl

/-- The shift of a latent token. -/
theorem v24_at (b : Fin 2) (l : Fin 8192) (d : Fin 2048) :
    val_main_v24 (F := Ideal) md (ix3 b l d) = md (ix3 (batchRow b) (0 : Fin 6) d) := by
  rw [val_main_v24_apply, val_main_v16_apply, val_main_v15_apply, val_main_v14_apply]
  refine congrArg md ?_
  funext a
  have hb := b.isLt; have hd := d.isLt
  match a with
  | ⟨0, _⟩ => exact Fin.ext (show (b.val * 2048 + d.val) / 2048 = b.val by omega)
  | ⟨1, _⟩ => rfl
  | ⟨2, _⟩ => exact Fin.ext (show (b.val * 2048 + d.val) % 2048 = d.val by omega)

/-- One plus the scale of a latent token. -/
theorem v22_at (b : Fin 2) (l : Fin 8192) (d : Fin 2048) :
    val_main_v22 (F := Ideal) md (ix3 b l d) = FloatOps.ofBits (F := Ideal) .f32 0x3F800000#32 + md (ix3 (batchRow b) (1 : Fin 6) d) := by
  rw [val_main_v22_apply, val_main_v21_apply, val_main_v20_apply, val_main_cst_2_apply, val_main_v19_apply, val_main_v18_apply, val_main_v17_apply,
    Ideal.addf_def]
  refine congrArg (_ + md ·) ?_
  funext a
  have hb := b.isLt; have hd := d.isLt
  match a with
  | ⟨0, _⟩ => exact Fin.ext (show (b.val * 2048 + d.val) / 2048 = b.val by omega)
  | ⟨1, _⟩ => rfl
  | ⟨2, _⟩ => exact Fin.ext (show (b.val * 2048 + d.val) % 2048 = d.val by omega)

/-- The shift of a context token. -/
theorem v50_at (b : Fin 2) (l : Fin 256) (d : Fin 2048) :
    val_main_v50 (F := Ideal) md (ix3 b l d) = md (ix3 (2 : Fin 8) (0 : Fin 6) d) := by
  rw [val_main_v50_apply, val_main_v49_apply, val_main_v41_apply, val_main_v40_apply]
  refine congrArg md ?_
  funext a
  have hd := d.isLt
  match a with
  | ⟨0, _⟩ => rfl
  | ⟨1, _⟩ => rfl
  | ⟨2, _⟩ => exact Fin.ext (show d.val % 2048 = d.val by omega)

/-- One plus the scale of a context token. -/
theorem v47_at (b : Fin 2) (l : Fin 256) (d : Fin 2048) :
    val_main_v47 (F := Ideal) md (ix3 b l d) = FloatOps.ofBits (F := Ideal) .f32 0x3F800000#32 + md (ix3 (2 : Fin 8) (1 : Fin 6) d) := by
  rw [val_main_v47_apply, val_main_v46_apply, val_main_v45_apply, val_main_v44_apply, val_main_cst_6_apply, val_main_v43_apply, val_main_v42_apply,
    Ideal.addf_def]
  refine congrArg (_ + md ·) ?_
  funext a
  have hd := d.isLt
  match a with
  | ⟨0, _⟩ => rfl
  | ⟨1, _⟩ => rfl
  | ⟨2, _⟩ => exact Fin.ext (show d.val % 2048 = d.val by omega)

/-- The latent stream. -/
theorem v25_at (b : Fin 2) (l : Fin 8192) (d : Fin 2048) :
    val_main_v25 (F := Ideal) x w md (ix3 b l d) = stream x w md 0 1 b (⟨l.val, by omega⟩ : Fin 8448) d := by
  rw [val_main_v25_apply, val_main_v23_apply, val_main_v13_apply, val_main_v10_apply, v24_at, v22_at, v0_at, val_main_v9_apply,
    v8_at x b l (idx_main_v9 (ix3 b l d)) (by
      funext a
      match a with
      | ⟨0, _⟩ => rfl
      | ⟨1, _⟩ => rfl), val_main_v12_apply, val_main_v11_apply,
    show idx_main_v11 (idx_main_v12 (ix3 b l d)) = ix1 d from by
      funext a
      match a with
      | ⟨0, _⟩ => rfl]
  rw [Ideal.addf_def, Ideal.mulf_def, Ideal.mulf_def, Ideal.mulf_def]
  unfold stream normed modRow
  rw [if_neg (show ¬8192 ≤ l.val by omega), if_neg (show ¬8192 ≤ l.val by omega)]

/-- The context stream. -/
theorem v51_at (b : Fin 2) (l : Fin 256) (d : Fin 2048) :
    val_main_v51 (F := Ideal) x w md (ix3 b l d) = stream x w md 0 1 b (⟨8192 + l.val, by omega⟩ : Fin 8448) d := by
  rw [val_main_v51_apply, val_main_v48_apply, val_main_v39_apply, val_main_v36_apply, v50_at, v47_at, v26_at, val_main_v35_apply,
    v34_at x b l (idx_main_v35 (ix3 b l d)) (by
      funext a
      match a with
      | ⟨0, _⟩ => rfl
      | ⟨1, _⟩ => rfl), val_main_v38_apply, val_main_v37_apply,
    show idx_main_v37 (idx_main_v38 (ix3 b l d)) = ix1 d from by
      funext a
      match a with
      | ⟨0, _⟩ => rfl]
  rw [Ideal.addf_def, Ideal.mulf_def, Ideal.mulf_def, Ideal.mulf_def]
  unfold stream normed modRow
  rw [if_pos (show 8192 ≤ 8192 + l.val by omega), if_pos (show 8192 ≤ 8192 + l.val by omega)]

/-- The stream of every token. -/
theorem stream_at (b : Fin 2) (l : Fin 8448) (d : Fin 2048) : val_main_v52 (F := Ideal) x w md (ix3 b l d) = stream x w md 0 1 b l d := by
  unfold val_main_v52
  by_cases h : l.val < 8192
  · rw [concatenate_pair_apply_left (s₁ := S2x8192x2048) (s₂ := S2x256x2048) 1 _ _ _ (ix3 b l d) rfl (ix3 b (⟨l.val, h⟩ : Fin 8192) d)
      (fun a => match a with | ⟨0, _⟩ => rfl | ⟨1, _⟩ => rfl | ⟨2, _⟩ => rfl)]
    exact v25_at x w md b ⟨l.val, h⟩ d
  · have hl := l.isLt
    rw [concatenate_pair_apply_right (s₁ := S2x8192x2048) (s₂ := S2x256x2048) 1 _ _ _ (ix3 b l d) rfl rfl (ix3 b (⟨l.val - 8192, by omega⟩ : Fin 256) d)
      (fun a ha => match a with | ⟨0, _⟩ => rfl | ⟨1, _⟩ => absurd rfl ha | ⟨2, _⟩ => rfl)
      (show l.val - 8192 + 8192 = l.val by omega), v51_at]
    exact congrArg (stream x w md 0 1 b · d) (Fin.ext (show 8192 + (l.val - 8192) = l.val by omega))

/-- The product with a column. -/
theorem product_at (p : Vec Ideal S2048x6144 .f32) (b : Fin 2) (l : Fin 8448) (j : Fin 6144) :
    val_main_v53 (F := Ideal) x w md p (ix3 b l j) = project x w md 0 1 p b l j := by
  rw [val_main_v53_apply]
  refine Finset.sum_congr rfl fun k _ => congrArg₂ (· * ·) ?_ (congrArg p ?_)
  · rw [← stream_at]
    refine congrArg (val_main_v52 (F := Ideal) x w md) ?_
    funext a
    match a with
    | ⟨0, _⟩ => rfl
    | ⟨1, _⟩ => rfl
    | ⟨2, _⟩ => rfl
  · funext a
    match a with
    | ⟨0, _⟩ => rfl
    | ⟨1, _⟩ => rfl

/-- The reference's result: the product with the first 1024 columns. -/
theorem value (p : Vec Ideal S2048x6144 .f32) : val_main_v54 (F := Ideal) x w md p
    = fun y => project x w md 0 1 p (y 0) (y 1) (⟨(y 2).val, by have h : (y 2).val < 1024 := (y 2).isLt; omega⟩ : Fin 6144) := by
  funext y
  rw [val_main_v54_apply]
  refine Eq.trans ?_ (product_at x w md p (y 0) (y 1) _)
  refine congrArg (val_main_v53 (F := Ideal) x w md p) ?_
  funext a
  match a with
  | ⟨0, _⟩ => rfl
  | ⟨1, _⟩ => rfl
  | ⟨2, _⟩ => rfl

end Cert.Reference3Ideal.Dense
end
-- ==== Proof.Project3Equal.lean ====
/-
  The projection and its reference compute the same array.
-/
module

public import proofs.«01_k».proof.Defs
public import proofs.«01_k».proof.Proof.Project3
public import proofs.«01_k».proof.Proof.Project3Ref
public import proofs.«01_k».proof.Proof.Gen.Kernel3.Frame
public import Idealize.ShloMosaic.Lib.Quiescent

@[expose] public section

noncomputable section

namespace Cert.Project3

open Idealize.ShloMosaic Idealize.SL.Sem

theorem frame_kernel : Cert.quiescent_Kernel3 := fun m ρ _ => Cert.Kernel3.Gen.frame m ρ
theorem frame_ideal : Cert.quiescent_Kernel3Ideal := fun m ρ _ => Cert.Kernel3Ideal.Gen.frame m ρ
/-- The reference leaves its arguments alone; it has no counters. -/
theorem frame_reference : Cert.quiescent_Reference3Ideal := fun m ρ _ =>
  (θ_run Cert.Reference3Ideal.defs _ _).mono
    (fun r h => ⟨fun c => (h c).2, sem_eq_zero_of_no_sems (by decide) r.2⟩) (Cert.Reference3Ideal.Value.run m ρ)

/-- Equal results from equal arguments. -/
theorem algebraic : Cert.algebraic_Kernel3Ideal_Reference3Ideal := by
  intro m ρ m' ρ' _ hargs
  refine ⟨fun c => Cert.Kernel3Ideal.Dense.projected m c, ?_, ?_⟩
  · exact (θ_run Cert.Kernel3Ideal.defs _ _).mono
      (fun r h c => ⟨(h c).1.trans (Cert.Kernel3Ideal.Dense.final_out m c), (h c).2⟩) (Cert.Kernel3Ideal.Value.run_blocks m ρ)
  · refine (θ_run Cert.Reference3Ideal.defs _ _).mono (fun r h c => ⟨(h c).1.trans ?_, (h c).2⟩) (Cert.Reference3Ideal.Value.run m' ρ')
    obtain ⟨h0, h1, h2, h3⟩ := hargs c
    rw [Cert.Reference3Ideal.Read.val_main_v54_eq, h0, h1, h2, h3]
    exact Cert.Reference3Ideal.Dense.value _ _ _ _

end Cert.Project3
end
-- ==== Proof.Project4.lean ====
/-
  A projection of the normalised stream: on the first column block of every 768 tokens the kernel normalises them into its
  scratch, and on every column block multiplies the scratch by the block's columns. The scratch holds the stream throughout a
  row of column blocks, so every block of the result is one of `project`'s.
-/
module

public import proofs.«01_k».proof.Proof.Specs
public import proofs.«01_k».proof.Proof.Gen.Kernel4Ideal.Value

@[expose] public section

set_option maxRecDepth 16384

noncomputable section

namespace Cert.Kernel4Ideal.Dense

open Idealize.ShloMosaic hiding ix1 ix2 ix3 ix4 ix5
open Idealize.ShloMosaic.TcCoe Idealize.ShloMosaic.Tactic Idealize.ShloMosaic.ValueIdx
open Idealize.SL Idealize.SL.RA Idealize.SL.BI Idealize.SL.Sem
open Cert.Kernel4Ideal.Gen Cert.Layer

/-- The row test at a row. -/
theorem pay3_apply (i : Fin 11) (l : Fin 768) :
    k0_pay3 (BitVec.ofNat 32 i.val) (ix2 l 0) = if 8192 ≤ 768 * i.val + l.val then 1#1 else 0#1 := by
  unfold k0_pay3
  have hi : iota .tc S768x1 32 [0] iota_S768x1_d0_w32 (ix2 l 0) = BitVec.ofNat 32 l.val := iota_single_apply _ _ _ _ _ _
  show Scalar.cmpi .sge (Scalar.addi (Scalar.muli (BitVec.ofNat 32 i.val) 768#32) (iota .tc S768x1 32 [0] iota_S768x1_d0_w32 (ix2 l 0))) 8192#32 = _
  rw [hi, context_iff]

/-- A modulation row chosen by the row test. -/
theorem pay4_apply (i : Fin 11) (g gb : Vec Ideal S1x1x2048 .f32) (l : Fin 768) (d : Fin 2048) :
    k0_pay4 (F := Ideal) (BitVec.ofNat 32 i.val) gb g (ix2 l d) = if 8192 ≤ 768 * i.val + l.val then g (ix3 0 0 d) else gb (ix3 0 0 d) := by
  unfold k0_pay4
  simp only [shapeCast_self]
  show Scalar.select (broadcastTo S768x2048 _ _ (ix2 l d)) (broadcastTo S768x2048 _ _ (ix2 l d)) (broadcastTo S768x2048 _ _ (ix2 l d)) = _
  rw [broadcastTo_1b_ab_apply, broadcastTo_1b_ab_apply, shapeCast_1ab_ab_apply, shapeCast_1ab_ab_apply,
    broadcastTo_apply _ _ (ix2 l d) (ix2 l 0) (by intro a; fin_cases a <;> rfl), pay3_apply]
  split <;> rfl

theorem pay5_apply (i : Fin 11) (g gb : Vec Ideal S1x1x2048 .f32) (l : Fin 768) (d : Fin 2048) :
    k0_pay5 (F := Ideal) (BitVec.ofNat 32 i.val) gb g (ix2 l d) = if 8192 ≤ 768 * i.val + l.val then g (ix3 0 0 d) else gb (ix3 0 0 d) := by
  unfold k0_pay5
  simp only [shapeCast_self]
  show Scalar.select (broadcastTo S768x2048 _ _ (ix2 l d)) (broadcastTo S768x2048 _ _ (ix2 l d)) (broadcastTo S768x2048 _ _ (ix2 l d)) = _
  rw [broadcastTo_1b_ab_apply, broadcastTo_1b_ab_apply, shapeCast_1ab_ab_apply, shapeCast_1ab_ab_apply,
    broadcastTo_apply _ _ (ix2 l d) (ix2 l 0) (by intro a; fin_cases a <;> rfl), pay3_apply]
  split <;> rfl

theorem pay6_apply (x : Vec Ideal S1x768x2048 .f32) (l : Fin 768) (d : Fin 2048) : k0_pay6 (F := Ideal) x (ix2 l d) = x (ix3 0 l d) := by
  unfold k0_pay6
  rw [shapeCast_1ab_ab_apply]

/-- A row's mean square. -/
theorem pay8_apply (x : Vec Ideal S1x768x2048 .f32) (l : Fin 768) :
    k0_pay8 (F := Ideal) x (ix2 l 0)
      = Ideal.div (∑ k : Fin 2048, x (ix3 0 l k) * x (ix3 0 l k)) (FloatOps.ofBits (F := Ideal) .f32 0x45000000#32) := by
  unfold k0_pay8
  show FloatOps.divf (F := Ideal) (φ := .f32) (shapeCast S768x1 _ _ (ix2 l 0)) _ = _
  rw [Ideal.divf_def, shapeCast_a_a1_apply]
  refine congrArg₂ Ideal.div ((Ideal.multiReduction_add_single _ _ _ _ _ _).trans (Finset.sum_congr rfl fun k _ => ?_)) rfl
  show k0_pay6 x _ * k0_pay6 x _ = _
  have hk : reduces_S768x2048_S768.lift (ix1 l) k = ix2 l k := by
    funext a
    match a with
    | ⟨0, _⟩ => rfl
    | ⟨1, _⟩ => rfl
  rw [show reduces_S768x2048_S768.lift (ix1 l) k = ix2 l k from hk]
  exact congrArg₂ (· * ·) (pay6_apply x l k) (pay6_apply x l k)

/-- The normalised, weighted, scaled and shifted row. -/
theorem pay1_apply (sh sc x : Vec Ideal S768x2048 .f32) (w : Vec Ideal S1x2048 .f32) (ms eps : Vec Ideal S768x1 .f32) (l : Fin 768) (d : Fin 2048) :
    k0_pay1 (F := Ideal) sh sc x w ms eps (ix2 l d)
      = x (ix2 l d) * FloatOps.rsqrt (F := Ideal) (φ := .f32) (ms (ix2 l 0) + eps (ix2 l 0)) * w (ix2 0 d)
          * (FloatOps.ofBits (F := Ideal) .f32 0x3F800000#32 + sc (ix2 l d)) + sh (ix2 l d) := by
  unfold k0_pay1
  simp only [shapeCast_self]
  show x (ix2 l d) * broadcastTo S768x2048 _ _ (ix2 l d) * broadcastTo S768x2048 _ _ (ix2 l d) * _ + _ = _
  rw [broadcastTo_1b_ab_apply, broadcastTo_apply _ _ (ix2 l d) (ix2 l 0) (by intro a; fin_cases a <;> rfl)]
  rfl

/-- The product of the scratch and a block of columns. -/
theorem pay2_apply (u : Vec Ideal S768x2048 .bf16) (p : Vec Ideal S2048x512 .bf16) (l : Fin 768) (d : Fin 512) :
    k0_pay2 (F := Ideal) u p (ix3 0 l d) = ∑ k : Fin 2048, u (ix2 l k) * p (ix2 k d) := by
  unfold k0_pay2
  simp only [shapeCast_self]
  rw [shapeCast_ab_1ab_apply]
  refine (Ideal.matmul_plain_apply (M := 768) (K := 2048) (N := 512) none _ _ _ l d).trans ?_
  rw [show constant (F := Ideal) S768x512 .f32 0x00000000#32 (ix2 l d) = 0 from Ideal.ofBits_zero_f32, zero_add]

variable (m : (ℓ : Loc nD τ sig) → Buf (Elt Ideal) ℓ)

theorem V_w (c : Dev nD) (d : Fin 2048) : (V m c main_v1 : Vec Ideal S1x2048 .f32) (ix2 0 d)
    = (m ((c : Thread nD τ).loc main_arg1) : Vec Ideal S2048 .f32) (ix1 d) := by
  have h : V m c main_v1 = shapeCast S1x2048 (m ((c : Thread nD τ).loc main_arg1) : Vec Ideal S2048 .f32) shapeCasts_S2048_S1x2048 := by
    show StableHlo.after hostOps0 _ (Proc.devRef .tc main_v1) = _
    after_results
    rfl
  rw [h, shapeCast_a_1a_apply]

theorem V_p (c : Dev nD) : V m c main_v0
    = m ((c : Thread nD τ).loc main_arg3) := by
  show StableHlo.after hostOps0 _ (Proc.devRef .tc main_v0) = _
  after_results
  rfl

/-- The batch, the token and the column of a point's block. -/
def batch (t : Fin cfg0.N) : Fin 2 := ⟨t.val / 66, by have h : t.val < 132 := Nat.lt_of_lt_of_eq t.isLt N_0; omega⟩
def token (t : Fin cfg0.N) (l : Fin 768) : Fin 8448 := ⟨768 * (t.val / 6 % 11) + l.val, by have := l.isLt; omega⟩
def column (t : Fin cfg0.N) (d : Fin 512) : Fin 3072 := ⟨512 * (t.val % 6) + d.val, by have := d.isLt; omega⟩

theorem coord0 (t : Fin cfg0.N) : (grid0.coords t 0).val = t.val / 66 := by
  have h : t.val < 132 := Nat.lt_of_lt_of_eq t.isLt N_0
  have e : (grid0.coords t 0).val = t.val / 66 % 2 := Pipeline.Grid.coords_val t 0 (by decide) rfl
  rw [e]; omega
theorem coord1 (t : Fin cfg0.N) : (grid0.coords t 1).val = t.val / 6 % 11 := Pipeline.Grid.coords_val t 1 (by decide) rfl

theorem pos0 : ∀ t : Fin cfg0.N, win0_0.index t = ![t.val / 66, t.val / 6 % 11, 0] := (by decide +kernel : ∀ t : Fin grid0.N, _)
theorem pos1 : ∀ t : Fin cfg0.N, win0_1.index t = ![0, 0] := (by decide +kernel : ∀ t : Fin grid0.N, _)
theorem pos2 : ∀ t : Fin cfg0.N, win0_2.index t = ![0, 0, 0] := (by decide +kernel : ∀ t : Fin grid0.N, _)
theorem pos3 : ∀ t : Fin cfg0.N, win0_3.index t = ![0, t.val % 6] := (by decide +kernel : ∀ t : Fin grid0.N, _)
theorem pos4 : ∀ t : Fin cfg0.N, win0_4.index t = ![t.val / 66, t.val / 6 % 11, t.val % 6] := (by decide +kernel : ∀ t : Fin grid0.N, _)

theorem blk0 (c : Dev nD) (t : Fin cfg0.N) (l : Fin 768) (k : Fin 2048) :
    iblk m c 0 t (ix3 0 l k) = m ((c : Thread nD τ).loc main_arg0) (ix3 (batch t) (token t l) k) := by
  blk_ext! [iblk, pos0, batch, token]
  exact congrArg (· + l.val) (Nat.mul_comm _ _)

theorem blk1 (c : Dev nD) (t : Fin cfg0.N) (k : Fin 2048) :
    iblk m c 1 t (ix2 0 k) = m ((c : Thread nD τ).loc main_arg1) (ix1 k) := by
  refine Eq.trans ?_ (V_w m c k)
  blk_ext! [iblk, pos1]

theorem blk2 (c : Dev nD) (t : Fin cfg0.N) (r : Fin 8) (k : Fin 6) (d : Fin 2048) :
    iblk m c 2 t (ix3 r k d) = m ((c : Thread nD τ).loc main_arg2) (ix3 r k d) := by
  blk_ext! [iblk, pos2]

theorem blk3 (c : Dev nD) (t : Fin cfg0.N) (k : Fin 2048) (d : Fin 512) :
    iblk m c 3 t (ix2 k d) = m ((c : Thread nD τ).loc main_arg3) (ix2 k (column t d)) := by
  blk_ext! [iblk, V_p, pos3, column]
  exact congrArg (· + d.val) (Nat.mul_comm _ _)

/-- A row of the modulation read out of the whole. -/
theorem mod_row (X : Vec Ideal S8x6x2048 .f32) (r : Fin 8) (k : Fin 6) (off : Fin 3 → Nat) (inb : ∀ a, off a + ![1, 1, 2048] a ≤ S8x6x2048.size a)
    (h : off = ![r.val, k.val, 0]) (d : Fin 2048) : View.ld X (Rect.unit off ![1, 1, 2048] inb) (ix3 0 0 d) = X (ix3 r k d) := by
  subst h
  refine congrArg X (funext fun a => Fin.ext ?_)
  match a with
  | ⟨0, _⟩ => rfl
  | ⟨1, _⟩ => rfl
  | ⟨2, _⟩ => show 0 + 1 * d.val = d.val; omega

theorem row_word : ∀ b : Fin 2, (Scalar.indexCast (BitVec.ofNat 32 b.val)).toNat = b.val := by decide

theorem off1_eq (t : Fin cfg0.N) : k0_off1 (grid0.coords t) = ![(batchRow (batch t)).val, (0 : Fin 6).val, 0] := by
  refine congrArg (fun n : ℕ => ![n, 0, 0]) ?_
  exact (row_word (grid0.coords t 0)).trans (coord0 t)

theorem off2_eq (t : Fin cfg0.N) : k0_off2 (grid0.coords t) = ![(batchRow (batch t)).val, (1 : Fin 6).val, 0] := by
  refine congrArg (fun n : ℕ => ![n, 1, 0]) ?_
  exact (row_word (grid0.coords t 0)).trans (coord0 t)

/-- The stream of the arguments. -/
abbrev streamOf (c : Dev nD) : Fin 2 → Fin 8448 → Fin 2048 → Ideal .f32 :=
  stream (m ((c : Thread nD τ).loc main_arg0)) (m ((c : Thread nD τ).loc main_arg1)) (m ((c : Thread nD τ).loc main_arg2)) 0 1

/-- The scratch after a first column block. -/
theorem scratch_first (c : Dev nD) (t : Fin cfg0.N) (h0 : t.val % 6 = 0) (l : Fin 768) (k : Fin 2048) :
    (outsAt0 m c t.val t.isLt).2 (ix2 l k) = streamOf m c (batch t) (token t l) k := by
  rw [outsAt0_A m c t h0]
  frame_out
  rw [pay1_apply, pay4_apply (grid0.coords t 1), pay5_apply (grid0.coords t 1), pay6_apply, pay8_apply]
  rw [mod_row _ 2 0 ![2, 0, 0] _ rfl, mod_row _ 2 1 ![2, 1, 0] _ rfl, mod_row _ (batchRow (batch t)) 0 _ _ (off1_eq t),
    mod_row _ (batchRow (batch t)) 1 _ _ (off2_eq t)]
  have h7 : k0_pay7 (F := Ideal) (iblk m c 1 t) (ix2 0 k) = iblk m c 1 t (ix2 0 k) := by
    unfold k0_pay7
    simp only [shapeCast_self]
  rw [h7]
  simp only [blk0, blk1, blk2, coord1]
  unfold streamOf stream normed invRms modRow
  rfl

/-- A later column block keeps it. -/
theorem scratch_later (c : Dev nD) (t : Fin cfg0.N) (h0 : ¬t.val % 6 = 0) :
    (outsAt0 m c t.val t.isLt).2 = (outsAt0 m c (t.val - 1) (Nat.lt_of_le_of_lt (Nat.sub_le _ _) t.isLt)).2 := by
  rw [outsAt0_B m c t h0]
  rfl

/-- A block is the product of the scratch as the block leaves it and the block's columns. -/
theorem block_eq (c : Dev nD) (t : Fin cfg0.N) :
    (outsAt0 m c t.val t.isLt).1 = k0_pay2 (outsAt0 m c t.val t.isLt).2 (iblk m c 3 t) := by
  by_cases h0 : t.val % 6 = 0
  · rw [outsAt0_A m c t h0]
    frame_out
  · rw [scratch_later m c t h0, outsAt0_B m c t h0]
    frame_out
    exact congrArg (k0_pay2 · (iblk m c 3 t)) (Memref.IsWhole.read_unread _ _)

/-- The scratch holds the stream of the point's tokens. -/
theorem scratch_eq (c : Dev nD) : ∀ (n : ℕ) (t : Fin cfg0.N), t.val = n → ∀ (l : Fin 768) (k : Fin 2048),
    (outsAt0 m c t.val t.isLt).2 (ix2 l k) = streamOf m c (batch t) (token t l) k := by
  intro n
  induction n with
  | zero => intro t ht; exact scratch_first m c t (by omega)
  | succ n ih =>
    intro t ht l k
    by_cases h0 : t.val % 6 = 0
    · exact scratch_first m c t h0 l k
    · rw [scratch_later m c t h0]
      have hn : t.val - 1 < cfg0.N := Nat.lt_of_le_of_lt (Nat.sub_le _ _) t.isLt
      refine (ih ⟨t.val - 1, hn⟩ (show t.val - 1 = n by omega) l k).trans ?_
      rw [show batch ⟨t.val - 1, hn⟩ = batch t from Fin.ext (show (t.val - 1) / 66 = t.val / 66 by omega),
        show token ⟨t.val - 1, hn⟩ l = token t l from
          Fin.ext (show 768 * ((t.val - 1) / 6 % 11) + l.val = 768 * (t.val / 6 % 11) + l.val by omega)]

/-- The array of the products with the matrix's columns. -/
def projected (c : Dev nD) : Vec Ideal S2x8448x3072 .f32 := fun y =>
  project (m ((c : Thread nD τ).loc main_arg0)) (m ((c : Thread nD τ).loc main_arg1)) (m ((c : Thread nD τ).loc main_arg2)) 0 1
    (m ((c : Thread nD τ).loc main_arg3)) (y 0) (y 1) (y 2)

/-- The point's block of the result. -/
theorem out_apply (c : Dev nD) (t : Fin cfg0.N) (l : Fin 768) (d : Fin 512) :
    (outsAt0 m c t.val t.isLt).1 (ix3 0 l d) = projected m c (ix3 (batch t) (token t l) (column t d)) := by
  rw [block_eq, pay2_apply]
  simp only [scratch_eq m c t.val t rfl, blk3]
  rfl

/-- The output array after the whole grid. -/
theorem final_out (c : Dev nD) : (dats m 0 c).arrAt 4 cfg0.N = projected m c := by
  refine (dats m 0 c).arrAt_eq_of_covers 4 _ (by decide +kernel) fun t hf y => ?_
  rw [after0_4]
  have h := out_apply m c t
  generalize outsAt0 m c t.val t.isLt = o at h ⊢
  obtain ⟨z, l, d, rfl⟩ : ∃ (z : Fin 1) (l : Fin 768) (d : Fin 512), y = ix3 z l d := ⟨y 0, y 1, y 2, by funext a; fin_cases a <;> rfl⟩
  obtain rfl : z = 0 := Fin.ext (by omega)
  refine (h l d).trans (congrArg _ ?_)
  symm
  blk_ext! [pos4, batch, token, column]
  · exact congrArg (· + l.val) (Nat.mul_comm _ _)
  · exact congrArg (· + d.val) (Nat.mul_comm _ _)

end Cert.Kernel4Ideal.Dense
end
-- ==== Proof.Project4Ref.lean ====
/-
  The projection's reference: its stream is `stream` of its arguments, for latent and context tokens alike, and its result is
  the stream's product with the matrix.
-/
module

public import proofs.«01_k».proof.Proof.Specs
public import proofs.«01_k».proof.Proof.Gen.Reference4Ideal.Read

@[expose] public section

set_option maxRecDepth 16384

noncomputable section

namespace Cert.Reference4Ideal.Dense

open Idealize.ShloMosaic hiding ix1 ix2 ix3 ix4 ix5
open Idealize.ShloMosaic.TcCoe Idealize.ShloMosaic.ValueIdx
open Cert.Reference4Ideal Cert.Reference4Ideal.Read Cert.Layer

variable (x : Vec Ideal S2x8448x2048 .f32) (w : Vec Ideal S2048 .f32) (md : Vec Ideal S8x6x2048 .f32)

/-- The latent tokens of the input. -/
theorem v0_at (b : Fin 2) (l : Fin 8192) (d : Fin 2048) : val_main_v0 (F := Ideal) x (ix3 b l d) = x (ix3 b (⟨l.val, by omega⟩ : Fin 8448) d) := by
  rw [val_main_v0_apply]
  refine congrArg x ?_
  funext a
  match a with
  | ⟨0, _⟩ => rfl
  | ⟨1, _⟩ => rfl
  | ⟨2, _⟩ => rfl

/-- The context tokens of the input. -/
theorem v26_at (b : Fin 2) (l : Fin 256) (d : Fin 2048) :
    val_main_v26 (F := Ideal) x (ix3 b l d) = x (ix3 b (⟨8192 + l.val, by omega⟩ : Fin 8448) d) := by
  rw [val_main_v26_apply]
  refine congrArg x ?_
  funext a
  match a with
  | ⟨0, _⟩ => rfl
  | ⟨1, _⟩ => rfl
  | ⟨2, _⟩ => rfl

/-- The reciprocal root mean square of a latent token. -/
theorem v8_at (b : Fin 2) (l : Fin 8192) (i : S2x8192x1.Idx) (hi : idx_main_v3 i = ix2 b l) :
    val_main_v8 (F := Ideal) x i = invRms fun k => x (ix3 b (⟨l.val, by omega⟩ : Fin 8448) k) := by
  rw [val_main_v8_apply, val_main_v7_apply, val_main_v5_apply, val_main_v3_apply, hi, val_main_v2_apply, val_main_v4_apply, val_main_v6_apply,
    val_main_cst_0_apply, val_main_cst_1_apply, val_main_cst_apply]
  have hs : ∀ k : Fin 2048, val_main_v1 (F := Ideal) x (idx_main_v2 (ix2 b l) k)
      = x (ix3 b (⟨l.val, by omega⟩ : Fin 8448) k) * x (ix3 b (⟨l.val, by omega⟩ : Fin 8448) k) := by
    intro k
    rw [val_main_v1_apply, show idx_main_v2 (ix2 b l) k = ix3 b l k from by
      funext a
      match a with
      | ⟨0, _⟩ => rfl
      | ⟨1, _⟩ => rfl
      | ⟨2, _⟩ => rfl, v0_at]
    rfl
  rw [Finset.sum_congr rfl fun k _ => hs k, show FloatOps.ofBits (F := Ideal) .f32 0x00000000#32 = 0 from Ideal.ofBits_zero_f32, zero_add]
  rfl

/-- The reciprocal root mean square of a context token. -/
theorem v34_at (b : Fin 2) (l : Fin 256) (i : S2x256x1.Idx) (hi : idx_main_v29 i = ix2 b l) :
    val_main_v34 (F := Ideal) x i = invRms fun k => x (ix3 b (⟨8192 + l.val, by omega⟩ : Fin 8448) k) := by
  rw [val_main_v34_apply, val_main_v33_apply, val_main_v31_apply, val_main_v29_apply, hi, val_main_v28_apply, val_main_v30_apply,
    val_main_v32_apply, val_main_cst_4_apply, val_main_cst_5_apply, val_main_cst_3_apply]
  have hs : ∀ k : Fin 2048, val_main_v27 (F := Ideal) x (idx_main_v28 (ix2 b l) k)
      = x (ix3 b (⟨8192 + l.val, by omega⟩ : Fin 8448) k) * x (ix3 b (⟨8192 + l.val, by omega⟩ : Fin 8448) k) := by
    intro k
    rw [val_main_v27_apply, show idx_main_v28 (ix2 b l) k = ix3 b l k from by
      funext a
      match a with
      | ⟨0, _⟩ => rfl
      | ⟨1, _⟩ => rfl
      | ⟨2, _⟩ => rfl, v26_at]
    rfl
  rw [Finset.sum_congr rfl fun k _ => hs k, show FloatOps.ofBits (F := Ideal) .f32 0x00000000#32 = 0 from Ideal.ofBits_zero_f32, zero_add]
  rfl

/-- The shift of a latent token. -/
theorem v24_at (b : Fin 2) (l : Fin 8192) (d : Fin 2048) :
    val_main_v24 (F := Ideal) md (ix3 b l d) = md (ix3 (batchRow b) (0 : Fin 6) d) := by
  rw [val_main_v24_apply, val_main_v16_apply, val_main_v15_apply, val_main_v14_apply]
  refine congrArg md ?_
  funext a
  have hb := b.isLt; have hd := d.isLt
  match a with
  | ⟨0, _⟩ => exact Fin.ext (show (b.val * 2048 + d.val) / 2048 = b.val by omega)
  | ⟨1, _⟩ => rfl
  | ⟨2, _⟩ => exact Fin.ext (show (b.val * 2048 + d.val) % 2048 = d.val by omega)

/-- One plus the scale of a latent token. -/
theorem v22_at (b : Fin 2) (l : Fin 8192) (d : Fin 2048) :
    val_main_v22 (F := Ideal) md (ix3 b l d) = FloatOps.ofBits (F := Ideal) .f32 0x3F800000#32 + md (ix3 (batchRow b) (1 : Fin 6) d) := by
  rw [val_main_v22_apply, val_main_v21_apply, val_main_v20_apply, val_main_cst_2_apply, val_main_v19_apply, val_main_v18_apply, val_main_v17_apply,
    Ideal.addf_def]
  refine congrArg (_ + md ·) ?_
  funext a
  have hb := b.isLt; have hd := d.isLt
  match a with
  | ⟨0, _⟩ => exact Fin.ext (show (b.val * 2048 + d.val) / 2048 = b.val by omega)
  | ⟨1, _⟩ => rfl
  | ⟨2, _⟩ => exact Fin.ext (show (b.val * 2048 + d.val) % 2048 = d.val by omega)

/-- The shift of a context token. -/
theorem v50_at (b : Fin 2) (l : Fin 256) (d : Fin 2048) :
    val_main_v50 (F := Ideal) md (ix3 b l d) = md (ix3 (2 : Fin 8) (0 : Fin 6) d) := by
  rw [val_main_v50_apply, val_main_v49_apply, val_main_v41_apply, val_main_v40_apply]
  refine congrArg md ?_
  funext a
  have hd := d.isLt
  match a with
  | ⟨0, _⟩ => rfl
  | ⟨1, _⟩ => rfl
  | ⟨2, _⟩ => exact Fin.ext (show d.val % 2048 = d.val by omega)

/-- One plus the scale of a context token. -/
theorem v47_at (b : Fin 2) (l : Fin 256) (d : Fin 2048) :
    val_main_v47 (F := Ideal) md (ix3 b l d) = FloatOps.ofBits (F := Ideal) .f32 0x3F800000#32 + md (ix3 (2 : Fin 8) (1 : Fin 6) d) := by
  rw [val_main_v47_apply, val_main_v46_apply, val_main_v45_apply, val_main_v44_apply, val_main_cst_6_apply, val_main_v43_apply, val_main_v42_apply,
    Ideal.addf_def]
  refine congrArg (_ + md ·) ?_
  funext a
  have hd := d.isLt
  match a with
  | ⟨0, _⟩ => rfl
  | ⟨1, _⟩ => rfl
  | ⟨2, _⟩ => exact Fin.ext (show d.val % 2048 = d.val by omega)

/-- The latent stream. -/
theorem v25_at (b : Fin 2) (l : Fin 8192) (d : Fin 2048) :
    val_main_v25 (F := Ideal) x w md (ix3 b l d) = stream x w md 0 1 b (⟨l.val, by omega⟩ : Fin 8448) d := by
  rw [val_main_v25_apply, val_main_v23_apply, val_main_v13_apply, val_main_v10_apply, v24_at, v22_at, v0_at, val_main_v9_apply,
    v8_at x b l (idx_main_v9 (ix3 b l d)) (by
      funext a
      match a with
      | ⟨0, _⟩ => rfl
      | ⟨1, _⟩ => rfl), val_main_v12_apply, val_main_v11_apply,
    show idx_main_v11 (idx_main_v12 (ix3 b l d)) = ix1 d from by
      funext a
      match a with
      | ⟨0, _⟩ => rfl]
  rw [Ideal.addf_def, Ideal.mulf_def, Ideal.mulf_def, Ideal.mulf_def]
  unfold stream normed modRow
  rw [if_neg (show ¬8192 ≤ l.val by omega), if_neg (show ¬8192 ≤ l.val by omega)]

/-- The context stream. -/
theorem v51_at (b : Fin 2) (l : Fin 256) (d : Fin 2048) :
    val_main_v51 (F := Ideal) x w md (ix3 b l d) = stream x w md 0 1 b (⟨8192 + l.val, by omega⟩ : Fin 8448) d := by
  rw [val_main_v51_apply, val_main_v48_apply, val_main_v39_apply, val_main_v36_apply, v50_at, v47_at, v26_at, val_main_v35_apply,
    v34_at x b l (idx_main_v35 (ix3 b l d)) (by
      funext a
      match a with
      | ⟨0, _⟩ => rfl
      | ⟨1, _⟩ => rfl), val_main_v38_apply, val_main_v37_apply,
    show idx_main_v37 (idx_main_v38 (ix3 b l d)) = ix1 d from by
      funext a
      match a with
      | ⟨0, _⟩ => rfl]
  rw [Ideal.addf_def, Ideal.mulf_def, Ideal.mulf_def, Ideal.mulf_def]
  unfold stream normed modRow
  rw [if_pos (show 8192 ≤ 8192 + l.val by omega), if_pos (show 8192 ≤ 8192 + l.val by omega)]

/-- The stream of every token. -/
theorem stream_at (b : Fin 2) (l : Fin 8448) (d : Fin 2048) : val_main_v52 (F := Ideal) x w md (ix3 b l d) = stream x w md 0 1 b l d := by
  unfold val_main_v52
  by_cases h : l.val < 8192
  · rw [concatenate_pair_apply_left (s₁ := S2x8192x2048) (s₂ := S2x256x2048) 1 _ _ _ (ix3 b l d) rfl (ix3 b (⟨l.val, h⟩ : Fin 8192) d)
      (fun a => match a with | ⟨0, _⟩ => rfl | ⟨1, _⟩ => rfl | ⟨2, _⟩ => rfl)]
    exact v25_at x w md b ⟨l.val, h⟩ d
  · have hl := l.isLt
    rw [concatenate_pair_apply_right (s₁ := S2x8192x2048) (s₂ := S2x256x2048) 1 _ _ _ (ix3 b l d) rfl rfl (ix3 b (⟨l.val - 8192, by omega⟩ : Fin 256) d)
      (fun a ha => match a with | ⟨0, _⟩ => rfl | ⟨1, _⟩ => absurd rfl ha | ⟨2, _⟩ => rfl)
      (show l.val - 8192 + 8192 = l.val by omega), v51_at]
    exact congrArg (stream x w md 0 1 b · d) (Fin.ext (show 8192 + (l.val - 8192) = l.val by omega))

/-- The product with a column. -/
theorem product_at (p : Vec Ideal S2048x3072 .f32) (b : Fin 2) (l : Fin 8448) (j : Fin 3072) :
    val_main_v53 (F := Ideal) x w md p (ix3 b l j) = project x w md 0 1 p b l j := by
  rw [val_main_v53_apply]
  refine Finset.sum_congr rfl fun k _ => congrArg₂ (· * ·) ?_ (congrArg p ?_)
  · rw [← stream_at]
    refine congrArg (val_main_v52 (F := Ideal) x w md) ?_
    funext a
    match a with
    | ⟨0, _⟩ => rfl
    | ⟨1, _⟩ => rfl
    | ⟨2, _⟩ => rfl
  · funext a
    match a with
    | ⟨0, _⟩ => rfl
    | ⟨1, _⟩ => rfl

/-- The reference's result. -/
theorem value (p : Vec Ideal S2048x3072 .f32) : val_main_v53 (F := Ideal) x w md p = fun y => project x w md 0 1 p (y 0) (y 1) (y 2) := by
  funext y
  refine Eq.trans ?_ (product_at x w md p (y 0) (y 1) (y 2))
  refine congrArg (val_main_v53 (F := Ideal) x w md p) ?_
  funext a
  match a with
  | ⟨0, _⟩ => rfl
  | ⟨1, _⟩ => rfl
  | ⟨2, _⟩ => rfl

end Cert.Reference4Ideal.Dense
end
-- ==== Proof.Project4Equal.lean ====
/-
  The projection and its reference compute the same array.
-/
module

public import proofs.«01_k».proof.Defs
public import proofs.«01_k».proof.Proof.Project4
public import proofs.«01_k».proof.Proof.Project4Ref
public import proofs.«01_k».proof.Proof.Gen.Kernel4.Frame
public import Idealize.ShloMosaic.Lib.Quiescent

@[expose] public section

noncomputable section

namespace Cert.Project4

open Idealize.ShloMosaic Idealize.SL.Sem

theorem frame_kernel : Cert.quiescent_Kernel4 := fun m ρ _ => Cert.Kernel4.Gen.frame m ρ
theorem frame_ideal : Cert.quiescent_Kernel4Ideal := fun m ρ _ => Cert.Kernel4Ideal.Gen.frame m ρ
/-- The reference leaves its arguments alone; it has no counters. -/
theorem frame_reference : Cert.quiescent_Reference4Ideal := fun m ρ _ =>
  (θ_run Cert.Reference4Ideal.defs _ _).mono
    (fun r h => ⟨fun c => (h c).2, sem_eq_zero_of_no_sems (by decide) r.2⟩) (Cert.Reference4Ideal.Value.run m ρ)

/-- Equal results from equal arguments. -/
theorem algebraic : Cert.algebraic_Kernel4Ideal_Reference4Ideal := by
  intro m ρ m' ρ' _ hargs
  refine ⟨fun c => Cert.Kernel4Ideal.Dense.projected m c, ?_, ?_⟩
  · exact (θ_run Cert.Kernel4Ideal.defs _ _).mono
      (fun r h c => ⟨(h c).1.trans (Cert.Kernel4Ideal.Dense.final_out m c), (h c).2⟩) (Cert.Kernel4Ideal.Value.run_blocks m ρ)
  · refine (θ_run Cert.Reference4Ideal.defs _ _).mono (fun r h c => ⟨(h c).1.trans ?_, (h c).2⟩) (Cert.Reference4Ideal.Value.run m' ρ')
    obtain ⟨h0, h1, h2, h3⟩ := hargs c
    rw [Cert.Reference4Ideal.Read.val_main_v53_eq, h0, h1, h2, h3]
    exact Cert.Reference4Ideal.Dense.value _ _ _ _

end Cert.Project4
end
-- ==== Proof.OutProj.lean ====
/-
  The output projection: every grid point computes one block of 768 tokens by 512 features from its input blocks, and the
  blocks are those of `outProj` of the argument arrays.
-/
module

public import proofs.«01_k».proof.Proof.Specs
public import proofs.«01_k».proof.Proof.Gen.Kernel5Ideal.Value

@[expose] public section

set_option maxRecDepth 16384

noncomputable section

namespace Cert.Kernel5Ideal.Dense

open Idealize.ShloMosaic hiding ix1 ix2 ix3 ix4 ix5
open Idealize.ShloMosaic.TcCoe Idealize.ShloMosaic.Tactic Idealize.ShloMosaic.ValueIdx
open Idealize.SL Idealize.SL.RA Idealize.SL.BI Idealize.SL.Sem
open Cert.Kernel5Ideal.Gen Cert.Layer

/-- One point's block, entry by entry. -/
theorem pay1_apply (i : grid0.Coords) (g2 gb : Vec Ideal S1x1x512 .f32) (x : Vec Ideal S1x768x512 .f32) (u : Vec Ideal S1x768x2048 .bf16)
    (p : Vec Ideal S2048x512 .bf16) (l : Fin 768) (d : Fin 512) :
    k0_pay1 (F := Ideal) i g2 gb x u p (ix3 0 l d)
      = x (ix3 0 l d) + (if 8192 ≤ 768 * (i 1).val + l.val then g2 (ix3 0 0 d) else gb (ix3 0 0 d))
          * ∑ k : Fin 2048, u (ix3 0 l k) * p (ix2 k d) := by
  unfold k0_pay1
  simp only [shapeCast_self]
  rw [shapeCast_ab_1ab_apply]
  show (shapeCast S768x512 x shapeCasts_S1x768x512_S768x512) (ix2 l d) + _ * _ = _
  rw [shapeCast_1ab_ab_apply]
  congr 1
  refine congrArg₂ (· * ·) ?_ ?_
  · show Scalar.select (broadcastTo S768x512 _ _ (ix2 l d)) (broadcastTo S768x512 _ _ (ix2 l d)) (broadcastTo S768x512 _ _ (ix2 l d)) = _
    rw [broadcastTo_1b_ab_apply, broadcastTo_1b_ab_apply, shapeCast_1ab_ab_apply, shapeCast_1ab_ab_apply,
      broadcastTo_apply _ _ (ix2 l d) (ix2 l 0) (by intro a; fin_cases a <;> rfl)]
    have hi : iota .tc S768x1 32 [0] iota_S768x1_d0_w32 (ix2 l 0) = BitVec.ofNat 32 l.val := iota_single_apply _ _ _ _ _ _
    show Scalar.select (Scalar.cmpi .sge (Scalar.addi (Scalar.muli (BitVec.ofNat 32 (i 1).val) 768#32) (iota .tc S768x1 32 [0] iota_S768x1_d0_w32 (ix2 l 0))) 8192#32) _ _ = _
    rw [hi, context_iff (i 1) l]
    split <;> rfl
  · refine (Ideal.matmul_plain_apply (M := 768) (K := 2048) (N := 512) none _ _ _ l d).trans ?_
    rw [show constant (F := Ideal) S768x512 .f32 0x00000000#32 (ix2 l d) = 0 from Ideal.ofBits_zero_f32, zero_add]
    refine Finset.sum_congr rfl fun k _ => ?_
    rw [shapeCast_1ab_ab_apply]

variable (m : (ℓ : Loc nD τ sig) → Buf (Elt Ideal) ℓ)

theorem V_v0 (c : Dev nD) : V m c main_v0 = m ((c : Thread nD τ).loc main_arg1) := by
  show StableHlo.after hostOps0 _ (Proc.devRef .tc main_v0) = _
  after_results
  rfl

theorem V_v1 (c : Dev nD) : V m c main_v1
    = extractStridedSlice S8x1x2048 ![0, 2, 0] (m ((c : Thread nD τ).loc main_arg3) : Vec Ideal S8x6x2048 .f32) slices_S8x6x2048_S8x1x2048_0_2_0 := by
  show StableHlo.after hostOps0 _ (Proc.devRef .tc main_v1) = _
  after_results

/-- The batch, the token and the feature of a point's block. -/
def batch (t : Fin cfg0.N) : Fin 2 := ⟨t.val / 44, by have h : t.val < 88 := Nat.lt_of_lt_of_eq t.isLt N_0; omega⟩
def token (t : Fin cfg0.N) (l : Fin 768) : Fin 8448 := ⟨768 * (t.val / 4 % 11) + l.val, by have := l.isLt; omega⟩
def feature (t : Fin cfg0.N) (d : Fin 512) : Fin 2048 := ⟨512 * (t.val % 4) + d.val, by have := d.isLt; omega⟩

theorem coord0 (t : Fin cfg0.N) : (grid0.coords t 0).val = t.val / 44 := by
  have h : t.val < 88 := Nat.lt_of_lt_of_eq t.isLt N_0
  have e : (grid0.coords t 0).val = t.val / 44 % 2 := Pipeline.Grid.coords_val t 0 (by decide) rfl
  rw [e]; omega
theorem coord1 (t : Fin cfg0.N) : (grid0.coords t 1).val = t.val / 4 % 11 := Pipeline.Grid.coords_val t 1 (by decide) rfl

theorem pos0 : ∀ t : Fin cfg0.N, win0_0.index t = ![t.val / 44, t.val / 4 % 11, 0] := (by decide +kernel : ∀ t : Fin grid0.N, _)
theorem pos1 : ∀ t : Fin cfg0.N, win0_1.index t = ![0, t.val % 4] := (by decide +kernel : ∀ t : Fin grid0.N, _)
theorem pos2 : ∀ t : Fin cfg0.N, win0_2.index t = ![t.val / 44, t.val / 4 % 11, t.val % 4] := (by decide +kernel : ∀ t : Fin grid0.N, _)
theorem pos3 : ∀ t : Fin cfg0.N, win0_3.index t = ![0, 0, t.val % 4] := (by decide +kernel : ∀ t : Fin grid0.N, _)
theorem pos4 : ∀ t : Fin cfg0.N, win0_4.index t = ![t.val / 44, t.val / 4 % 11, t.val % 4] := (by decide +kernel : ∀ t : Fin grid0.N, _)

theorem blk0 (c : Dev nD) (t : Fin cfg0.N) (l : Fin 768) (k : Fin 2048) :
    iblk m c 0 t (ix3 0 l k) = m ((c : Thread nD τ).loc main_arg0) (ix3 (batch t) (token t l) k) := by
  blk_ext! [iblk, pos0, batch, token]
  exact congrArg (· + l.val) (Nat.mul_comm _ _)

theorem blk1 (c : Dev nD) (t : Fin cfg0.N) (k : Fin 2048) (d : Fin 512) :
    iblk m c 1 t (ix2 k d) = m ((c : Thread nD τ).loc main_arg1) (ix2 k (feature t d)) := by
  blk_ext! [iblk, V_v0, pos1, feature]
  exact congrArg (· + d.val) (Nat.mul_comm _ _)

theorem blk2 (c : Dev nD) (t : Fin cfg0.N) (l : Fin 768) (d : Fin 512) :
    iblk m c 2 t (ix3 0 l d) = m ((c : Thread nD τ).loc main_arg2) (ix3 (batch t) (token t l) (feature t d)) := by
  blk_ext! [iblk, pos2, batch, token, feature]
  · exact congrArg (· + l.val) (Nat.mul_comm _ _)
  · exact congrArg (· + d.val) (Nat.mul_comm _ _)

theorem blk3 (c : Dev nD) (t : Fin cfg0.N) (r : Fin 8) (d : Fin 512) :
    iblk m c 3 t (ix3 r 0 d) = m ((c : Thread nD τ).loc main_arg3) (ix3 r 2 (feature t d)) := by
  blk_ext! [iblk, V_v1, pos3, feature]
  exact congrArg (· + d.val) (Nat.mul_comm _ _)

/-- A row of the gates read out of the block of all eight. -/
theorem gate_row (X : Vec Ideal S8x1x512 .f32) (r : Fin 8) (off : Fin 3 → Nat) (inb : ∀ a, off a + ![1, 1, 512] a ≤ S8x1x512.size a)
    (h : off = ![r.val, 0, 0]) (d : Fin 512) : View.ld X (Rect.unit off ![1, 1, 512] inb) (ix3 0 0 d) = X (ix3 r 0 d) := by
  subst h
  refine congrArg X (funext fun a => Fin.ext ?_)
  match a with
  | ⟨0, _⟩ => rfl
  | ⟨1, _⟩ => rfl
  | ⟨2, _⟩ => show 0 + 1 * d.val = d.val; omega

theorem row_word : ∀ b : Fin 2, (Scalar.indexCast (BitVec.ofNat 32 b.val)).toNat = b.val := by decide

theorem off1_eq (t : Fin cfg0.N) : k0_off1 (grid0.coords t) = ![(batchRow (batch t)).val, 0, 0] := by
  refine congrArg (fun n : ℕ => ![n, 0, 0]) ?_
  exact (row_word (grid0.coords t 0)).trans (coord0 t)

/-- The point's block of the result. -/
theorem out_apply (c : Dev nD) (t : Fin cfg0.N) (l : Fin 768) (d : Fin 512) :
    outsAt0 m c t (ix3 0 l d)
      = outProj (m ((c : Thread nD τ).loc main_arg0)) (m ((c : Thread nD τ).loc main_arg1)) (m ((c : Thread nD τ).loc main_arg2))
          (m ((c : Thread nD τ).loc main_arg3)) (ix3 (batch t) (token t l) (feature t d)) := by
  unfold outsAt0
  frame_out
  rw [pay1_apply]
  rw [gate_row _ 2 ![2, 0, 0] _ rfl, gate_row _ (batchRow (batch t)) _ _ (off1_eq t)]
  simp only [blk0, blk1, blk2, blk3, coord1]
  unfold outProj modRow
  rfl

/-- The output array after the whole grid. -/
theorem final_out (c : Dev nD) : (dats m 0 c).arrAt 4 cfg0.N
    = outProj (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  rw [after0_4]
  have h := out_apply m c t
  generalize outsAt0 m c t = o at h ⊢
  obtain ⟨z, l, d, rfl⟩ : ∃ (z : Fin 1) (l : Fin 768) (d : Fin 512), y = ix3 z l d := ⟨y 0, y 1, y 2, by funext a; fin_cases a <;> rfl⟩
  obtain rfl : z = 0 := Fin.ext (by omega)
  refine (h l d).trans (congrArg _ ?_)
  symm
  blk_ext! [pos4, batch, token, feature]
  · exact congrArg (· + l.val) (Nat.mul_comm _ _)
  · exact congrArg (· + d.val) (Nat.mul_comm _ _)

end Cert.Kernel5Ideal.Dense
end
-- ==== Proof.OutProjEqual.lean ====
/-
  The output projection's reference computes `outProj` of its arguments; so the kernel and the reference compute the same
  array.
-/
module

public import proofs.«01_k».proof.Defs
public import proofs.«01_k».proof.Proof.OutProj
public import proofs.«01_k».proof.Proof.Gen.Kernel5.Frame
public import proofs.«01_k».proof.Proof.Gen.Reference5Ideal.Read
public import Idealize.ShloMosaic.Lib.Quiescent

@[expose] public section

set_option maxRecDepth 16384

noncomputable section

namespace Cert.Reference5Ideal.Dense

open Idealize.ShloMosaic hiding ix1 ix2 ix3 ix4 ix5
open Idealize.ShloMosaic.TcCoe Idealize.ShloMosaic.ValueIdx
open Cert.Reference5Ideal Cert.Reference5Ideal.Read Cert.Layer

variable (x0 : Vec Ideal S2x8448x2048 .bf16) (x1 : Vec Ideal S2048x2048 .f32) (x2 : Vec Ideal S2x8448x2048 .f32) (x3 : Vec Ideal S8x6x2048 .f32)

/-- The product. -/
theorem v1_at (b : Fin 2) (l : Fin 8448) (d : Fin 2048) :
    val_main_v1 (F := Ideal) x0 x1 (ix3 b l d) = ∑ k : Fin 2048, x0 (ix3 b l k) * x1 (ix2 k d) := by
  rw [val_main_v1_apply]
  refine Finset.sum_congr rfl fun k _ => ?_
  rw [val_main_v0_apply, Ideal.extf_def]
  refine congrArg₂ (· * ·) (congrArg x0 ?_) (congrArg x1 ?_)
  · funext a
    match a with
    | ⟨0, _⟩ => rfl
    | ⟨1, _⟩ => rfl
    | ⟨2, _⟩ => rfl
  · funext a
    match a with
    | ⟨0, _⟩ => rfl
    | ⟨1, _⟩ => rfl

/-- The gate's row for the latent tokens. -/
theorem gate_latent (b : Fin 2) (l : Fin 8192) (d : Fin 2048) :
    val_main_v7 (F := Ideal) x3 (ix3 b l d) = x3 (ix3 (batchRow b) (2 : Fin 6) d) := by
  rw [val_main_v7_apply, val_main_v5_apply, val_main_v4_apply, val_main_v3_apply]
  refine congrArg x3 ?_
  funext a
  have hb := b.isLt; have hd := d.isLt
  match a with
  | ⟨0, _⟩ => exact Fin.ext (show (b.val * 2048 + d.val) / 2048 = b.val by omega)
  | ⟨1, _⟩ => rfl
  | ⟨2, _⟩ => exact Fin.ext (show (b.val * 2048 + d.val) % 2048 = d.val by omega)

/-- The gate's row for the context tokens. -/
theorem gate_context (b : Fin 2) (l : Fin 256) (d : Fin 2048) :
    val_main_v15 (F := Ideal) x3 (ix3 b l d) = x3 (ix3 (2 : Fin 8) (2 : Fin 6) d) := by
  rw [val_main_v15_apply, val_main_v14_apply, val_main_v12_apply, val_main_v11_apply]
  refine congrArg x3 ?_
  funext a
  have hd := d.isLt
  match a with
  | ⟨0, _⟩ => rfl
  | ⟨1, _⟩ => rfl
  | ⟨2, _⟩ => exact Fin.ext (show d.val % 2048 = d.val by omega)

/-- The reference's result. -/
theorem value : val_main_v18 (F := Ideal) x0 x1 x2 x3 = outProj x0 x1 x2 x3 := by
  funext y
  obtain ⟨b, l, d, rfl⟩ : ∃ (b : Fin 2) (l : Fin 8448) (d : Fin 2048), y = ix3 b l d :=
    ⟨y 0, y 1, y 2, by funext a; match a with | ⟨0, _⟩ => rfl | ⟨1, _⟩ => rfl | ⟨2, _⟩ => rfl⟩
  unfold val_main_v18
  show _ = x2 (ix3 b l d) + modRow x3 2 b l d * ∑ k : Fin 2048, x0 (ix3 b l k) * x1 (ix2 k d)
  by_cases h : l.val < 8192
  · rw [concatenate_pair_apply_left (s₁ := S2x8192x2048) (s₂ := S2x256x2048) 1 _ _ _ (ix3 b l d) rfl (ix3 b (⟨l.val, h⟩ : Fin 8192) d)
      (fun a => match a with | ⟨0, _⟩ => rfl | ⟨1, _⟩ => rfl | ⟨2, _⟩ => rfl)]
    rw [val_main_v9_apply, val_main_v8_apply, gate_latent, val_main_v6_apply, val_main_v2_apply, Ideal.addf_def, Ideal.mulf_def]
    have hi : idx_main_v6 (ix3 b (⟨l.val, h⟩ : Fin 8192) d) = ix3 b l d := by
      funext a
      match a with
      | ⟨0, _⟩ => rfl
      | ⟨1, _⟩ => rfl
      | ⟨2, _⟩ => rfl
    rw [show idx_main_v2 (ix3 b (⟨l.val, h⟩ : Fin 8192) d) = _ from hi, hi, v1_at]
    unfold modRow
    rw [if_neg (by omega)]
  · have hl := l.isLt
    rw [concatenate_pair_apply_right (s₁ := S2x8192x2048) (s₂ := S2x256x2048) 1 _ _ _ (ix3 b l d) rfl rfl (ix3 b (⟨l.val - 8192, by omega⟩ : Fin 256) d)
      (fun a ha => match a with | ⟨0, _⟩ => rfl | ⟨1, _⟩ => absurd rfl ha | ⟨2, _⟩ => rfl)
      (show l.val - 8192 + 8192 = l.val by omega)]
    rw [val_main_v17_apply, val_main_v16_apply, gate_context, val_main_v13_apply, val_main_v10_apply, Ideal.addf_def, Ideal.mulf_def]
    have hi : idx_main_v13 (ix3 b (⟨l.val - 8192, by omega⟩ : Fin 256) d) = ix3 b l d := by
      funext a
      match a with
      | ⟨0, _⟩ => rfl
      | ⟨1, _⟩ => exact Fin.ext (show 8192 + (l.val - 8192) = l.val by omega)
      | ⟨2, _⟩ => rfl
    rw [show idx_main_v10 (ix3 b (⟨l.val - 8192, by omega⟩ : Fin 256) d) = _ from hi, hi, v1_at]
    unfold modRow
    rw [if_pos (by omega)]

end Cert.Reference5Ideal.Dense

namespace Cert.OutProj

open Idealize.ShloMosaic Idealize.SL.Sem
open Cert.Layer (outProj)

theorem frame_kernel : Cert.quiescent_Kernel5 := fun m ρ _ => Cert.Kernel5.Gen.frame m ρ
theorem frame_ideal : Cert.quiescent_Kernel5Ideal := fun m ρ _ => Cert.Kernel5Ideal.Gen.frame m ρ
/-- The reference leaves its arguments alone; it has no counters. -/
theorem frame_reference : Cert.quiescent_Reference5Ideal := fun m ρ _ =>
  (θ_run Cert.Reference5Ideal.defs _ _).mono
    (fun r h => ⟨fun c => (h c).2, sem_eq_zero_of_no_sems (by decide) r.2⟩) (Cert.Reference5Ideal.Value.run m ρ)

/-- Equal results from equal arguments. -/
theorem algebraic : Cert.algebraic_Kernel5Ideal_Reference5Ideal := by
  intro m ρ m' ρ' _ hargs
  refine ⟨fun c => outProj (m ((c.tc : Thread _ Cert.Kernel5Ideal.τ).loc Cert.Kernel5Ideal.main_arg0))
    (m ((c.tc : Thread _ Cert.Kernel5Ideal.τ).loc Cert.Kernel5Ideal.main_arg1)) (m ((c.tc : Thread _ Cert.Kernel5Ideal.τ).loc Cert.Kernel5Ideal.main_arg2))
    (m ((c.tc : Thread _ Cert.Kernel5Ideal.τ).loc Cert.Kernel5Ideal.main_arg3)), ?_, ?_⟩
  · exact (θ_run Cert.Kernel5Ideal.defs _ _).mono
      (fun r h c => ⟨(h c).1.trans (Cert.Kernel5Ideal.Dense.final_out m c), (h c).2⟩) (Cert.Kernel5Ideal.Value.run_blocks m ρ)
  · refine (θ_run Cert.Reference5Ideal.defs _ _).mono (fun r h c => ⟨(h c).1.trans ?_, (h c).2⟩) (Cert.Reference5Ideal.Value.run m' ρ')
    obtain ⟨h0, h1, h2, h3⟩ := hargs c
    rw [Cert.Reference5Ideal.Read.val_main_v18_eq, h0, h1, h2, h3]
    exact Cert.Reference5Ideal.Dense.value _ _ _ _

end Cert.OutProj
end
-- ==== Proof.QueriesRun.lean ====
/-
  The expert mixer's stream and queries: one grid point of the kernel's body, and its run over the whole grid.

  At the first column block of every 384 tokens the body normalises them into its scratch and into the stream's block; at every
  column block it multiplies the scratch by the block's columns (`body_run`). The scratch is carried from point to point
  (`scrAt`); the stream's block is stored at the first column block, left alone at the others and written back after the last,
  so at every point its buffer holds the scratch's contents. From one point's run the pipeline's rule gives the whole
  program's (`run_main_quiescent`), and the frames of both programs, which have the same text.
-/
module

public import proofs.«01_k».proof.Defs
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Frame
public import Idealize.ShloMosaic.Lib.VecWindow
public import Idealize.ShloMosaic.Lib.Claim
public import Idealize.ShloMosaic.Lib.WholeRead
public import Idealize.ShloMosaic.Lib.Pipeline.TableIdle
public import Idealize.ShloMosaic.Lib.Pipeline.ValueKit
public import Idealize.ShloMosaic.Lib.ValueLayout

@[expose] public section

set_option maxRecDepth 16384

noncomputable section

namespace Cert.Kernel6Ideal.Dense

open Idealize.ShloMosaic hiding ix1 ix2 ix3 ix4 ix5
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel6Ideal.Gen

variable {F : FTy → Type} [FloatOps F]

local notation "𝕄" => MT nD τ sig Unit (Elt F) ℕ (UR sig nD τ) ℕ

/-! ## One point -/

/-- The body's condition: the first column block. -/
abbrev isFirst (i : grid0.Coords) : Prop := k0_cond1 i = 1#1

/-- The condition holds at the first column block and nowhere else. -/
theorem isFirst_iff (i : grid0.Coords) : isFirst i ↔ (i 2).val = 0 := by
  have h : ∀ n : Fin 4, (Scalar.cmpi .ne (Scalar.extui (Scalar.cmpi .eq (BitVec.ofNat 32 n.val) 0#32)) 0#32) = 1#1 ↔ n.val = 0 := by
    decide
  exact h (i 2)

/-- The batch's row of the modulation at a point. -/
def rowOf (i : grid0.Coords) : Fin 8 := ⟨(i 0).val, Nat.lt_of_lt_of_le (i 0).isLt (by decide)⟩

/-- The normalised, modulated stream of a point's tokens, from the point's blocks. -/
def fresh (i : grid0.Coords) (x0 : Vec F S1x384x2048 .f32) (x1 : Vec F S1x2048 .f32) (x2 : Vec F S8x6x2048 .f32) : Vec F S384x2048 .bf16 :=
  k0_pay1 (k0_pay6 (BitVec.ofNat 32 (i 1).val) (fun z => x2 (ix3 (rowOf i) 3 (z 2))) (fun z => x2 (ix3 2 3 (z 2))))
    (k0_pay7 (BitVec.ofNat 32 (i 1).val) (fun z => x2 (ix3 (rowOf i) 4 (z 2))) (fun z => x2 (ix3 2 4 (z 2))))
    (k0_pay8 x0) (k0_pay9 x1) (k0_pay10 x0) k0_pay11

/-- What the scratch holds after a point, from what it held before. -/
def scrNext (i : grid0.Coords) (x0 : Vec F S1x384x2048 .f32) (x1 : Vec F S1x2048 .f32) (x2 : Vec F S8x6x2048 .f32)
    (xs : Vec F S384x2048 .bf16) : Vec F S384x2048 .bf16 :=
  if isFirst i then fresh i x0 x1 x2 else xs

/-- The stream's block holding what the scratch holds. -/
def streamBlock (xs : Vec F S384x2048 .bf16) : Vec F S1x384x2048 .bf16 := shapeCast S1x384x2048 xs shapeCasts_S384x2048_S1x384x2048

/-- A load of a whole memref held at the contents that read `X` reads `X`. -/
theorem whole_load {sp : Space} {s : Shape} {e : EltTy} {m : Memref sig .tc sp s e} (h : m.IsWhole) (X : s.Idx → Elt F e)
    {off : Fin s.rank → ℕ} (inb : ∀ a, off a + s.size a ≤ s.size a) :
    m.view.readAt (Elt F) (Rect.unit off s.size inb).toLoadRect (h.unread X) = X :=
  (View.readAt_full _ _ _).trans (h.read_unread X)

/-- A load of one row of the modulation. -/
theorem row_load {arg5 : Memref sig .tc .vmem S8x6x2048 .f32} (harg5 : arg5.IsWhole) (x2 : Vec F S8x6x2048 .f32) (r : Fin 8) (k : Fin 6)
    {off : Fin 3 → ℕ} (inb : ∀ a, off a + S1x1x2048.size a ≤ S8x6x2048.size a) (h : off = ![r.val, k.val, 0]) :
    arg5.view.readAt (Elt F) (Rect.unit (s := S8x6x2048) off S1x1x2048.size inb).toLoadRect (harg5.unread x2)
      = fun z => x2 (ix3 r k (z 2)) := by
  subst h
  funext z
  rw [harg5.readAt_unread]
  congr 1; funext b; apply Fin.ext
  match b with
  | ⟨0, _⟩ => have h0 : (z 0).val < 1 := (z 0).isLt; show r.val + 1 * (z 0).val = r.val; omega
  | ⟨1, _⟩ => have h0 : (z 1).val < 1 := (z 1).isLt; show k.val + 1 * (z 1).val = k.val; omega
  | ⟨2, _⟩ => show 0 + 1 * (z 2).val = (z 2).val; omega

/-- The stored stream from the loads. -/
theorem fresh_eq {arg3 : Memref sig .tc .vmem S1x384x2048 .f32} (harg3 : arg3.IsWhole) {arg4 : Memref sig .tc .vmem S1x2048 .f32} (harg4 : arg4.IsWhole)
    {arg5 : Memref sig .tc .vmem S8x6x2048 .f32} (harg5 : arg5.IsWhole) (i : grid0.Coords)
    (x0 : Vec F S1x384x2048 .f32) (x1 : Vec F S1x2048 .f32) (x2 : Vec F S8x6x2048 .f32)
    (inb1 : ∀ a, k0_off1 i a + S1x1x2048.size a ≤ S8x6x2048.size a) (inb2 : ∀ a, k0_off2 i a + S1x1x2048.size a ≤ S8x6x2048.size a)
    (inb3 : ∀ a, (![2, 3, 0] : Fin 3 → ℕ) a + S1x1x2048.size a ≤ S8x6x2048.size a)
    (inb4 : ∀ a, (![2, 4, 0] : Fin 3 → ℕ) a + S1x1x2048.size a ≤ S8x6x2048.size a)
    (inb5 : ∀ a, (![0, 0, 0] : Fin 3 → ℕ) a + S1x384x2048.size a ≤ S1x384x2048.size a)
    (inb6 : ∀ a, (![0, 0] : Fin 2 → ℕ) a + S1x2048.size a ≤ S1x2048.size a) :
    k0_pay1 (k0_pay6 (BitVec.ofNat 32 (i 1).val)
          (arg5.view.readAt (Elt F) (Rect.unit (s := S8x6x2048) (k0_off1 i) S1x1x2048.size inb1).toLoadRect (harg5.unread x2))
          (arg5.view.readAt (Elt F) (Rect.unit (s := S8x6x2048) ![2, 3, 0] S1x1x2048.size inb3).toLoadRect (harg5.unread x2)))
        (k0_pay7 (BitVec.ofNat 32 (i 1).val)
          (arg5.view.readAt (Elt F) (Rect.unit (s := S8x6x2048) (k0_off2 i) S1x1x2048.size inb2).toLoadRect (harg5.unread x2))
          (arg5.view.readAt (Elt F) (Rect.unit (s := S8x6x2048) ![2, 4, 0] S1x1x2048.size inb4).toLoadRect (harg5.unread x2)))
        (k0_pay8 (arg3.view.readAt (Elt F) (Rect.unit (s := S1x384x2048) ![0, 0, 0] S1x384x2048.size inb5).toLoadRect (harg3.unread x0)))
        (k0_pay9 (arg4.view.readAt (Elt F) (Rect.unit (s := S1x2048) ![0, 0] S1x2048.size inb6).toLoadRect (harg4.unread x1)))
        (k0_pay10 (arg3.view.readAt (Elt F) (Rect.unit (s := S1x384x2048) ![0, 0, 0] S1x384x2048.size inb5).toLoadRect (harg3.unread x0)))
        k0_pay11 = fresh i x0 x1 x2 := by
  rw [row_load harg5 x2 (rowOf i) 3 inb1 (k0_off1_eq i), row_load harg5 x2 (rowOf i) 4 inb2 (k0_off2_eq i), row_load harg5 x2 2 3 inb3 rfl,
    row_load harg5 x2 2 4 inb4 rfl, whole_load harg3, whole_load harg4]
  rfl

section Body

variable (c : Dev nD) (i : grid0.Coords) (arg3 : Memref sig .tc .vmem S1x384x2048 .f32) (harg3 : arg3.IsWhole) (arg4 : Memref sig .tc .vmem S1x2048 .f32) (harg4 : arg4.IsWhole) (arg5 : Memref sig .tc .vmem S8x6x2048 .f32) (harg5 : arg5.IsWhole) (arg6 : Memref sig .tc .vmem S2048x512 .bf16) (harg6 : arg6.IsWhole) (arg7 : Memref sig .tc .vmem S1x384x2048 .bf16) (harg7 : arg7.IsWhole) (arg8 : Memref sig .tc .vmem S1x384x512 .f32) (harg8 : arg8.IsWhole) (arg9 : Memref sig .tc .vmem S384x2048 .bf16) (harg9 : arg9.IsWhole)
  (x0 : Vec F S1x384x2048 .f32) (x1 : Vec F S1x2048 .f32) (x2 : Vec F S8x6x2048 .f32) (x3 : Vec F S2048x512 .bf16) (x4 : Vec F S1x384x2048 .bf16)
  (xs : Vec F S384x2048 .bf16)

set_option maxHeartbeats 4000000 in
/-- The body at a point: the input blocks stay, the scratch takes `scrNext`, the stream's block is stored at the first column
block and left alone at the others, the queries' block takes the scratch's product with the columns. -/
theorem body_run (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ owns (c : Thread nD τ) arg9 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3
            ∗ owns (c : Thread nD τ) arg7 fullShare (if isFirst i then streamBlock (scrNext i x0 x1 x2 xs) else x4)
            ∗ owns (c : Thread nD τ) arg8 fullShare (k0_pay4 (scrNext i x0 x1 x2 xs) x3)
            ∗ owns (c : Thread nD τ) arg9 fullShare (scrNext i x0 x1 x2 xs)) -∗ K ⟨⟩))
      ⊢ wp frame (wpE (defs₀ (F := F)) Variants.none c none) E (cc0_peer_q i arg3 harg3 arg4 harg4 arg5 harg5 arg6 harg6 arg7 harg7 arg8 harg8 arg9 harg9) K := by
  simp only [cc0_peer_q_eq_skeleton]; unfold cc0_peer_q_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hf4; obtain rfl := harg9.eq_unread hfs
  by_cases hc0 : isFirst i
  all_goals
    sl_exec (disch := sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      first
        | rw [if_neg hc0]; exact harg7.read_unread _
        | rw [if_pos hc0]
          refine (View.read_writes_full _ _ _ _ _).trans ?_
          unfold scrNext streamBlock k0_pay3
          rw [if_pos hc0]
          exact congrArg (shapeCast S1x384x2048 · shapeCasts_S384x2048_S1x384x2048) (fresh_eq harg3 harg4 harg5 i x0 x1 x2 _ _ _ _ _ _)
    isplitl [H5]
    · iexists _; isplitr; swap; · iexact H5
      ipureintro
      refine (View.read_writes_full _ _ _ _ _).trans ?_
      refine congrArg₂ k0_pay4 ?_ (whole_load harg6 x3 _)
      unfold scrNext
      first
        | rw [if_neg hc0]; exact whole_load harg9 xs _
        | rw [if_pos hc0]
          refine (View.readAt_writes_full _ _ _ _ _ _).trans ?_
          unfold k0_pay2
          rw [shapeCast_self]
          exact fresh_eq harg3 harg4 harg5 i x0 x1 x2 _ _ _ _ _ _
    iexists _; isplitr; swap; · iexact HS
    ipureintro
    unfold scrNext
    first
      | rw [if_neg hc0]; exact harg9.read_unread _
      | rw [if_pos hc0]
        refine (View.read_writes_full _ _ _ _ _).trans ?_
        unfold k0_pay2
        rw [shapeCast_self]
        exact fresh_eq harg3 harg4 harg5 i x0 x1 x2 _ _ _ _ _ _

end Body

/-! ## The whole grid -/

variable (m : (ℓ : Loc nD τ sig) → Buf (Elt F) ℓ) (ρ : Dev nD → PrngReg)

theorem coord2 (t : Fin cfg0.N) : (grid0.coords t 2).val = t.val % 4 := by
  have e : (grid0.coords t 2).val = t.val / 1 % 4 := Pipeline.Grid.coords_val t 2 (by decide) rfl
  rw [e, Nat.div_one]

theorem isFirst_pos (t : Fin cfg0.N) : isFirst (grid0.coords t) ↔ t.val % 4 = 0 := by rw [isFirst_iff, coord2]

/-- One point's step on the scratch, at the point's blocks. -/
def scrStep (c : Dev nD) (t : Fin cfg0.N) (a : Vec F S384x2048 .bf16) : Vec F S384x2048 .bf16 :=
  scrNext (grid0.coords t) (iblk m c 0 t) (iblk m c 1 t) (iblk m c 2 t) a

/-- The scratch after position `n`. -/
def scrAt (c : Dev nD) : (n : ℕ) → n < cfg0.N → Vec F S384x2048 .bf16
  | 0, hn => fresh (grid0.coords ⟨0, hn⟩) (iblk m c 0 ⟨0, hn⟩) (iblk m c 1 ⟨0, hn⟩) (iblk m c 2 ⟨0, hn⟩)
  | n + 1, hn => scrStep m c ⟨n + 1, hn⟩ (scrAt c n (Nat.lt_of_succ_lt hn))

/-- At a first column block the scratch is the point's stream. -/
theorem scrAt_first (c : Dev nD) (t : Fin cfg0.N) (h : t.val % 4 = 0) :
    scrAt m c t.val t.isLt = fresh (grid0.coords t) (iblk m c 0 t) (iblk m c 1 t) (iblk m c 2 t) := by
  obtain ⟨n, hn⟩ := t
  cases n with
  | zero => rfl
  | succ n => exact if_pos ((isFirst_pos ⟨n + 1, hn⟩).mpr h)

/-- At another it is what the position before left. -/
theorem scrAt_later (c : Dev nD) (t : Fin cfg0.N) (h : ¬t.val % 4 = 0) :
    scrAt m c t.val t.isLt = scrAt m c (t.val - 1) (Nat.lt_of_le_of_lt (Nat.sub_le _ _) t.isLt) := by
  obtain ⟨n, hn⟩ := t
  cases n with
  | zero => exact absurd (Nat.zero_mod _) h
  | succ n => exact if_neg (mt (isFirst_pos ⟨n + 1, hn⟩).mp h)

/-- The step from what the position before left. -/
theorem scrStep_eq (c : Dev nD) (t : Fin cfg0.N) (a : Vec F S384x2048 .bf16)
    (h : ∀ (k : ℕ) (hk : k + 1 = t.val), a = scrAt m c k (by have := t.isLt; omega)) :
    scrNext (grid0.coords t) (iblk m c 0 t) (iblk m c 1 t) (iblk m c 2 t) a = scrAt m c t.val t.isLt := by
  obtain ⟨n, hn⟩ := t
  cases n with
  | zero => exact if_pos ((isFirst_pos ⟨0, hn⟩).mpr (Nat.zero_mod _))
  | succ n => exact congrArg (scrStep m c ⟨n + 1, hn⟩) (h n rfl)

/-- The invariant before position `n`: the scratch at what the position before left, the generator register at some state. -/
def PhiS (c : Dev nD) (n : ℕ) (h : n ≤ cfg0.N) : sProp 𝕄 :=
  iprop((∃ a, ⌜∀ (k : ℕ) (hk : k + 1 = n), a = scrAt m c k (by omega)⌝ ∗ owns (c : Thread nD τ) (Memref.whole cc0_scratch0) fullShare a)
    ∗ (∃ r, prngReg c r))

/-- The launch's invariant: the scratch at anything. -/
theorem PhiA_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- The proof data: each input's buffer keeps its block, the stream's holds the scratch's contents, the queries' the product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => streamBlock (scrAt m c t.val t.isLt)
    | ⟨5, _⟩ => k0_pay4 (scrAt m c t.val t.isLt) (iblk m c 3 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = streamBlock (scrAt m c t.val t.isLt) := by dsimp only [dats]
theorem after5 (c : Dev nD) (t : Fin cfg0.N) : (dats m 0 c).after 5 t = k0_pay4 (scrAt m c t.val t.isLt) (iblk m c 3 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

theorem idle4 (i : grid0.Coords) : cfg0.idle 4 i = !decide (k0_cond1 i = 1#1) := rfl

theorem idle4_pos (t : Fin cfg0.N) : cfg0.idle 4 (grid0.coords t) = !decide (t.val % 4 = 0) := by
  rw [idle4]; exact congrArg (! ·) (decide_eq_decide.mpr (isFirst_pos t))

/-- The stream's buffer holds nothing yet exactly before a first column block. -/
theorem fresh4 (n : ℕ) (h : n ≤ cfg0.N) : cfg0.fresh 4 n = decide (n % 4 = 0) := by
  refine cfg0.fresh_tab 4 (fun n => decide (n % 4 = 0)) rfl (fun t => ?_) n h
  rw [idle4_pos, Bool.eq_iff_iff, Bool.or_eq_true, flush0_4 t, Bool.and_eq_true, Bool.not_eq_true', decide_eq_true_iff, decide_eq_false_iff_not,
    decide_eq_true_iff]
  omega

/-- What the stream's buffer holds at a later column block: the scratch's contents. -/
theorem before4 (c : Dev nD) (t : Fin cfg0.N) (h : ¬t.val % 4 = 0) (d) : (dats m 0 c).before 4 t d = streamBlock (scrAt m c t.val t.isLt) := by
  rw [(dats m 0 c).before_out_traj 4 rfl (fun _ _ => rfl) (fun t ht hi _ => by
      rw [after4, after4, scrAt_later m c t (by rw [idle4_pos] at hi; simpa using hi)]) t.val t rfl d,
    fresh4 _ (Nat.le_of_lt t.isLt), decide_eq_false h, if_neg Bool.false_ne_true, after4, scrAt_later m c t h]

/-- What the stream's buffer is left at after a point. -/
abbrev outPost (c : Dev nD) (t : Fin cfg0.N) : sProp 𝕄 :=
  match cfg0.idle 4 (grid0.coords t) with
  | true =>
    match (cfg0.win 4).flush t with
    | false => iprop(∃ d, owns (c : Thread nD τ) (win0_4.stage (cfg0.slots t 4)) fullShare ((dats m 0 c).before 4 t d))
    | true => owns (c : Thread nD τ) (win0_4.stage (cfg0.slots t 4)) fullShare ((dats m 0 c).after 4 t)
  | false => owns (c : Thread nD τ) (win0_4.stage (cfg0.slots t 4)) fullShare ((dats m 0 c).after 4 t)

/-- The stream's buffer after the body. -/
theorem outPost_of (c : Dev nD) (t : Fin cfg0.N) (d) (acc : Vec F S384x2048 .bf16) (hacc : acc = scrAt m c t.val t.isLt) :
    owns (c : Thread nD τ) (win0_4.stage (cfg0.slots t 4)) fullShare
        (if isFirst (grid0.coords t) then streamBlock acc else (dats m 0 c).before 4 t d)
      ⊢ outPost m c t := by
  subst hacc
  unfold outPost
  by_cases h : isFirst (grid0.coords t)
  · rw [if_pos h, idle4, decide_eq_true h, after4]
    exact Idealize.SL.BI.Entails.refl _
  · rw [if_neg h, idle4, decide_eq_false h]
    cases hf : (cfg0.win 4).flush t
    · show _ ⊢ iprop(∃ d, owns (c : Thread nD τ) (win0_4.stage (cfg0.slots t 4)) fullShare ((dats m 0 c).before 4 t d))
      iintro H
      iexists d
      iexact H
    · show _ ⊢ owns (c : Thread nD τ) (win0_4.stage (cfg0.slots t 4)) fullShare ((dats m 0 c).after 4 t)
      rw [before4 m c t (mt (isFirst_pos t).mpr h), after4]

/-- What the rule hands the body at a point. -/
abbrev bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

/-- What the body hands back. -/
abbrev bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ outPost m c t
    ∗ owns (c : Thread nD τ) (win0_5.stage (cfg0.slots t 5)) fullShare ((dats m 0 c).after 5 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl, after0, after1, after2, after3, after5,
    show (dats m 0 c).Φ t.succ = PhiS m c (t.val + 1) t.isLt from rfl, PhiS_castSucc]
  unfold PhiS
  iintro ⟨⟨⟨%a, %ha, HA⟩, Hg⟩, Ho, ⟨%d0, H0⟩, ⟨%d1, H1⟩, ⟨%d2, H2⟩, ⟨%d3, H3⟩, ⟨%d4, H4⟩, ⟨%d5, H5⟩⟩
  have hstep : scrNext (grid0.coords t) (iblk m c 0 t) (iblk m c 1 t) (iblk m c 2 t) a = scrAt m c t.val t.isLt := scrStep_eq m c t a ha
  iapply (body_run c (grid0.coords t) _ _ _ _ _ _ _ _ _ _ _ _ (Memref.whole cc0_scratch0) (Memref.isWhole_whole _)
    (iblk m c 0 t) (iblk m c 1 t) (iblk m c 2 t) (iblk m c 3 t) ((dats m 0 c).before 4 t d4) a Set.univ _)
  isplitl [H0]
  · iexact H0
  isplitl [H1]
  · iexact H1
  isplitl [H2]
  · iexact H2
  isplitl [H3]
  · iexact H3
  isplitl [H4]
  · iexact H4
  isplitl [H5]
  · iexists _
    iexact H5
  isplitl [HA]
  · iexact HA
  iintro ⟨H0, H1, H2, H3, H4, H5, HA⟩
  isplitl [HA Hg]
  · isplitl [HA]
    · iexists _
      isplitr [HA]
      · ipureintro
        intro k hk
        obtain rfl : k = t.val := by omega
        exact hstep
      iexact HA
    iexact Hg
  isplitl [Ho]
  · iexact Ho
  isplitl [H0]
  · iexact H0
  isplitl [H1]
  · iexact H1
  isplitl [H2]
  · iexact H2
  isplitl [H3]
  · iexact H3
  isplitl [H4]
  · iapply (outPost_of m c t d4 _ hstep)
    iexact H4
  rw [← hstep]
  iexact H5

theorem body_obligation (c : Dev nD) : BodyObligation (dats (F := F) m 0 c) defs₀ Variants.none () Set.univ := fun t => by
  rw [bigSep_W0, bigSep_W0]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨%a, HA⟩, Hg⟩
  isplitl [HA]
  · iexists a
    isplitr [HA]
    · ipureintro
      intro k hk
      exact absurd hk (Nat.succ_ne_zero k)
    iexact HA
  iexact Hg

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS
  iintro ⟨⟨%a, %ha, HA⟩, Hg⟩
  isplitl [HA]
  · iexists a
    iexact HA
  iexact Hg

set_option backward.isDefEq.respectTransparency.types false in
/-- The whole program: it terminates, each array ends at what the proof data says, every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-! ## The frames -/

/-- The arguments end unchanged and every counter is zero, at any float instance. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (Gen.frame_of m ρ (dats m) (A_eq m) (run_main m ρ)) ((θ_run defs _ _).mono (fun _ h => h.2) (run_main_quiescent m ρ))

theorem frame_ideal : Cert.quiescent_Kernel6Ideal := fun m ρ _ => frame m ρ

/-- The two programs' body tables are the same. -/
theorem defs_eq : @Cert.Kernel6.defs Bits _ Cert.Kernel6.Gen.facts = @Cert.Kernel6Ideal.defs Bits _ Cert.Kernel6Ideal.Gen.facts := by
  sl_kernel_rfl

theorem frame_kernel : Cert.quiescent_Kernel6 := fun m ρ _ => by
  have h := frame (F := Bits) m ρ
  rw [← defs_eq] at h
  exact h

end Cert.Kernel6Ideal.Dense
end
-- ==== Proof.Queries.lean ====
/-
  The expert mixer's stream and queries over the extended reals: the scratch holds the stream of the point's tokens throughout a
  row of column blocks, so the first result is the stream and the second its product with the queries' matrix.
-/
module

public import proofs.«01_k».proof.Proof.Specs
public import proofs.«01_k».proof.Proof.QueriesRun

@[expose] public section

set_option maxRecDepth 16384

noncomputable section

namespace Cert.Kernel6Ideal.Dense

open Idealize.ShloMosaic hiding ix1 ix2 ix3 ix4 ix5
open Idealize.ShloMosaic.TcCoe Idealize.ShloMosaic.Tactic Idealize.ShloMosaic.ValueIdx
open Idealize.SL Idealize.SL.RA Idealize.SL.BI Idealize.SL.Sem
open Cert.Kernel6Ideal.Gen Cert.Layer

/-- The row test of a block of 384 tokens, on words: row `l` of token block `i` lies in the context. -/
theorem context384_iff (i : Fin 22) (l : Fin 384) :
    Scalar.cmpi .sge (Scalar.addi (Scalar.muli (BitVec.ofNat 32 i.val) 384#32) (BitVec.ofNat 32 l.val)) 8192#32
      = if 8192 ≤ 384 * i.val + l.val then 1#1 else 0#1 := by
  revert l; revert i
  decide +kernel

/-- The row test at a row. -/
theorem pay5_apply (i : Fin 22) (l : Fin 384) :
    k0_pay5 (BitVec.ofNat 32 i.val) (ix2 l 0) = if 8192 ≤ 384 * i.val + l.val then 1#1 else 0#1 := by
  unfold k0_pay5
  have hi : iota .tc S384x1 32 [0] iota_S384x1_d0_w32 (ix2 l 0) = BitVec.ofNat 32 l.val := iota_single_apply _ _ _ _ _ _
  show Scalar.cmpi .sge (Scalar.addi (Scalar.muli (BitVec.ofNat 32 i.val) 384#32) (iota .tc S384x1 32 [0] iota_S384x1_d0_w32 (ix2 l 0))) 8192#32 = _
  rw [hi, context384_iff]

/-- A modulation row chosen by the row test. -/
theorem pay6_apply (i : Fin 22) (g gb : Vec Ideal S1x1x2048 .f32) (l : Fin 384) (d : Fin 2048) :
    k0_pay6 (F := Ideal) (BitVec.ofNat 32 i.val) gb g (ix2 l d) = if 8192 ≤ 384 * i.val + l.val then g (ix3 0 0 d) else gb (ix3 0 0 d) := by
  unfold k0_pay6
  simp only [shapeCast_self]
  show Scalar.select (broadcastTo S384x2048 _ _ (ix2 l d)) (broadcastTo S384x2048 _ _ (ix2 l d)) (broadcastTo S384x2048 _ _ (ix2 l d)) = _
  rw [broadcastTo_1b_ab_apply, broadcastTo_1b_ab_apply, shapeCast_1ab_ab_apply, shapeCast_1ab_ab_apply,
    broadcastTo_apply _ _ (ix2 l d) (ix2 l 0) (by intro a; fin_cases a <;> rfl), pay5_apply]
  split <;> rfl

theorem pay7_apply (i : Fin 22) (g gb : Vec Ideal S1x1x2048 .f32) (l : Fin 384) (d : Fin 2048) :
    k0_pay7 (F := Ideal) (BitVec.ofNat 32 i.val) gb g (ix2 l d) = if 8192 ≤ 384 * i.val + l.val then g (ix3 0 0 d) else gb (ix3 0 0 d) := by
  unfold k0_pay7
  simp only [shapeCast_self]
  show Scalar.select (broadcastTo S384x2048 _ _ (ix2 l d)) (broadcastTo S384x2048 _ _ (ix2 l d)) (broadcastTo S384x2048 _ _ (ix2 l d)) = _
  rw [broadcastTo_1b_ab_apply, broadcastTo_1b_ab_apply, shapeCast_1ab_ab_apply, shapeCast_1ab_ab_apply,
    broadcastTo_apply _ _ (ix2 l d) (ix2 l 0) (by intro a; fin_cases a <;> rfl), pay5_apply]
  split <;> rfl

theorem pay8_apply (x : Vec Ideal S1x384x2048 .f32) (l : Fin 384) (d : Fin 2048) : k0_pay8 (F := Ideal) x (ix2 l d) = x (ix3 0 l d) := by
  unfold k0_pay8
  rw [shapeCast_1ab_ab_apply]

/-- A row's mean square. -/
theorem pay10_apply (x : Vec Ideal S1x384x2048 .f32) (l : Fin 384) :
    k0_pay10 (F := Ideal) x (ix2 l 0)
      = Ideal.div (∑ k : Fin 2048, x (ix3 0 l k) * x (ix3 0 l k)) (FloatOps.ofBits (F := Ideal) .f32 0x45000000#32) := by
  unfold k0_pay10
  show FloatOps.divf (F := Ideal) (φ := .f32) (shapeCast S384x1 _ _ (ix2 l 0)) _ = _
  rw [Ideal.divf_def, shapeCast_a_a1_apply]
  refine congrArg₂ Ideal.div ((Ideal.multiReduction_add_single _ _ _ _ _ _).trans (Finset.sum_congr rfl fun k _ => ?_)) rfl
  show k0_pay8 x _ * k0_pay8 x _ = _
  have hk : reduces_S384x2048_S384.lift (ix1 l) k = ix2 l k := by
    funext a
    match a with
    | ⟨0, _⟩ => rfl
    | ⟨1, _⟩ => rfl
  rw [show reduces_S384x2048_S384.lift (ix1 l) k = ix2 l k from hk]
  exact congrArg₂ (· * ·) (pay8_apply x l k) (pay8_apply x l k)

/-- The normalised, weighted, scaled and shifted row. -/
theorem pay1_apply (sh sc x : Vec Ideal S384x2048 .f32) (w : Vec Ideal S1x2048 .f32) (ms eps : Vec Ideal S384x1 .f32) (l : Fin 384) (d : Fin 2048) :
    k0_pay1 (F := Ideal) sh sc x w ms eps (ix2 l d)
      = x (ix2 l d) * FloatOps.rsqrt (F := Ideal) (φ := .f32) (ms (ix2 l 0) + eps (ix2 l 0)) * w (ix2 0 d)
          * (FloatOps.ofBits (F := Ideal) .f32 0x3F800000#32 + sc (ix2 l d)) + sh (ix2 l d) := by
  unfold k0_pay1
  show x (ix2 l d) * broadcastTo S384x2048 _ _ (ix2 l d) * broadcastTo S384x2048 _ _ (ix2 l d) * _ + _ = _
  rw [broadcastTo_1b_ab_apply, broadcastTo_apply _ _ (ix2 l d) (ix2 l 0) (by intro a; fin_cases a <;> rfl)]
  rfl

/-- The product of the scratch and a block of columns. -/
theorem pay4_apply (u : Vec Ideal S384x2048 .bf16) (p : Vec Ideal S2048x512 .bf16) (l : Fin 384) (d : Fin 512) :
    k0_pay4 (F := Ideal) u p (ix3 0 l d) = ∑ k : Fin 2048, u (ix2 l k) * p (ix2 k d) := by
  unfold k0_pay4
  simp only [shapeCast_self]
  rw [shapeCast_ab_1ab_apply]
  refine (Ideal.matmul_plain_apply (M := 384) (K := 2048) (N := 512) none _ _ _ l d).trans ?_
  rw [show constant (F := Ideal) S384x512 .f32 0x00000000#32 (ix2 l d) = 0 from Ideal.ofBits_zero_f32, zero_add]

variable (m : (ℓ : Loc nD τ sig) → Buf (Elt Ideal) ℓ)

theorem V_w (c : Dev nD) (d : Fin 2048) : (V m c main_v1 : Vec Ideal S1x2048 .f32) (ix2 0 d)
    = (m ((c : Thread nD τ).loc main_arg1) : Vec Ideal S2048 .f32) (ix1 d) := by
  have h : V m c main_v1 = shapeCast S1x2048 (m ((c : Thread nD τ).loc main_arg1) : Vec Ideal S2048 .f32) shapeCasts_S2048_S1x2048 := by
    show StableHlo.after hostOps0 _ (Proc.devRef .tc main_v1) = _
    after_results
    rfl
  rw [h, shapeCast_a_1a_apply]

theorem V_p (c : Dev nD) : V m c main_v0 = m ((c : Thread nD τ).loc main_arg3) := by
  show StableHlo.after hostOps0 _ (Proc.devRef .tc main_v0) = _
  after_results
  rfl

/-- The batch, the token and the column of a point's block. -/
def batch (t : Fin cfg0.N) : Fin 2 := ⟨t.val / 88, by have h : t.val < 176 := Nat.lt_of_lt_of_eq t.isLt N_0; omega⟩
def token (t : Fin cfg0.N) (l : Fin 384) : Fin 8448 := ⟨384 * (t.val / 4 % 22) + l.val, by have := l.isLt; omega⟩
def column (t : Fin cfg0.N) (d : Fin 512) : Fin 2048 := ⟨512 * (t.val % 4) + d.val, by have := d.isLt; omega⟩

theorem coord0 (t : Fin cfg0.N) : (grid0.coords t 0).val = t.val / 88 := by
  have h : t.val < 176 := Nat.lt_of_lt_of_eq t.isLt N_0
  have e : (grid0.coords t 0).val = t.val / 88 % 2 := Pipeline.Grid.coords_val t 0 (by decide) rfl
  rw [e]; omega
theorem coord1 (t : Fin cfg0.N) : (grid0.coords t 1).val = t.val / 4 % 22 := Pipeline.Grid.coords_val t 1 (by decide) rfl

theorem pos0 : ∀ t : Fin cfg0.N, win0_0.index t = ![t.val / 88, t.val / 4 % 22, 0] := (by decide +kernel : ∀ t : Fin grid0.N, _)
theorem pos1 : ∀ t : Fin cfg0.N, win0_1.index t = ![0, 0] := (by decide +kernel : ∀ t : Fin grid0.N, _)
theorem pos2 : ∀ t : Fin cfg0.N, win0_2.index t = ![0, 0, 0] := (by decide +kernel : ∀ t : Fin grid0.N, _)
theorem pos3 : ∀ t : Fin cfg0.N, win0_3.index t = ![0, t.val % 4] := (by decide +kernel : ∀ t : Fin grid0.N, _)
theorem pos4 : ∀ t : Fin cfg0.N, win0_4.index t = ![t.val / 88, t.val / 4 % 22, 0] := (by decide +kernel : ∀ t : Fin grid0.N, _)
theorem pos5 : ∀ t : Fin cfg0.N, win0_5.index t = ![t.val / 88, t.val / 4 % 22, t.val % 4] := (by decide +kernel : ∀ t : Fin grid0.N, _)

theorem blk0 (c : Dev nD) (t : Fin cfg0.N) (l : Fin 384) (k : Fin 2048) :
    iblk m c 0 t (ix3 0 l k) = m ((c : Thread nD τ).loc main_arg0) (ix3 (batch t) (token t l) k) := by
  blk_ext! [iblk, pos0, batch, token]
  exact congrArg (· + l.val) (Nat.mul_comm _ _)

theorem blk1 (c : Dev nD) (t : Fin cfg0.N) (k : Fin 2048) :
    iblk m c 1 t (ix2 0 k) = m ((c : Thread nD τ).loc main_arg1) (ix1 k) := by
  refine Eq.trans ?_ (V_w m c k)
  blk_ext! [iblk, pos1]

theorem blk2 (c : Dev nD) (t : Fin cfg0.N) (r : Fin 8) (k : Fin 6) (d : Fin 2048) :
    iblk m c 2 t (ix3 r k d) = m ((c : Thread nD τ).loc main_arg2) (ix3 r k d) := by
  blk_ext! [iblk, pos2]

theorem blk3 (c : Dev nD) (t : Fin cfg0.N) (k : Fin 2048) (d : Fin 512) :
    iblk m c 3 t (ix2 k d) = m ((c : Thread nD τ).loc main_arg3) (ix2 k (column t d)) := by
  blk_ext! [iblk, V_p, pos3, column]
  exact congrArg (· + d.val) (Nat.mul_comm _ _)

theorem rowOf_eq (t : Fin cfg0.N) : rowOf (grid0.coords t) = batchRow (batch t) := Fin.ext (coord0 t)

/-- The stream of the arguments. -/
def streamed (c : Dev nD) : Vec Ideal S2x8448x2048 .bf16 := fun y =>
  stream (m ((c : Thread nD τ).loc main_arg0)) (m ((c : Thread nD τ).loc main_arg1)) (m ((c : Thread nD τ).loc main_arg2)) 3 4 (y 0) (y 1) (y 2)

/-- The queries of the arguments. -/
def queries (c : Dev nD) : Vec Ideal S2x8448x2048 .f32 := fun y =>
  project (m ((c : Thread nD τ).loc main_arg0)) (m ((c : Thread nD τ).loc main_arg1)) (m ((c : Thread nD τ).loc main_arg2)) 3 4
    (m ((c : Thread nD τ).loc main_arg3)) (y 0) (y 1) (y 2)

/-- The scratch after a first column block. -/
theorem scratch_first (c : Dev nD) (t : Fin cfg0.N) (h0 : t.val % 4 = 0) (l : Fin 384) (k : Fin 2048) :
    scrAt m c t.val t.isLt (ix2 l k) = streamed m c (ix3 (batch t) (token t l) k) := by
  rw [scrAt_first m c t h0]
  unfold fresh
  refine (pay1_apply _ _ _ _ _ _ l k).trans ?_
  rw [pay6_apply (grid0.coords t 1), pay7_apply (grid0.coords t 1), pay8_apply, pay10_apply]
  have h9 : k0_pay9 (F := Ideal) (iblk m c 1 t) (ix2 0 k) = iblk m c 1 t (ix2 0 k) := by
    unfold k0_pay9
    simp only [shapeCast_self]
  rw [h9]
  show _ * _ * _ * (_ + if _ then iblk m c 2 t (ix3 2 4 k) else iblk m c 2 t (ix3 (rowOf (grid0.coords t)) 4 k))
    + (if _ then iblk m c 2 t (ix3 2 3 k) else iblk m c 2 t (ix3 (rowOf (grid0.coords t)) 3 k)) = _
  rw [rowOf_eq]
  simp only [blk0, blk1, blk2, coord1]
  unfold streamed stream normed invRms modRow
  rfl

/-- The scratch holds the stream of the point's tokens. -/
theorem scratch_eq (c : Dev nD) : ∀ (n : ℕ) (t : Fin cfg0.N), t.val = n → ∀ (l : Fin 384) (k : Fin 2048),
    scrAt m c t.val t.isLt (ix2 l k) = streamed m c (ix3 (batch t) (token t l) k) := by
  intro n
  induction n with
  | zero => intro t ht; exact scratch_first m c t (by omega)
  | succ n ih =>
    intro t ht l k
    by_cases h0 : t.val % 4 = 0
    · exact scratch_first m c t h0 l k
    · rw [scrAt_later m c t h0]
      have hn : t.val - 1 < cfg0.N := Nat.lt_of_le_of_lt (Nat.sub_le _ _) t.isLt
      refine (ih ⟨t.val - 1, hn⟩ (show t.val - 1 = n by omega) l k).trans ?_
      rw [show batch ⟨t.val - 1, hn⟩ = batch t from Fin.ext (show (t.val - 1) / 88 = t.val / 88 by omega),
        show token ⟨t.val - 1, hn⟩ l = token t l from
          Fin.ext (show 384 * ((t.val - 1) / 4 % 22) + l.val = 384 * (t.val / 4 % 22) + l.val by omega)]

/-- The point's block of the stream. -/
theorem stream_apply (c : Dev nD) (t : Fin cfg0.N) (l : Fin 384) (d : Fin 2048) :
    streamBlock (scrAt m c t.val t.isLt) (ix3 0 l d) = streamed m c (ix3 (batch t) (token t l) d) := by
  unfold streamBlock
  rw [shapeCast_ab_1ab_apply]
  exact scratch_eq m c t.val t rfl l d

/-- The point's block of the queries. -/
theorem queries_apply (c : Dev nD) (t : Fin cfg0.N) (l : Fin 384) (d : Fin 512) :
    k0_pay4 (scrAt m c t.val t.isLt) (iblk m c 3 t) (ix3 0 l d) = queries m c (ix3 (batch t) (token t l) (column t d)) := by
  refine (pay4_apply _ _ l d).trans ?_
  simp only [scratch_eq m c t.val t rfl, blk3]
  rfl

/-- The stream's array after the whole grid. -/
theorem final_stream (c : Dev nD) : (dats m 0 c).arrAt 4 cfg0.N = streamed m c := by
  refine (dats m 0 c).arrAt_eq_of_covers 4 _ (by decide +kernel) fun t hf y => ?_
  rw [after4]
  have h := stream_apply m c t
  generalize streamBlock (scrAt m c t.val t.isLt) = o at h ⊢
  obtain ⟨z, l, d, rfl⟩ : ∃ (z : Fin 1) (l : Fin 384) (d : Fin 2048), y = ix3 z l d := ⟨y 0, y 1, y 2, by funext a; fin_cases a <;> rfl⟩
  obtain rfl : z = 0 := Fin.ext (by omega)
  refine (h l d).trans (congrArg _ ?_)
  symm
  blk_ext! [pos4, batch, token]
  exact congrArg (· + l.val) (Nat.mul_comm _ _)

/-- The queries' array after the whole grid. -/
theorem final_queries (c : Dev nD) : (dats m 0 c).arrAt 5 cfg0.N = queries m c := by
  refine (dats m 0 c).arrAt_eq_of_covers 5 _ (by decide +kernel) fun t hf y => ?_
  rw [after5]
  have h := queries_apply m c t
  generalize k0_pay4 (scrAt m c t.val t.isLt) (iblk m c 3 t) = o at h ⊢
  obtain ⟨z, l, d, rfl⟩ : ∃ (z : Fin 1) (l : Fin 384) (d : Fin 512), y = ix3 z l d := ⟨y 0, y 1, y 2, by funext a; fin_cases a <;> rfl⟩
  obtain rfl : z = 0 := Fin.ext (by omega)
  refine (h l d).trans (congrArg _ ?_)
  symm
  blk_ext! [pos5, batch, token, column]
  · exact congrArg (· + l.val) (Nat.mul_comm _ _)
  · exact congrArg (· + d.val) (Nat.mul_comm _ _)

end Cert.Kernel6Ideal.Dense
end
-- ==== Proof.QueriesRef.lean ====
/-
  The queries' reference: its first result is `stream` of its arguments, for latent and context tokens alike, and its second
  the stream's product with the queries' matrix.
-/
module

public import proofs.«01_k».proof.Proof.Specs
public import proofs.«01_k».proof.Proof.Gen.Reference6Ideal.Read

@[expose] public section

set_option maxRecDepth 16384

noncomputable section

namespace Cert.Reference6Ideal.Dense

open Idealize.ShloMosaic hiding ix1 ix2 ix3 ix4 ix5
open Idealize.ShloMosaic.TcCoe Idealize.ShloMosaic.ValueIdx
open Cert.Reference6Ideal Cert.Reference6Ideal.Read Cert.Layer

variable (x : Vec Ideal S2x8448x2048 .f32) (w : Vec Ideal S2048 .f32) (md : Vec Ideal S8x6x2048 .f32)

/-- The latent tokens of the input. -/
theorem v0_at (b : Fin 2) (l : Fin 8192) (d : Fin 2048) : val_main_v0 (F := Ideal) x (ix3 b l d) = x (ix3 b (⟨l.val, by omega⟩ : Fin 8448) d) := by
  rw [val_main_v0_apply]
  refine congrArg x ?_
  funext a
  match a with
  | ⟨0, _⟩ => rfl
  | ⟨1, _⟩ => rfl
  | ⟨2, _⟩ => rfl

/-- The context tokens of the input. -/
theorem v26_at (b : Fin 2) (l : Fin 256) (d : Fin 2048) :
    val_main_v26 (F := Ideal) x (ix3 b l d) = x (ix3 b (⟨8192 + l.val, by omega⟩ : Fin 8448) d) := by
  rw [val_main_v26_apply]
  refine congrArg x ?_
  funext a
  match a with
  | ⟨0, _⟩ => rfl
  | ⟨1, _⟩ => rfl
  | ⟨2, _⟩ => rfl

/-- The reciprocal root mean square of a latent token. -/
theorem v8_at (b : Fin 2) (l : Fin 8192) (i : S2x8192x1.Idx) (hi : idx_main_v3 i = ix2 b l) :
    val_main_v8 (F := Ideal) x i = invRms fun k => x (ix3 b (⟨l.val, by omega⟩ : Fin 8448) k) := by
  rw [val_main_v8_apply, val_main_v7_apply, val_main_v5_apply, val_main_v3_apply, hi, val_main_v2_apply, val_main_v4_apply, val_main_v6_apply,
    val_main_cst_0_apply, val_main_cst_1_apply, val_main_cst_apply]
  have hs : ∀ k : Fin 2048, val_main_v1 (F := Ideal) x (idx_main_v2 (ix2 b l) k)
      = x (ix3 b (⟨l.val, by omega⟩ : Fin 8448) k) * x (ix3 b (⟨l.val, by omega⟩ : Fin 8448) k) := by
    intro k
    rw [val_main_v1_apply, show idx_main_v2 (ix2 b l) k = ix3 b l k from by
      funext a
      match a with
      | ⟨0, _⟩ => rfl
      | ⟨1, _⟩ => rfl
      | ⟨2, _⟩ => rfl, v0_at]
    rfl
  rw [Finset.sum_congr rfl fun k _ => hs k, show FloatOps.ofBits (F := Ideal) .f32 0x00000000#32 = 0 from Ideal.ofBits_zero_f32, zero_add]
  rfl

/-- The reciprocal root mean square of a context token. -/
theorem v34_at (b : Fin 2) (l : Fin 256) (i : S2x256x1.Idx) (hi : idx_main_v29 i = ix2 b l) :
    val_main_v34 (F := Ideal) x i = invRms fun k => x (ix3 b (⟨8192 + l.val, by omega⟩ : Fin 8448) k) := by
  rw [val_main_v34_apply, val_main_v33_apply, val_main_v31_apply, val_main_v29_apply, hi, val_main_v28_apply, val_main_v30_apply,
    val_main_v32_apply, val_main_cst_4_apply, val_main_cst_5_apply, val_main_cst_3_apply]
  have hs : ∀ k : Fin 2048, val_main_v27 (F := Ideal) x (idx_main_v28 (ix2 b l) k)
      = x (ix3 b (⟨8192 + l.val, by omega⟩ : Fin 8448) k) * x (ix3 b (⟨8192 + l.val, by omega⟩ : Fin 8448) k) := by
    intro k
    rw [val_main_v27_apply, show idx_main_v28 (ix2 b l) k = ix3 b l k from by
      funext a
      match a with
      | ⟨0, _⟩ => rfl
      | ⟨1, _⟩ => rfl
      | ⟨2, _⟩ => rfl, v26_at]
    rfl
  rw [Finset.sum_congr rfl fun k _ => hs k, show FloatOps.ofBits (F := Ideal) .f32 0x00000000#32 = 0 from Ideal.ofBits_zero_f32, zero_add]
  rfl

/-- The shift of a latent token. -/
theorem v24_at (b : Fin 2) (l : Fin 8192) (d : Fin 2048) :
    val_main_v24 (F := Ideal) md (ix3 b l d) = md (ix3 (batchRow b) (3 : Fin 6) d) := by
  rw [val_main_v24_apply, val_main_v16_apply, val_main_v15_apply, val_main_v14_apply]
  refine congrArg md ?_
  funext a
  have hb := b.isLt; have hd := d.isLt
  match a with
  | ⟨0, _⟩ => exact Fin.ext (show (b.val * 2048 + d.val) / 2048 = b.val by omega)
  | ⟨1, _⟩ => rfl
  | ⟨2, _⟩ => exact Fin.ext (show (b.val * 2048 + d.val) % 2048 = d.val by omega)

/-- One plus the scale of a latent token. -/
theorem v22_at (b : Fin 2) (l : Fin 8192) (d : Fin 2048) :
    val_main_v22 (F := Ideal) md (ix3 b l d) = FloatOps.ofBits (F := Ideal) .f32 0x3F800000#32 + md (ix3 (batchRow b) (4 : Fin 6) d) := by
  rw [val_main_v22_apply, val_main_v21_apply, val_main_v20_apply, val_main_cst_2_apply, val_main_v19_apply, val_main_v18_apply, val_main_v17_apply,
    Ideal.addf_def]
  refine congrArg (_ + md ·) ?_
  funext a
  have hb := b.isLt; have hd := d.isLt
  match a with
  | ⟨0, _⟩ => exact Fin.ext (show (b.val * 2048 + d.val) / 2048 = b.val by omega)
  | ⟨1, _⟩ => rfl
  | ⟨2, _⟩ => exact Fin.ext (show (b.val * 2048 + d.val) % 2048 = d.val by omega)

/-- The shift of a context token. -/
theorem v50_at (b : Fin 2) (l : Fin 256) (d : Fin 2048) :
    val_main_v50 (F := Ideal) md (ix3 b l d) = md (ix3 (2 : Fin 8) (3 : Fin 6) d) := by
  rw [val_main_v50_apply, val_main_v49_apply, val_main_v41_apply, val_main_v40_apply]
  refine congrArg md ?_
  funext a
  have hd := d.isLt
  match a with
  | ⟨0, _⟩ => rfl
  | ⟨1, _⟩ => rfl
  | ⟨2, _⟩ => exact Fin.ext (show d.val % 2048 = d.val by omega)

/-- One plus the scale of a context token. -/
theorem v47_at (b : Fin 2) (l : Fin 256) (d : Fin 2048) :
    val_main_v47 (F := Ideal) md (ix3 b l d) = FloatOps.ofBits (F := Ideal) .f32 0x3F800000#32 + md (ix3 (2 : Fin 8) (4 : Fin 6) d) := by
  rw [val_main_v47_apply, val_main_v46_apply, val_main_v45_apply, val_main_v44_apply, val_main_cst_6_apply, val_main_v43_apply, val_main_v42_apply,
    Ideal.addf_def]
  refine congrArg (_ + md ·) ?_
  funext a
  have hd := d.isLt
  match a with
  | ⟨0, _⟩ => rfl
  | ⟨1, _⟩ => rfl
  | ⟨2, _⟩ => exact Fin.ext (show d.val % 2048 = d.val by omega)

/-- The latent stream. -/
theorem v25_at (b : Fin 2) (l : Fin 8192) (d : Fin 2048) :
    val_main_v25 (F := Ideal) x w md (ix3 b l d) = stream x w md 3 4 b (⟨l.val, by omega⟩ : Fin 8448) d := by
  rw [val_main_v25_apply, val_main_v23_apply, val_main_v13_apply, val_main_v10_apply, v24_at, v22_at, v0_at, val_main_v9_apply,
    v8_at x b l (idx_main_v9 (ix3 b l d)) (by
      funext a
      match a with
      | ⟨0, _⟩ => rfl
      | ⟨1, _⟩ => rfl), val_main_v12_apply, val_main_v11_apply,
    show idx_main_v11 (idx_main_v12 (ix3 b l d)) = ix1 d from by
      funext a
      match a with
      | ⟨0, _⟩ => rfl]
  rw [Ideal.addf_def, Ideal.mulf_def, Ideal.mulf_def, Ideal.mulf_def]
  unfold stream normed modRow
  rw [if_neg (show ¬8192 ≤ l.val by omega), if_neg (show ¬8192 ≤ l.val by omega)]

/-- The context stream. -/
theorem v51_at (b : Fin 2) (l : Fin 256) (d : Fin 2048) :
    val_main_v51 (F := Ideal) x w md (ix3 b l d) = stream x w md 3 4 b (⟨8192 + l.val, by omega⟩ : Fin 8448) d := by
  rw [val_main_v51_apply, val_main_v48_apply, val_main_v39_apply, val_main_v36_apply, v50_at, v47_at, v26_at, val_main_v35_apply,
    v34_at x b l (idx_main_v35 (ix3 b l d)) (by
      funext a
      match a with
      | ⟨0, _⟩ => rfl
      | ⟨1, _⟩ => rfl), val_main_v38_apply, val_main_v37_apply,
    show idx_main_v37 (idx_main_v38 (ix3 b l d)) = ix1 d from by
      funext a
      match a with
      | ⟨0, _⟩ => rfl]
  rw [Ideal.addf_def, Ideal.mulf_def, Ideal.mulf_def, Ideal.mulf_def]
  unfold stream normed modRow
  rw [if_pos (show 8192 ≤ 8192 + l.val by omega), if_pos (show 8192 ≤ 8192 + l.val by omega)]

/-- The stream of every token. -/
theorem stream_at (b : Fin 2) (l : Fin 8448) (d : Fin 2048) : val_main_v52 (F := Ideal) x w md (ix3 b l d) = stream x w md 3 4 b l d := by
  unfold val_main_v52
  by_cases h : l.val < 8192
  · rw [concatenate_pair_apply_left (s₁ := S2x8192x2048) (s₂ := S2x256x2048) 1 _ _ _ (ix3 b l d) rfl (ix3 b (⟨l.val, h⟩ : Fin 8192) d)
      (fun a => match a with | ⟨0, _⟩ => rfl | ⟨1, _⟩ => rfl | ⟨2, _⟩ => rfl)]
    exact v25_at x w md b ⟨l.val, h⟩ d
  · have hl := l.isLt
    rw [concatenate_pair_apply_right (s₁ := S2x8192x2048) (s₂ := S2x256x2048) 1 _ _ _ (ix3 b l d) rfl rfl (ix3 b (⟨l.val - 8192, by omega⟩ : Fin 256) d)
      (fun a ha => match a with | ⟨0, _⟩ => rfl | ⟨1, _⟩ => absurd rfl ha | ⟨2, _⟩ => rfl)
      (show l.val - 8192 + 8192 = l.val by omega), v51_at]
    exact congrArg (stream x w md 3 4 b · d) (Fin.ext (show 8192 + (l.val - 8192) = l.val by omega))

/-- The first result. -/
theorem value_stream : val_main_v53 (F := Ideal) x w md = fun y => stream x w md 3 4 (y 0) (y 1) (y 2) := by
  funext y
  obtain ⟨b, l, d, rfl⟩ : ∃ (b : Fin 2) (l : Fin 8448) (d : Fin 2048), y = ix3 b l d := ⟨y 0, y 1, y 2, by funext a; fin_cases a <;> rfl⟩
  rw [val_main_v53_apply]
  exact stream_at x w md b l d

/-- The second result. -/
theorem value (p : Vec Ideal S2048x2048 .f32) : val_main_v54 (F := Ideal) x w md p
    = fun y => project x w md 3 4 p (y 0) (y 1) (y 2) := by
  funext y
  obtain ⟨b, l, d, rfl⟩ : ∃ (b : Fin 2) (l : Fin 8448) (d : Fin 2048), y = ix3 b l d := ⟨y 0, y 1, y 2, by funext a; fin_cases a <;> rfl⟩
  rw [val_main_v54_apply]
  refine Finset.sum_congr rfl fun k _ => congrArg₂ (· * ·) ?_ (congrArg p ?_)
  · refine Eq.trans ?_ (stream_at x w md b l k)
    refine congrArg (val_main_v52 (F := Ideal) x w md) ?_
    funext a
    match a with
    | ⟨0, _⟩ => rfl
    | ⟨1, _⟩ => rfl
    | ⟨2, _⟩ => rfl
  · funext a
    match a with
    | ⟨0, _⟩ => rfl
    | ⟨1, _⟩ => rfl

end Cert.Reference6Ideal.Dense
end
-- ==== Proof.QueriesEqual.lean ====
/-
  The stream and queries of the kernel and of its reference are the same arrays.
-/
module

public import proofs.«01_k».proof.Defs
public import proofs.«01_k».proof.Proof.Queries
public import proofs.«01_k».proof.Proof.QueriesRef
public import Idealize.ShloMosaic.Lib.Quiescent

@[expose] public section

noncomputable section

namespace Cert.Queries

open Idealize.ShloMosaic Idealize.SL.Sem

/-- The reference leaves its arguments alone; it has no counters. -/
theorem frame_reference : Cert.quiescent_Reference6Ideal := fun m ρ _ =>
  (θ_run Cert.Reference6Ideal.defs _ _).mono
    (fun r h => ⟨fun c => (h c).2.2, sem_eq_zero_of_no_sems (by decide) r.2⟩) (Cert.Reference6Ideal.Value.run m ρ)

/-- Equal results from equal arguments. -/
theorem algebraic : Cert.algebraic_Kernel6Ideal_Reference6Ideal := by
  intro m ρ m' ρ' _ hargs
  refine ⟨fun c => Cert.Kernel6Ideal.Dense.streamed m c, fun c => Cert.Kernel6Ideal.Dense.queries m c, ?_, ?_⟩
  · have h1 := Cert.Kernel6Ideal.Dense.run_main m ρ
    have h2 := Cert.Kernel6Ideal.Dense.frame m ρ
    exact (θ_run Cert.Kernel6Ideal.defs _ _).mono
      (fun r h c => ⟨(h.1.out_eq c 4).trans (Cert.Kernel6Ideal.Dense.final_stream m c),
        (h.1.out_eq c 5).trans (Cert.Kernel6Ideal.Dense.final_queries m c), h.2.1 c⟩) (θ_run_and h1 h2)
  · refine (θ_run Cert.Reference6Ideal.defs _ _).mono (fun r h c => ⟨(h c).1.trans ?_, (h c).2.1.trans ?_, (h c).2.2⟩)
      (Cert.Reference6Ideal.Value.run m' ρ')
    · obtain ⟨h0, h1, h2, h3⟩ := hargs c
      rw [Cert.Reference6Ideal.Read.val_main_v53_eq, h0, h1, h2]
      exact Cert.Reference6Ideal.Dense.value_stream _ _ _
    · obtain ⟨h0, h1, h2, h3⟩ := hargs c
      rw [Cert.Reference6Ideal.Read.val_main_v54_eq, h0, h1, h2, h3]
      exact Cert.Reference6Ideal.Dense.value _ _ _ _

end Cert.Queries
end
-- ==== Proof.FinalNorm.lean ====
/-
  The final normalisation: every grid point normalises and weights 256 latent tokens, and the blocks are those of the latent
  tokens normalised by the root of their mean square. The reference computes the same.
-/
module

public import proofs.«01_k».proof.Defs
public import proofs.«01_k».proof.Proof.Specs
public import proofs.«01_k».proof.Proof.Gen.Kernel7.Frame
public import proofs.«01_k».proof.Proof.Gen.Kernel7Ideal.Value
public import proofs.«01_k».proof.Proof.Gen.Reference7Ideal.Read
public import Idealize.ShloMosaic.Lib.Quiescent

@[expose] public section

set_option maxRecDepth 16384

noncomputable section

namespace Cert.Layer

open Idealize.ShloMosaic hiding ix1 ix2 ix3 ix4 ix5
open Idealize.ShloMosaic.ValueIdx

/-- A latent token as one of all tokens. -/
def latent (l : Fin 8192) : Fin 8448 := ⟨l.val, by omega⟩

/-- The latent tokens normalised and weighted. -/
def finalNorm (x : Tokens .f32) (w : Features) : FVec Ideal ⟨3, ![2, 8192, 2048]⟩ .f32 := fun y =>
  normed (fun k => x (ix3 (y 0) (latent (y 1)) k)) w (y 2)

end Cert.Layer

namespace Cert.Kernel7Ideal.Dense

open Idealize.ShloMosaic hiding ix1 ix2 ix3 ix4 ix5
open Idealize.ShloMosaic.TcCoe Idealize.ShloMosaic.Tactic Idealize.ShloMosaic.ValueIdx
open Idealize.SL Idealize.SL.RA Idealize.SL.BI Idealize.SL.Sem
open Cert.Kernel7Ideal.Gen Cert.Layer

/-- One point's block, entry by entry. -/
theorem pay1_apply (x : Vec Ideal S1x256x2048 .f32) (w : Vec Ideal S1x2048 .f32) (l : Fin 256) (d : Fin 2048) :
    k0_pay1 (F := Ideal) x w (ix3 0 l d) = x (ix3 0 l d) * (invRms fun k => x (ix3 0 l k)) * w (ix2 0 d) := by
  unfold k0_pay1
  simp only [shapeCast_self]
  rw [shapeCast_ab_1ab_apply]
  show (shapeCast S256x2048 x shapeCasts_S1x256x2048_S256x2048) (ix2 l d) * broadcastTo S256x2048 _ _ (ix2 l d) * broadcastTo S256x2048 _ _ (ix2 l d) = _
  rw [broadcastTo_1b_ab_apply, broadcastTo_apply _ _ (ix2 l d) (ix2 l 0) (by intro a; fin_cases a <;> rfl), shapeCast_1ab_ab_apply]
  refine congrArg (x (ix3 0 l d) * · * w (ix2 0 d)) ?_
  show FloatOps.rsqrt (F := Ideal) (φ := .f32) (FloatOps.divf (F := Ideal) (φ := .f32) (shapeCast S256x1 _ _ (ix2 l 0)) _ + _) = _
  rw [Ideal.divf_def, shapeCast_a_a1_apply]
  unfold invRms
  refine congrArg (fun s => FloatOps.rsqrt (F := Ideal) (φ := .f32) (Ideal.div s _ + _)) ?_
  refine (Ideal.multiReduction_add_single _ _ _ _ _ _).trans (Finset.sum_congr rfl fun k _ => ?_)
  have hk : reduces_S256x2048_S256.lift (ix1 l) k = ix2 l k := by
    funext a
    match a with
    | ⟨0, _⟩ => rfl
    | ⟨1, _⟩ => rfl
  rw [hk]
  exact congrArg₂ (· * ·) (shapeCast_1ab_ab_apply _ _ l k) (shapeCast_1ab_ab_apply _ _ l k)

variable (m : (ℓ : Loc nD τ sig) → Buf (Elt Ideal) ℓ)

theorem V_w (c : Dev nD) (d : Fin 2048) : (V m c main_v0 : Vec Ideal S1x2048 .f32) (ix2 0 d)
    = (m ((c : Thread nD τ).loc main_arg1) : Vec Ideal S2048 .f32) (ix1 d) := by
  have h : V m c main_v0 = shapeCast S1x2048 (m ((c : Thread nD τ).loc main_arg1) : Vec Ideal S2048 .f32) shapeCasts_S2048_S1x2048 := by
    show StableHlo.after hostOps0 _ (Proc.devRef .tc main_v0) = _
    after_results
    rfl
  rw [h, shapeCast_a_1a_apply]

/-- The batch and the token of a point's block. -/
def batch (t : Fin cfg0.N) : Fin 2 := ⟨t.val / 32, by have h : t.val < 64 := Nat.lt_of_lt_of_eq t.isLt N_0; omega⟩
def token (t : Fin cfg0.N) (l : Fin 256) : Fin 8192 := ⟨256 * (t.val % 32) + l.val, by have := l.isLt; omega⟩

theorem pos0 : ∀ t : Fin cfg0.N, win0_0.index t = ![t.val / 32, t.val % 32, 0] := (by decide +kernel : ∀ t : Fin grid0.N, _)
theorem pos1 : ∀ t : Fin cfg0.N, win0_1.index t = ![0, 0] := (by decide +kernel : ∀ t : Fin grid0.N, _)
theorem pos2 : ∀ t : Fin cfg0.N, win0_2.index t = ![t.val / 32, t.val % 32, 0] := (by decide +kernel : ∀ t : Fin grid0.N, _)

theorem blk0 (c : Dev nD) (t : Fin cfg0.N) (l : Fin 256) (k : Fin 2048) :
    iblk m c 0 t (ix3 0 l k) = m ((c : Thread nD τ).loc main_arg0) (ix3 (batch t) (latent (token t l)) k) := by
  blk_ext! [iblk, pos0, batch, token, latent]
  exact congrArg (· + l.val) (Nat.mul_comm _ _)

theorem blk1 (c : Dev nD) (t : Fin cfg0.N) (k : Fin 2048) :
    iblk m c 1 t (ix2 0 k) = m ((c : Thread nD τ).loc main_arg1) (ix1 k) := by
  refine Eq.trans ?_ (V_w m c k)
  blk_ext! [iblk, pos1]

/-- The point's block of the result. -/
theorem out_apply (c : Dev nD) (t : Fin cfg0.N) (l : Fin 256) (d : Fin 2048) :
    out0_2 (iblk m c 0 t) (iblk m c 1 t) (ix3 0 l d)
      = finalNorm (m ((c : Thread nD τ).loc main_arg0)) (m ((c : Thread nD τ).loc main_arg1)) (ix3 (batch t) (token t l) d) := by
  frame_out
  rw [pay1_apply]
  simp only [blk0, blk1]
  rfl

/-- The output array after the whole grid. -/
theorem final_out (c : Dev nD) : (dats m 0 c).arrAt 2 cfg0.N
    = finalNorm (m ((c : Thread nD τ).loc main_arg0)) (m ((c : Thread nD τ).loc main_arg1)) := by
  refine (dats m 0 c).arrAt_eq_of_covers 2 _ (by decide +kernel) fun t hf y => ?_
  rw [after0_2]
  have h := out_apply m c t
  generalize out0_2 (iblk m c 0 t) (iblk m c 1 t) = o at h ⊢
  obtain ⟨z, l, d, rfl⟩ : ∃ (z : Fin 1) (l : Fin 256) (d : Fin 2048), y = ix3 z l d := ⟨y 0, y 1, y 2, by funext a; fin_cases a <;> rfl⟩
  obtain rfl : z = 0 := Fin.ext (by omega)
  refine (h l d).trans (congrArg _ ?_)
  symm
  blk_ext! [pos2, batch, token]
  exact congrArg (· + l.val) (Nat.mul_comm _ _)

end Cert.Kernel7Ideal.Dense

namespace Cert.Reference7Ideal.Dense

open Idealize.ShloMosaic hiding ix1 ix2 ix3 ix4 ix5
open Idealize.ShloMosaic.TcCoe Idealize.ShloMosaic.ValueIdx
open Cert.Reference7Ideal Cert.Reference7Ideal.Read Cert.Layer

variable (x : Vec Ideal S2x8448x2048 .f32) (w : Vec Ideal S2048 .f32)

/-- The latent tokens of the input. -/
theorem v0_at (b : Fin 2) (l : Fin 8192) (d : Fin 2048) : val_main_v0 (F := Ideal) x (ix3 b l d) = x (ix3 b (latent l) d) := by
  rw [val_main_v0_apply]
  refine congrArg x ?_
  funext a
  match a with
  | ⟨0, _⟩ => rfl
  | ⟨1, _⟩ => rfl
  | ⟨2, _⟩ => rfl

/-- The reciprocal root mean square of a token. -/
theorem v8_at (b : Fin 2) (l : Fin 8192) (i : S2x8192x1.Idx) (hi : idx_main_v3 i = ix2 b l) :
    val_main_v8 (F := Ideal) x i = invRms fun k => x (ix3 b (latent l) k) := by
  rw [val_main_v8_apply, val_main_v7_apply, val_main_v5_apply, val_main_v3_apply, hi, val_main_v2_apply, val_main_v4_apply, val_main_v6_apply,
    val_main_cst_0_apply, val_main_cst_1_apply, val_main_cst_apply]
  have hs : ∀ k : Fin 2048, val_main_v1 (F := Ideal) x (idx_main_v2 (ix2 b l) k) = x (ix3 b (latent l) k) * x (ix3 b (latent l) k) := by
    intro k
    rw [val_main_v1_apply, show idx_main_v2 (ix2 b l) k = ix3 b l k from by
      funext a
      match a with
      | ⟨0, _⟩ => rfl
      | ⟨1, _⟩ => rfl
      | ⟨2, _⟩ => rfl, v0_at]
    rfl
  rw [Finset.sum_congr rfl fun k _ => hs k, show FloatOps.ofBits (F := Ideal) .f32 0x00000000#32 = 0 from Ideal.ofBits_zero_f32, zero_add]
  rfl

/-- The reference's result. -/
theorem value : val_main_v13 (F := Ideal) x w = finalNorm x w := by
  funext y
  obtain ⟨b, l, d, rfl⟩ : ∃ (b : Fin 2) (l : Fin 8192) (d : Fin 2048), y = ix3 b l d :=
    ⟨y 0, y 1, y 2, by funext a; match a with | ⟨0, _⟩ => rfl | ⟨1, _⟩ => rfl | ⟨2, _⟩ => rfl⟩
  rw [val_main_v13_apply, val_main_v10_apply, v0_at, val_main_v9_apply,
    v8_at x b l (idx_main_v9 (ix3 b l d)) (by
      funext a
      match a with
      | ⟨0, _⟩ => rfl
      | ⟨1, _⟩ => rfl), val_main_v12_apply, val_main_v11_apply,
    show idx_main_v11 (idx_main_v12 (ix3 b l d)) = ix1 d from by
      funext a
      match a with
      | ⟨0, _⟩ => rfl]
  rfl

end Cert.Reference7Ideal.Dense

namespace Cert.FinalNorm

open Idealize.ShloMosaic Idealize.SL.Sem
open Cert.Layer (finalNorm)

theorem frame_kernel : Cert.quiescent_Kernel7 := fun m ρ _ => Cert.Kernel7.Gen.frame m ρ
theorem frame_ideal : Cert.quiescent_Kernel7Ideal := fun m ρ _ => Cert.Kernel7Ideal.Gen.frame m ρ
/-- The reference leaves its arguments alone; it has no counters. -/
theorem frame_reference : Cert.quiescent_Reference7Ideal := fun m ρ _ =>
  (θ_run Cert.Reference7Ideal.defs _ _).mono
    (fun r h => ⟨fun c => (h c).2, sem_eq_zero_of_no_sems (by decide) r.2⟩) (Cert.Reference7Ideal.Value.run m ρ)

/-- Equal results from equal arguments. -/
theorem algebraic : Cert.algebraic_Kernel7Ideal_Reference7Ideal := by
  intro m ρ m' ρ' _ hargs
  refine ⟨fun c => finalNorm (m ((c.tc : Thread _ Cert.Kernel7Ideal.τ).loc Cert.Kernel7Ideal.main_arg0))
    (m ((c.tc : Thread _ Cert.Kernel7Ideal.τ).loc Cert.Kernel7Ideal.main_arg1)), ?_, ?_⟩
  · exact (θ_run Cert.Kernel7Ideal.defs _ _).mono
      (fun r h c => ⟨(h c).1.trans (Cert.Kernel7Ideal.Dense.final_out m c), (h c).2⟩) (Cert.Kernel7Ideal.Value.run_blocks m ρ)
  · refine (θ_run Cert.Reference7Ideal.defs _ _).mono (fun r h c => ⟨(h c).1.trans ?_, (h c).2⟩) (Cert.Reference7Ideal.Value.run m' ρ')
    obtain ⟨h0, h1⟩ := hargs c
    rw [Cert.Reference7Ideal.Read.val_main_v13_eq, h0, h1]
    exact Cert.Reference7Ideal.Dense.value _ _

end Cert.FinalNorm
end
-- ==== Proof.Modulation.lean ====
/-
  The modulation of every layer. Ahead of the launch the two conditions and the context's condition are written into the first
  three of eight zero rows; a grid point then multiplies their gated values with 1024 columns of a layer's matrix and adds the
  bias. The reference stacks the same eight rows and multiplies with the factors in the other order.
-/
module

public import proofs.«01_k».proof.Defs
public import proofs.«01_k».proof.Proof.Specs
public import proofs.«01_k».proof.Proof.Gen.Kernel9.Frame
public import proofs.«01_k».proof.Proof.Gen.Kernel9Ideal.Value
public import proofs.«01_k».proof.Proof.Gen.Reference9Ideal.Read
public import Idealize.ShloMosaic.Lib.Quiescent
public import Idealize.ShloMosaic.Lib.Routing.OpsSet
public import Idealize.ShloMosaic.Lib.Routing.OpsPair

@[expose] public section

set_option maxRecDepth 16384

noncomputable section

namespace Cert.Layer

open Idealize.ShloMosaic hiding ix1 ix2 ix3 ix4 ix5
open Idealize.ShloMosaic.ValueIdx

/-- The eight condition rows: the batches' conditions, the context's, and zeros. -/
def conditionRow (c : FVec Ideal ⟨2, ![2, 2048]⟩ .f32) (cctx : Features) (r : Fin 8) (k : Fin 2048) : Ideal .f32 :=
  if h : r.val < 2 then c (ix2 (⟨r.val, h⟩ : Fin 2) k) else if r.val = 2 then cctx (ix1 k) else FloatOps.ofBits (F := Ideal) .f32 0x00000000#32

/-- A number times its logistic. -/
def gated (x : Ideal .f32) : Ideal .f32 := x * Ideal.logistic x

/-- The modulation rows of every layer. -/
def modulation (c : FVec Ideal ⟨2, ![2, 2048]⟩ .f32) (cctx : Features) (w : FVec Ideal ⟨3, ![4, 2048, 12288]⟩ .f32)
    (b : FVec Ideal ⟨2, ![4, 12288]⟩ .f32) : FVec Ideal ⟨3, ![4, 8, 12288]⟩ .f32 := fun y =>
  (∑ k : Fin 2048, gated (conditionRow c cctx (y 1) k) * w (ix3 (y 0) k (y 2))) + b (ix2 (y 0) (y 2))

end Cert.Layer

namespace Cert.Kernel9Ideal.Dense

open Idealize.ShloMosaic hiding ix1 ix2 ix3 ix4 ix5
open Idealize.ShloMosaic.TcCoe Idealize.ShloMosaic.Tactic Idealize.ShloMosaic.ValueIdx
open Idealize.SL Idealize.SL.RA Idealize.SL.BI Idealize.SL.Sem
open Cert.Kernel9Ideal.Gen Cert.Layer

/-- One point's block, entry by entry. -/
theorem pay1_apply (x : Vec Ideal S8x2048 .f32) (w : Vec Ideal S1x2048x1024 .f32) (b : Vec Ideal S1x1x1024 .f32) (r : Fin 8) (d : Fin 1024) :
    k0_pay1 (F := Ideal) x w b (ix3 0 r d) = (∑ k : Fin 2048, gated (x (ix2 r k)) * w (ix3 0 k d)) + b (ix3 0 0 d) := by
  unfold k0_pay1
  simp only [shapeCast_self]
  rw [shapeCast_ab_1ab_apply]
  refine congrArg₂ (· + ·) ?_ ?_
  · refine (Ideal.matmul_plain_apply (M := 8) (K := 2048) (N := 1024) none _ _ _ r d).trans ?_
    rw [show constant (F := Ideal) S8x1024 .f32 0x00000000#32 (ix2 r d) = 0 from Ideal.ofBits_zero_f32, zero_add]
    refine Finset.sum_congr rfl fun k _ => ?_
    exact congrArg (gated (x (ix2 r k)) * ·) (shapeCast_1ab_ab_apply w _ k d)
  · exact (broadcastTo_1b_ab_apply _ _ r d).trans (shapeCast_1ab_ab_apply _ _ 0 d)

/-- Where the first writing puts an entry. -/
theorem lands_first (idx : IVec S1 32) (hidx : ∀ i, (idx i).toInt = 0) (i : Fin 2) (j : Fin 2048) (r : Fin 8) (k : Fin 2048) :
    scatter_S8x2048_S1_S2x2048_01_n_0_0.resultIdx? (ix2 i j) idx = some (ix2 r k) ↔ i.val = r.val ∧ j.val = k.val := by
  have s0 : scatter_S8x2048_S1_S2x2048_01_n_0_0.start (ix2 i j) idx 0 = 0 := by
    unfold ScatterDims.start
    rw [dif_pos (by decide)]
    exact hidx _
  have s1 : scatter_S8x2048_S1_S2x2048_01_n_0_0.start (ix2 i j) idx 1 = 0 := by
    unfold ScatterDims.start
    rw [dif_neg (by decide)]
  have w0 : scatter_S8x2048_S1_S2x2048_01_n_0_0.window (ix2 i j) 0 = i.val := by
    unfold ScatterDims.window
    rw [dif_pos (by decide)]
    rfl
  have w1 : scatter_S8x2048_S1_S2x2048_01_n_0_0.window (ix2 i j) 1 = j.val := by
    unfold ScatterDims.window
    rw [dif_pos (by decide)]
    rfl
  rw [Routing.resultIdx?_eq_some]
  constructor
  · intro h
    have h0 : _ = ((r.val : ℕ) : Int) := h 0
    have h1 : _ = ((k.val : ℕ) : Int) := h 1
    rw [s0, w0] at h0
    rw [s1, w1] at h1
    omega
  · rintro ⟨h0, h1⟩ a
    match a with
    | ⟨0, _⟩ =>
      show scatter_S8x2048_S1_S2x2048_01_n_0_0.start (ix2 i j) idx 0 + (scatter_S8x2048_S1_S2x2048_01_n_0_0.window (ix2 i j) 0 : Int) = ((r.val : ℕ) : Int)
      rw [s0, w0]
      omega
    | ⟨1, _⟩ =>
      show scatter_S8x2048_S1_S2x2048_01_n_0_0.start (ix2 i j) idx 1 + (scatter_S8x2048_S1_S2x2048_01_n_0_0.window (ix2 i j) 1 : Int) = ((k.val : ℕ) : Int)
      rw [s1, w1]
      omega

/-- Where the second writing puts an entry. -/
theorem lands_second (idx : IVec S1 32) (hidx : ∀ i, (idx i).toInt = 2) (j : Fin 2048) (r : Fin 8) (k : Fin 2048) :
    scatter_S8x2048_S1_S2048_0_0_0_0.resultIdx? (ix1 j) idx = some (ix2 r k) ↔ r.val = 2 ∧ j.val = k.val := by
  have s0 : scatter_S8x2048_S1_S2048_0_0_0_0.start (ix1 j) idx 0 = 2 := by
    unfold ScatterDims.start
    rw [dif_pos (by decide)]
    exact hidx _
  have s1 : scatter_S8x2048_S1_S2048_0_0_0_0.start (ix1 j) idx 1 = 0 := by
    unfold ScatterDims.start
    rw [dif_neg (by decide)]
  have w0 : scatter_S8x2048_S1_S2048_0_0_0_0.window (ix1 j) 0 = 0 := by
    unfold ScatterDims.window
    rw [dif_neg (by decide)]
  have w1 : scatter_S8x2048_S1_S2048_0_0_0_0.window (ix1 j) 1 = j.val := by
    unfold ScatterDims.window
    rw [dif_pos (by decide)]
    rfl
  rw [Routing.resultIdx?_eq_some]
  constructor
  · intro h
    have h0 : _ = ((r.val : ℕ) : Int) := h 0
    have h1 : _ = ((k.val : ℕ) : Int) := h 1
    rw [s0, w0] at h0
    rw [s1, w1] at h1
    omega
  · rintro ⟨h0, h1⟩ a
    match a with
    | ⟨0, _⟩ =>
      show scatter_S8x2048_S1_S2048_0_0_0_0.start (ix1 j) idx 0 + (scatter_S8x2048_S1_S2048_0_0_0_0.window (ix1 j) 0 : Int) = ((r.val : ℕ) : Int)
      rw [s0, w0]
      omega
    | ⟨1, _⟩ =>
      show scatter_S8x2048_S1_S2048_0_0_0_0.start (ix1 j) idx 1 + (scatter_S8x2048_S1_S2048_0_0_0_0.window (ix1 j) 1 : Int) = ((k.val : ℕ) : Int)
      rw [s1, w1]
      omega

/-- The eight rows written. -/
theorem rows_apply (z : Vec Ideal S8x2048 .f32) (hz : ∀ i, z i = FloatOps.ofBits (F := Ideal) .f32 0x00000000#32)
    (i₀ i₂ : IVec S1 32) (h₀ : ∀ i, (i₀ i).toInt = 0) (h₂ : ∀ i, (i₂ i).toInt = 2) (c : Vec Ideal S2x2048 .f32) (cctx : Vec Ideal S2048 .f32)
    (r : Fin 8) (k : Fin 2048) :
    Host.scatter scatter_S8x2048_S1_S2048_0_0_0_0 (fun _ b => b)
      (Host.scatter scatter_S8x2048_S1_S2x2048_01_n_0_0 (fun _ b => b) z i₀ c) i₂ cctx (ix2 r k) = conditionRow c cctx r k := by
  unfold conditionRow
  by_cases h : r.val = 2
  · rw [dif_neg (by omega), if_pos h]
    refine Routing.scatter_set_hit _ _ _ _ _ _ (fun q hq => ?_) (ix1 k) ((lands_second i₂ h₂ k r k).2 ⟨h, rfl⟩)
    obtain ⟨j, rfl⟩ : ∃ j : Fin 2048, q = ix1 j := ⟨q 0, by funext a; match a with | ⟨0, _⟩ => rfl⟩
    exact congrArg (fun j : Fin 2048 => cctx (ix1 j)) (Fin.ext ((lands_second i₂ h₂ j r k).1 hq).2)
  · rw [Routing.scatter_set_miss _ _ _ _ _ (fun q hq => by
      obtain ⟨j, rfl⟩ : ∃ j : Fin 2048, q = ix1 j := ⟨q 0, by funext a; match a with | ⟨0, _⟩ => rfl⟩
      exact h ((lands_second i₂ h₂ j r k).1 hq).1)]
    by_cases h2 : r.val < 2
    · rw [dif_pos h2]
      refine Routing.scatter_set_hit _ _ _ _ _ _ (fun q hq => ?_) (ix2 (⟨r.val, h2⟩ : Fin 2) k) ((lands_first i₀ h₀ ⟨r.val, h2⟩ k r k).2 ⟨rfl, rfl⟩)
      obtain ⟨i, j, rfl⟩ : ∃ (i : Fin 2) (j : Fin 2048), q = ix2 i j := ⟨q 0, q 1, by funext a; match a with | ⟨0, _⟩ => rfl | ⟨1, _⟩ => rfl⟩
      obtain ⟨e0, e1⟩ := (lands_first i₀ h₀ i j r k).1 hq
      exact congrArg₂ (fun (i : Fin 2) (j : Fin 2048) => c (ix2 i j)) (Fin.ext e0) (Fin.ext e1)
    · rw [dif_neg h2, if_neg h, Routing.scatter_set_miss _ _ _ _ _ (fun q hq => by
        obtain ⟨i, j, rfl⟩ : ∃ (i : Fin 2) (j : Fin 2048), q = ix2 i j := ⟨q 0, q 1, by funext a; match a with | ⟨0, _⟩ => rfl | ⟨1, _⟩ => rfl⟩
        have e0 := ((lands_first i₀ h₀ i j r k).1 hq).1
        have := i.isLt
        omega)]
      exact hz _

variable (m : (ℓ : Loc nD τ sig) → Buf (Elt Ideal) ℓ)

theorem V_rows (c : Dev nD) (r : Fin 8) (k : Fin 2048) : (V m c main_v4 : Vec Ideal S8x2048 .f32) (ix2 r k)
    = conditionRow (m ((c : Thread nD τ).loc main_arg0)) (m ((c : Thread nD τ).loc main_arg1)) r k := by
  have h : V m c main_v4 = Host.scatter scatter_S8x2048_S1_S2048_0_0_0_0 (fun _ b => b)
      (Host.scatter scatter_S8x2048_S1_S2x2048_01_n_0_0 (fun _ b => b)
        (broadcastInDim S8x2048 ![] bcast_S_S8x2048 (constant (F := Ideal) S_ .f32 0x00000000#32))
        (broadcastInDim S1 ![] bcast_S_S1 (constantI S_ 32 0#32)) (m ((c : Thread nD τ).loc main_arg0) : Vec Ideal S2x2048 .f32))
      (broadcastInDim S1 ![] bcast_S_S1 (constantI S_ 32 2#32)) (m ((c : Thread nD τ).loc main_arg1) : Vec Ideal S2048 .f32) := by
    show StableHlo.after hostOps0 _ (Proc.devRef .tc main_v4) = _
    after_results
  rw [h]
  exact rows_apply _ (fun _ => rfl) _ _ (fun _ => rfl) (fun _ => rfl) _ _ r k

theorem V_bias (c : Dev nD) (e : Fin 4) (d : Fin 12288) : (V m c main_v5 : Vec Ideal S4x1x12288 .f32) (ix3 e 0 d)
    = (m ((c : Thread nD τ).loc main_arg3) : Vec Ideal S4x12288 .f32) (ix2 e d) := by
  have h : V m c main_v5 = shapeCast S4x1x12288 (m ((c : Thread nD τ).loc main_arg3) : Vec Ideal S4x12288 .f32) shapeCasts_S4x12288_S4x1x12288 := by
    show StableHlo.after hostOps0 _ (Proc.devRef .tc main_v5) = _
    after_results
    rfl
  rw [h]
  refine shapeCast_apply _ _ _ (ix2 e d) ?_
  rw [Shape.rowMajor_val_two, Shape.rowMajor_val_three]
  show e.val * 12288 + d.val = (e.val * 1 + 0) * 12288 + d.val
  omega

/-- The layer and the column of a point's block. -/
def layer (t : Fin cfg0.N) : Fin 4 := ⟨t.val / 12, by have h : t.val < 48 := Nat.lt_of_lt_of_eq t.isLt N_0; omega⟩
def column (t : Fin cfg0.N) (d : Fin 1024) : Fin 12288 := ⟨1024 * (t.val % 12) + d.val, by have := d.isLt; omega⟩

theorem pos0 : ∀ t : Fin cfg0.N, win0_0.index t = ![0, 0] := (by decide +kernel : ∀ t : Fin grid0.N, _)
theorem pos1 : ∀ t : Fin cfg0.N, win0_1.index t = ![t.val / 12, 0, t.val % 12] := (by decide +kernel : ∀ t : Fin grid0.N, _)
theorem pos2 : ∀ t : Fin cfg0.N, win0_2.index t = ![t.val / 12, 0, t.val % 12] := (by decide +kernel : ∀ t : Fin grid0.N, _)
theorem pos3 : ∀ t : Fin cfg0.N, win0_3.index t = ![t.val / 12, 0, t.val % 12] := (by decide +kernel : ∀ t : Fin grid0.N, _)

theorem blk0 (c : Dev nD) (t : Fin cfg0.N) (r : Fin 8) (k : Fin 2048) :
    iblk m c 0 t (ix2 r k) = conditionRow (m ((c : Thread nD τ).loc main_arg0)) (m ((c : Thread nD τ).loc main_arg1)) r k := by
  refine Eq.trans ?_ (V_rows m c r k)
  unfold iblk
  rw [show V m c (Pipeline.arrRef spec0 0) = V m c main_v4 from rfl]
  generalize V m c main_v4 = R
  blk_ext! [pos0]

theorem blk1 (c : Dev nD) (t : Fin cfg0.N) (k : Fin 2048) (d : Fin 1024) :
    iblk m c 1 t (ix3 0 k d) = m ((c : Thread nD τ).loc main_arg2) (ix3 (layer t) k (column t d)) := by
  blk_ext! [iblk, pos1, layer, column]
  exact congrArg (· + d.val) (Nat.mul_comm _ _)

theorem blk2 (c : Dev nD) (t : Fin cfg0.N) (d : Fin 1024) :
    iblk m c 2 t (ix3 0 0 d) = m ((c : Thread nD τ).loc main_arg3) (ix2 (layer t) (column t d)) := by
  refine Eq.trans ?_ (V_bias m c (layer t) (column t d))
  unfold iblk
  rw [show V m c (Pipeline.arrRef spec0 2) = V m c main_v5 from rfl]
  generalize V m c main_v5 = R
  blk_ext! [pos2, layer, column]
  exact congrArg (· + d.val) (Nat.mul_comm _ _)

/-- The point's block of the result. -/
theorem out_apply (c : Dev nD) (t : Fin cfg0.N) (r : Fin 8) (d : Fin 1024) :
    out0_3 (iblk m c 0 t) (iblk m c 1 t) (iblk m c 2 t) (ix3 0 r d)
      = modulation (m ((c : Thread nD τ).loc main_arg0)) (m ((c : Thread nD τ).loc main_arg1)) (m ((c : Thread nD τ).loc main_arg2))
          (m ((c : Thread nD τ).loc main_arg3)) (ix3 (layer t) r (column t d)) := by
  frame_out
  rw [pay1_apply]
  simp only [blk0, blk1, blk2]
  rfl

/-- The output array after the whole grid. -/
theorem final_out (c : Dev nD) : (dats m 0 c).arrAt 3 cfg0.N
    = modulation (m ((c : Thread nD τ).loc main_arg0)) (m ((c : Thread nD τ).loc main_arg1)) (m ((c : Thread nD τ).loc main_arg2))
        (m ((c : Thread nD τ).loc main_arg3)) := by
  refine (dats m 0 c).arrAt_eq_of_covers 3 _ (by decide +kernel) fun t hf y => ?_
  rw [after0_3]
  have h := out_apply m c t
  generalize out0_3 (iblk m c 0 t) (iblk m c 1 t) (iblk m c 2 t) = o at h ⊢
  obtain ⟨z, r, d, rfl⟩ : ∃ (z : Fin 1) (r : Fin 8) (d : Fin 1024), y = ix3 z r d := ⟨y 0, y 1, y 2, by funext a; fin_cases a <;> rfl⟩
  obtain rfl : z = 0 := Fin.ext (by omega)
  refine (h r d).trans (congrArg _ ?_)
  symm
  blk_ext! [pos3, layer, column]
  exact congrArg (· + d.val) (Nat.mul_comm _ _)

end Cert.Kernel9Ideal.Dense

namespace Cert.Reference9Ideal.Dense

open Idealize.ShloMosaic hiding ix1 ix2 ix3 ix4 ix5
open Idealize.ShloMosaic.TcCoe Idealize.ShloMosaic.ValueIdx
open Cert.Reference9Ideal Cert.Reference9Ideal.Read Cert.Layer

variable (c : Vec Ideal S2x2048 .f32) (cctx : Vec Ideal S2048 .f32) (w : Vec Ideal S4x2048x12288 .f32) (b : Vec Ideal S4x12288 .f32)

/-- The eight rows stacked. -/
theorem v2_at (r : Fin 8) (k : Fin 2048) : val_main_v2 (F := Ideal) c cctx (ix2 r k) = conditionRow c cctx r k := by
  unfold val_main_v2 conditionRow
  by_cases h : r.val < 2
  · rw [dif_pos h]
    exact concatenate_apply_piece 0 _ _ (ix2 r k) 0 (by simp) S2x2048 c rfl rfl 0 rfl (ix2 (⟨r.val, h⟩ : Fin 2) k)
      (fun a ha => match a with | ⟨0, _⟩ => absurd rfl ha | ⟨1, _⟩ => rfl) (Nat.zero_add _)
  · rw [dif_neg h]
    by_cases h2 : r.val = 2
    · rw [if_pos h2]
      refine (concatenate_apply_piece 0 _ _ (ix2 r k) 1 (by simp) S1x2048 (val_main_v0 (F := Ideal) cctx) rfl rfl 2 rfl (ix2 (0 : Fin 1) k)
        (fun a ha => match a with | ⟨0, _⟩ => absurd rfl ha | ⟨1, _⟩ => rfl) h2.symm).trans ?_
      rw [val_main_v0_apply]
      refine congrArg cctx ?_
      funext a
      match a with
      | ⟨0, _⟩ => rfl
    · rw [if_neg h2]
      refine (concatenate_apply_piece 0 _ _ (ix2 r k) 2 (by simp) S5x2048 (val_main_v1 (F := Ideal)) rfl rfl 3 rfl
        (ix2 (⟨r.val - 3, by omega⟩ : Fin 5) k)
        (fun a ha => match a with | ⟨0, _⟩ => absurd rfl ha | ⟨1, _⟩ => rfl) (show 3 + (r.val - 3) = r.val by omega)).trans ?_
      rw [val_main_v1_apply, val_main_cst_apply]

/-- The rows' gated values. -/
theorem v3_at (i : S8x2048.Idx) : val_main_v3 (F := Ideal) c cctx i = gated (val_main_v2 (F := Ideal) c cctx i) := by
  rw [val_main_v3_apply, val_main_call0_v5_apply, val_main_call0_v4_apply, val_main_call0_cst_0_apply, val_main_call0_v3_apply, val_main_call0_v2_apply,
    val_main_call0_cst_apply, val_main_call0_v1_apply, val_main_call0_v0_apply,
    show FloatOps.ofBits (F := Ideal) .f32 0x3F800000#32 = 1 from Ideal.ofBits_one_f32]
  rfl

/-- The reference's result. -/
theorem value : val_main_v8 (F := Ideal) c cctx w b = modulation c cctx w b := by
  funext y
  obtain ⟨e, r, d, rfl⟩ : ∃ (e : Fin 4) (r : Fin 8) (d : Fin 12288), y = ix3 e r d :=
    ⟨y 0, y 1, y 2, by funext a; match a with | ⟨0, _⟩ => rfl | ⟨1, _⟩ => rfl | ⟨2, _⟩ => rfl⟩
  rw [val_main_v8_apply, val_main_v5_apply, val_main_v4_apply, val_main_v7_apply, val_main_v6_apply, Ideal.addf_def]
  refine congrArg₂ (· + ·) (Finset.sum_congr rfl fun k _ => ?_) (congrArg b ?_)
  · rw [mul_comm, v3_at, show ridx_main_v4 (idx_main_v5 (ix3 e r d)) k = ix2 r k from by
      funext a
      match a with
      | ⟨0, _⟩ => rfl
      | ⟨1, _⟩ => rfl, v2_at]
    refine congrArg (gated (conditionRow c cctx r k) * w ·) ?_
    funext a
    match a with
    | ⟨0, _⟩ => rfl
    | ⟨1, _⟩ => rfl
    | ⟨2, _⟩ => rfl
  · funext a
    match a with
    | ⟨0, _⟩ => rfl
    | ⟨1, _⟩ => rfl

end Cert.Reference9Ideal.Dense

namespace Cert.ModulationRows

open Idealize.ShloMosaic Idealize.SL.Sem
open Cert.Layer (modulation)

theorem frame_kernel : Cert.quiescent_Kernel9 := fun m ρ _ => Cert.Kernel9.Gen.frame m ρ
theorem frame_ideal : Cert.quiescent_Kernel9Ideal := fun m ρ _ => Cert.Kernel9Ideal.Gen.frame m ρ
/-- The reference leaves its arguments alone; it has no counters. -/
theorem frame_reference : Cert.quiescent_Reference9Ideal := fun m ρ _ =>
  (θ_run Cert.Reference9Ideal.defs _ _).mono
    (fun r h => ⟨fun c => (h c).2, sem_eq_zero_of_no_sems (by decide) r.2⟩) (Cert.Reference9Ideal.Value.run m ρ)

/-- Equal results from equal arguments. -/
theorem algebraic : Cert.algebraic_Kernel9Ideal_Reference9Ideal := by
  intro m ρ m' ρ' _ hargs
  refine ⟨fun c => modulation (m ((c.tc : Thread _ Cert.Kernel9Ideal.τ).loc Cert.Kernel9Ideal.main_arg0))
    (m ((c.tc : Thread _ Cert.Kernel9Ideal.τ).loc Cert.Kernel9Ideal.main_arg1))
    (m ((c.tc : Thread _ Cert.Kernel9Ideal.τ).loc Cert.Kernel9Ideal.main_arg2))
    (m ((c.tc : Thread _ Cert.Kernel9Ideal.τ).loc Cert.Kernel9Ideal.main_arg3)), ?_, ?_⟩
  · exact (θ_run Cert.Kernel9Ideal.defs _ _).mono
      (fun r h c => ⟨(h c).1.trans (Cert.Kernel9Ideal.Dense.final_out m c), (h c).2⟩) (Cert.Kernel9Ideal.Value.run_blocks m ρ)
  · refine (θ_run Cert.Reference9Ideal.defs _ _).mono (fun r h c => ⟨(h c).1.trans ?_, (h c).2⟩) (Cert.Reference9Ideal.Value.run m' ρ')
    obtain ⟨h0, h1, h2, h3⟩ := hargs c
    rw [Cert.Reference9Ideal.Read.val_main_v8_eq, h0, h1, h2, h3]
    exact Cert.Reference9Ideal.Dense.value _ _ _ _

end Cert.ModulationRows
end
-- ==== Proof.Combine.lean ====
/-
  The combination ahead of the output projection: every grid point copies 256 tokens' 1024 mixed features and writes, behind
  them, the sums of the two directions, normalised head by head (128 columns), weighted, and multiplied with the gate. The
  reference computes the same on a view of the columns as 8 heads of 128.
-/
module

public import proofs.«01_k».proof.Defs
public import proofs.«01_k».proof.Proof.Specs
public import proofs.«01_k».proof.Proof.Modulation
public import proofs.«01_k».proof.Proof.Gen.Kernel8.Frame
public import proofs.«01_k».proof.Proof.Gen.Kernel8Ideal.Value
public import proofs.«01_k».proof.Proof.Gen.Reference8Ideal.Read
public import Idealize.ShloMosaic.Lib.Quiescent

@[expose] public section

set_option maxRecDepth 16384

noncomputable section

namespace Cert.Layer

open Idealize.ShloMosaic hiding ix1 ix2 ix3 ix4 ix5
open Idealize.ShloMosaic.ValueIdx

/-- A head's entry: normalised by the root of the head's mean square, weighted and gated. -/
def headEntry (o : Fin 128 → Ideal .f32) (w g : Ideal .f32) (j : Fin 128) : Ideal .f32 :=
  o j * FloatOps.rsqrt (F := Ideal) (φ := .f32)
    (Ideal.div (∑ k : Fin 128, o k * o k) (FloatOps.ofBits (F := Ideal) .f32 0x43000000#32) + FloatOps.ofBits (F := Ideal) .f32 0x358637BD#32)
    * w * gated g

/-- The column of a head's entry. -/
def headColumn (h : Fin 8) (k : Fin 128) : Fin 1024 := ⟨128 * h.val + k.val, by omega⟩

/-- The gate's column in the wide projection. -/
def gateColumn (d : Fin 1024) : Fin 5120 := ⟨4096 + d.val, by omega⟩

/-- The mixed features, and behind them the heads. -/
def combined (of ob : FVec Ideal ⟨3, ![2, 8448, 1024]⟩ .f32) (z : FVec Ideal ⟨3, ![2, 8448, 5120]⟩ .f32)
    (four : FVec Ideal ⟨3, ![2, 8448, 1024]⟩ .bf16) (w : FVec Ideal ⟨1, ![128]⟩ .f32) : Tokens .bf16 := fun y =>
  if h : (y 2).val < 1024 then four (ix3 (y 0) (y 1) (⟨(y 2).val, h⟩ : Fin 1024))
  else headEntry
    (fun k => of (ix3 (y 0) (y 1) (headColumn ⟨((y 2).val - 1024) / 128, by have : (y 2).val < 2048 := (y 2).isLt; omega⟩ k))
      + ob (ix3 (y 0) (y 1) (headColumn ⟨((y 2).val - 1024) / 128, by have : (y 2).val < 2048 := (y 2).isLt; omega⟩ k)))
    (w (ix1 (⟨((y 2).val - 1024) % 128, by omega⟩ : Fin 128)))
    (z (ix3 (y 0) (y 1) (gateColumn ⟨(y 2).val - 1024, by have : (y 2).val < 2048 := (y 2).isLt; omega⟩)))
    ⟨((y 2).val - 1024) % 128, by omega⟩

/-- A mixed feature's column in the result, and a head's. -/
def mixedPlace (d : Fin 1024) : Fin 2048 := ⟨d.val, by omega⟩
def headPlace (h : Fin 8) (j : Fin 128) : Fin 2048 := ⟨1024 + (128 * h.val + j.val), by omega⟩

variable (of ob : FVec Ideal ⟨3, ![2, 8448, 1024]⟩ .f32) (z : FVec Ideal ⟨3, ![2, 8448, 5120]⟩ .f32)
    (four : FVec Ideal ⟨3, ![2, 8448, 1024]⟩ .bf16) (w : FVec Ideal ⟨1, ![128]⟩ .f32)

theorem combined_at (b : Fin 2) (l : Fin 8448) (e : Fin 2048) : combined of ob z four w (ix3 b l e)
    = if h : e.val < 1024 then four (ix3 b l (⟨e.val, h⟩ : Fin 1024))
      else headEntry
        (fun k => of (ix3 b l (headColumn ⟨(e.val - 1024) / 128, by omega⟩ k)) + ob (ix3 b l (headColumn ⟨(e.val - 1024) / 128, by omega⟩ k)))
        (w (ix1 (⟨(e.val - 1024) % 128, by omega⟩ : Fin 128))) (z (ix3 b l (gateColumn ⟨e.val - 1024, by omega⟩)))
        ⟨(e.val - 1024) % 128, by omega⟩ := rfl

theorem combined_mixed (b : Fin 2) (l : Fin 8448) (d : Fin 1024) : combined of ob z four w (ix3 b l (mixedPlace d)) = four (ix3 b l d) := by
  rw [combined_at, dif_pos (show (mixedPlace d).val < 1024 from d.isLt)]
  rfl

theorem combined_head (b : Fin 2) (l : Fin 8448) (h : Fin 8) (j : Fin 128) : combined of ob z four w (ix3 b l (headPlace h j))
    = headEntry (fun k => of (ix3 b l (headColumn h k)) + ob (ix3 b l (headColumn h k))) (w (ix1 j))
        (z (ix3 b l (gateColumn (headColumn h j)))) j := by
  rw [combined_at, dif_neg (show ¬ (headPlace h j).val < 1024 from (by omega : ¬ 1024 + (128 * h.val + j.val) < 1024))]
  have hb := (headPlace h j).isLt
  have e0 : (⟨((headPlace h j).val - 1024) / 128, by omega⟩ : Fin 8) = h :=
    Fin.ext (show (1024 + (128 * h.val + j.val) - 1024) / 128 = h.val by omega)
  have e1 : (⟨((headPlace h j).val - 1024) % 128, by omega⟩ : Fin 128) = j :=
    Fin.ext (show (1024 + (128 * h.val + j.val) - 1024) % 128 = j.val by omega)
  have e2 : (⟨(headPlace h j).val - 1024, by omega⟩ : Fin 1024) = headColumn h j :=
    Fin.ext (show 1024 + (128 * h.val + j.val) - 1024 = 128 * h.val + j.val by omega)
  rw [e0, e1, e2]

end Cert.Layer

namespace Cert.Kernel8Ideal.Dense

open Idealize.ShloMosaic hiding ix1 ix2 ix3 ix4 ix5
open Idealize.ShloMosaic.TcCoe Idealize.ShloMosaic.Tactic Idealize.ShloMosaic.ValueIdx
open Idealize.SL Idealize.SL.RA Idealize.SL.BI Idealize.SL.Sem
open Cert.Kernel8Ideal.Gen Cert.Layer

/-- One head of a point's block, entry by entry. -/
theorem pay2_apply (w : Vec Ideal S1x128 .f32) (a b g : Vec Ideal S1x256x128 .f32) (l : Fin 256) (j : Fin 128) :
    k0_pay2 (F := Ideal) (k0_pay3 w) a b g (ix3 0 l j)
      = headEntry (fun k => a (ix3 0 l k) + b (ix3 0 l k)) (w (ix2 0 j)) (g (ix3 0 l j)) j := by
  unfold k0_pay2 k0_pay3
  simp only [shapeCast_self]
  rw [shapeCast_ab_1ab_apply]
  show ((shapeCast S256x128 a shapeCasts_S1x256x128_S256x128) (ix2 l j) + (shapeCast S256x128 b shapeCasts_S1x256x128_S256x128) (ix2 l j))
    * broadcastTo S256x128 _ _ (ix2 l j) * broadcastTo S256x128 _ _ (ix2 l j)
    * gated ((shapeCast S256x128 g shapeCasts_S1x256x128_S256x128) (ix2 l j)) = _
  rw [broadcastTo_1b_ab_apply, broadcastTo_apply _ _ (ix2 l j) (ix2 l 0) (by intro a; fin_cases a <;> rfl), shapeCast_1ab_ab_apply,
    shapeCast_1ab_ab_apply, shapeCast_1ab_ab_apply]
  unfold headEntry
  refine congrArg ((a (ix3 0 l j) + b (ix3 0 l j)) * · * w (ix2 0 j) * gated (g (ix3 0 l j))) ?_
  show FloatOps.rsqrt (F := Ideal) (φ := .f32) (FloatOps.divf (F := Ideal) (φ := .f32) (shapeCast S256x1 _ _ (ix2 l 0)) _ + _) = _
  rw [Ideal.divf_def, shapeCast_a_a1_apply]
  refine congrArg (fun s => FloatOps.rsqrt (F := Ideal) (φ := .f32) (Ideal.div s _ + _)) ?_
  refine (Ideal.multiReduction_add_single _ _ _ _ _ _).trans (Finset.sum_congr rfl fun k _ => ?_)
  have hk : reduces_S256x128_S256.lift (ix1 l) k = ix2 l k := by
    funext a
    match a with
    | ⟨0, _⟩ => rfl
    | ⟨1, _⟩ => rfl
  rw [hk]
  exact congrArg₂ (· * ·) (congrArg₂ (· + ·) (shapeCast_1ab_ab_apply _ _ l k) (shapeCast_1ab_ab_apply _ _ l k))
    (congrArg₂ (· + ·) (shapeCast_1ab_ab_apply _ _ l k) (shapeCast_1ab_ab_apply _ _ l k))

variable (m : (ℓ : Loc nD τ sig) → Buf (Elt Ideal) ℓ)

theorem V_w (c : Dev nD) (j : Fin 128) : (V m c main_v0 : Vec Ideal S1x128 .f32) (ix2 0 j)
    = (m ((c : Thread nD τ).loc main_arg4) : Vec Ideal S128 .f32) (ix1 j) := by
  have h : V m c main_v0 = shapeCast S1x128 (m ((c : Thread nD τ).loc main_arg4) : Vec Ideal S128 .f32) shapeCasts_S128_S1x128 := by
    show StableHlo.after hostOps0 _ (Proc.devRef .tc main_v0) = _
    after_results
    rfl
  rw [h, shapeCast_a_1a_apply]

/-- The batch and the token of a point's block. -/
def batch (t : Fin cfg0.N) : Fin 2 := ⟨t.val / 33, by have h : t.val < 66 := Nat.lt_of_lt_of_eq t.isLt N_0; omega⟩
def token (t : Fin cfg0.N) (l : Fin 256) : Fin 8448 := ⟨256 * (t.val % 33) + l.val, by have := l.isLt; omega⟩

theorem pos0 : ∀ t : Fin cfg0.N, win0_0.index t = ![t.val / 33, t.val % 33, 0] := (by decide +kernel : ∀ t : Fin grid0.N, _)
theorem pos1 : ∀ t : Fin cfg0.N, win0_1.index t = ![t.val / 33, t.val % 33, 0] := (by decide +kernel : ∀ t : Fin grid0.N, _)
theorem pos2 : ∀ t : Fin cfg0.N, win0_2.index t = ![t.val / 33, t.val % 33, 4] := (by decide +kernel : ∀ t : Fin grid0.N, _)
theorem pos3 : ∀ t : Fin cfg0.N, win0_3.index t = ![t.val / 33, t.val % 33, 0] := (by decide +kernel : ∀ t : Fin grid0.N, _)
theorem pos4 : ∀ t : Fin cfg0.N, win0_4.index t = ![0, 0] := (by decide +kernel : ∀ t : Fin grid0.N, _)
theorem pos5 : ∀ t : Fin cfg0.N, win0_5.index t = ![t.val / 33, t.val % 33, 0] := (by decide +kernel : ∀ t : Fin grid0.N, _)

theorem blk0 (c : Dev nD) (t : Fin cfg0.N) (l : Fin 256) (k : Fin 1024) :
    iblk m c 0 t (ix3 0 l k) = m ((c : Thread nD τ).loc main_arg0) (ix3 (batch t) (token t l) k) := by
  blk_ext! [iblk, pos0, batch, token]
  exact congrArg (· + l.val) (Nat.mul_comm _ _)

theorem blk1 (c : Dev nD) (t : Fin cfg0.N) (l : Fin 256) (k : Fin 1024) :
    iblk m c 1 t (ix3 0 l k) = m ((c : Thread nD τ).loc main_arg1) (ix3 (batch t) (token t l) k) := by
  blk_ext! [iblk, pos1, batch, token]
  exact congrArg (· + l.val) (Nat.mul_comm _ _)

theorem blk2 (c : Dev nD) (t : Fin cfg0.N) (l : Fin 256) (k : Fin 1024) :
    iblk m c 2 t (ix3 0 l k) = m ((c : Thread nD τ).loc main_arg2) (ix3 (batch t) (token t l) (gateColumn k)) := by
  blk_ext! [iblk, pos2, batch, token, gateColumn]
  exact congrArg (· + l.val) (Nat.mul_comm _ _)

theorem blk3 (c : Dev nD) (t : Fin cfg0.N) (l : Fin 256) (k : Fin 1024) :
    iblk m c 3 t (ix3 0 l k) = m ((c : Thread nD τ).loc main_arg3) (ix3 (batch t) (token t l) k) := by
  blk_ext! [iblk, pos3, batch, token]
  exact congrArg (· + l.val) (Nat.mul_comm _ _)

theorem blk4 (c : Dev nD) (t : Fin cfg0.N) (j : Fin 128) :
    iblk m c 4 t (ix2 0 j) = m ((c : Thread nD τ).loc main_arg4) (ix1 j) := by
  refine Eq.trans ?_ (V_w m c j)
  blk_ext! [iblk, pos4]

/-- A head's columns of a block. -/
theorem columns_apply (x : Vec Ideal S1x256x1024 .f32) (h : Fin 8) (off : ℕ) (ho : off = 128 * h.val)
    (inb : ∀ a, (![0, 0, off] : Fin 3 → ℕ) a + (![1, 256, 128] : Fin 3 → ℕ) a ≤ S1x256x1024.size a) (l : Fin 256) (k : Fin 128) :
    View.ld x (Rect.unit ![0, 0, off] ![1, 256, 128] inb) (ix3 0 l k) = x (ix3 0 l (headColumn h k)) := by
  refine View.ld_unit_apply_of _ _ _ _ _ _ fun a => ?_
  match a with
  | ⟨0, _⟩ => rfl
  | ⟨1, _⟩ => exact (Nat.zero_add _).symm
  | ⟨2, _⟩ => exact congrArg (· + k.val) ho.symm

/-- A head of a point's block, from the blocks' entries. -/
theorem head_apply (x0 x1 x2 : Vec Ideal S1x256x1024 .f32) (x4 : Vec Ideal S1x128 .f32) (of ob : Vec Ideal S2x8448x1024 .f32)
    (z : Vec Ideal S2x8448x5120 .f32) (four : Vec Ideal S2x8448x1024 .bf16) (w : Vec Ideal S128 .f32) (b : Fin 2) (p : Fin 256 → Fin 8448)
    (b0 : ∀ (l : Fin 256) (k : Fin 1024), x0 (ix3 0 l k) = of (ix3 b (p l) k))
    (b1 : ∀ (l : Fin 256) (k : Fin 1024), x1 (ix3 0 l k) = ob (ix3 b (p l) k))
    (b2 : ∀ (l : Fin 256) (k : Fin 1024), x2 (ix3 0 l k) = z (ix3 b (p l) (gateColumn k)))
    (b4 : ∀ j : Fin 128, x4 (ix2 0 j) = w (ix1 j)) (h : Fin 8) (off : ℕ) (ho : off = 128 * h.val)
    (inb : ∀ a, (![0, 0, off] : Fin 3 → ℕ) a + (![1, 256, 128] : Fin 3 → ℕ) a ≤ S1x256x1024.size a)
    (x : S1x256x128.Idx) (l : Fin 256) (e : Fin 2048) (hl : l.val = (x 1).val) (he : e.val = 1024 + off + (x 2).val) :
    k0_pay2 (F := Ideal) (k0_pay3 x4) (View.ld x0 (Rect.unit ![0, 0, off] ![1, 256, 128] inb))
        (View.ld x1 (Rect.unit ![0, 0, off] ![1, 256, 128] inb)) (View.ld x2 (Rect.unit ![0, 0, off] ![1, 256, 128] inb)) x
      = combined of ob z four w (ix3 b (p l) e) := by
  obtain ⟨q, l', j, rfl⟩ : ∃ (q : Fin 1) (l' : Fin 256) (j : Fin 128), x = ix3 q l' j :=
    ⟨x 0, x 1, x 2, by funext a; match a with | ⟨0, _⟩ => rfl | ⟨1, _⟩ => rfl | ⟨2, _⟩ => rfl⟩
  obtain rfl : q = 0 := Fin.ext (by omega)
  obtain rfl : l = l' := Fin.ext hl
  obtain rfl : e = headPlace h j := Fin.ext (by
    refine he.trans ?_
    show 1024 + off + j.val = 1024 + (128 * h.val + j.val)
    omega)
  rw [combined_head, pay2_apply, columns_apply x2 h off ho, b2, b4]
  refine congrArg (fun o : Fin 128 → Ideal .f32 => headEntry o (w (ix1 j)) (z (ix3 b (p l) (gateColumn (headColumn h j)))) j) ?_
  funext k
  rw [columns_apply x0 h off ho, columns_apply x1 h off ho, b0, b1]

/-- The point's block of the result. -/
theorem out_apply (c : Dev nD) (t : Fin cfg0.N) (l : Fin 256) (e : Fin 2048) :
    outsAt0 m c t (ix3 0 l e)
      = combined (m ((c : Thread nD τ).loc main_arg0)) (m ((c : Thread nD τ).loc main_arg1)) (m ((c : Thread nD τ).loc main_arg2))
          (m ((c : Thread nD τ).loc main_arg3)) (m ((c : Thread nD τ).loc main_arg4)) (ix3 (batch t) (token t l) e) := by
  unfold outsAt0
  have b0 := blk0 m c t
  have b1 := blk1 m c t
  have b2 := blk2 m c t
  have b3 := blk3 m c t
  have b4 := blk4 m c t
  generalize iblk m c 0 t = x0 at b0 ⊢
  generalize iblk m c 1 t = x1 at b1 ⊢
  generalize iblk m c 2 t = x2 at b2 ⊢
  generalize iblk m c 3 t = x3 at b3 ⊢
  generalize iblk m c 4 t = x4 at b4 ⊢
  frame_out
  canon_tiles x h using View.cover_of_tiledBy _ ![1, 256, 128] (by sl_kernel_rfl) _
  · exact head_apply _ _ _ _ _ _ _ _ _ _ _ b0 b1 b2 b4 7 896 rfl _ x l e h1 h2
  · exact head_apply _ _ _ _ _ _ _ _ _ _ _ b0 b1 b2 b4 6 768 rfl _ x l e h1 h2
  · exact head_apply _ _ _ _ _ _ _ _ _ _ _ b0 b1 b2 b4 5 640 rfl _ x l e h1 h2
  · exact head_apply _ _ _ _ _ _ _ _ _ _ _ b0 b1 b2 b4 4 512 rfl _ x l e h1 h2
  · exact head_apply _ _ _ _ _ _ _ _ _ _ _ b0 b1 b2 b4 3 384 rfl _ x l e h1 h2
  · exact head_apply _ _ _ _ _ _ _ _ _ _ _ b0 b1 b2 b4 2 256 rfl _ x l e h1 h2
  · exact head_apply _ _ _ _ _ _ _ _ _ _ _ b0 b1 b2 b4 1 128 rfl _ x l e h1 h2
  · exact head_apply _ _ _ _ _ _ _ _ _ _ _ b0 b1 b2 b4 0 0 rfl _ x l e h1 h2
  · obtain ⟨q, l', d, rfl⟩ : ∃ (q : Fin 1) (l' : Fin 256) (d : Fin 1024), x = ix3 q l' d :=
      ⟨x 0, x 1, x 2, by funext a; match a with | ⟨0, _⟩ => rfl | ⟨1, _⟩ => rfl | ⟨2, _⟩ => rfl⟩
    obtain rfl : q = 0 := Fin.ext (by omega)
    obtain rfl : l = l' := Fin.ext h1
    obtain rfl : e = mixedPlace d := Fin.ext h2
    rw [combined_mixed]
    refine Eq.trans ?_ (b3 l d)
    unfold k0_pay4
    exact (shapeCast_ab_1ab_apply _ _ _ l d).trans (shapeCast_1ab_ab_apply _ _ l d)

/-- The output array after the whole grid. -/
theorem final_out (c : Dev nD) : (dats m 0 c).arrAt 5 cfg0.N
    = combined (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  rw [after0_5]
  have h := out_apply m c t
  generalize outsAt0 m c t = o at h ⊢
  obtain ⟨z, l, e, rfl⟩ : ∃ (z : Fin 1) (l : Fin 256) (e : Fin 2048), y = ix3 z l e := ⟨y 0, y 1, y 2, by funext a; fin_cases a <;> rfl⟩
  obtain rfl : z = 0 := Fin.ext (by omega)
  refine (h l e).trans (congrArg _ ?_)
  symm
  blk_ext! [pos5, batch, token]
  exact congrArg (· + l.val) (Nat.mul_comm _ _)

end Cert.Kernel8Ideal.Dense

namespace Cert.Reference8Ideal.Dense

open Idealize.ShloMosaic hiding ix1 ix2 ix3 ix4 ix5
open Idealize.ShloMosaic.TcCoe Idealize.ShloMosaic.ValueIdx
open Cert.Reference8Ideal Cert.Reference8Ideal.Read Cert.Layer

variable (of ob : Vec Ideal S2x8448x1024 .f32) (z : Vec Ideal S2x8448x5120 .f32) (four : Vec Ideal S2x8448x1024 .bf16) (w : Vec Ideal S128 .f32)

/-- The sum of the directions as heads. -/
theorem v2_at (b : Fin 2) (l : Fin 8448) (h : Fin 8) (k : Fin 128) : val_main_v2 (F := Ideal) of ob (ix4 b l h k)
    = of (ix3 b l (headColumn h k)) + ob (ix3 b l (headColumn h k)) := by
  rw [val_main_v2_apply, show idx_main_v2 (ix4 b l h k) = ix3 b l (headColumn h k) from by
    have h0 := b.isLt
    have h1 := l.isLt
    have h2 := h.isLt
    have h3 := k.isLt
    funext a
    match a with
    | ⟨0, _⟩ => exact Fin.ext (show (((b.val * 8448 + l.val) * 8 + h.val) * 128 + k.val) / 8650752 = b.val by omega)
    | ⟨1, _⟩ => exact Fin.ext (show (((b.val * 8448 + l.val) * 8 + h.val) * 128 + k.val) / 1024 % 8448 = l.val by omega)
    | ⟨2, _⟩ => exact Fin.ext (show (((b.val * 8448 + l.val) * 8 + h.val) * 128 + k.val) % 1024 = 128 * h.val + k.val by omega),
    val_main_v1_apply]
  rfl

/-- A head's reciprocal root mean square. -/
theorem v10_at (b : Fin 2) (l : Fin 8448) (h : Fin 8) (i : S2x8448x8x1.Idx) (hi : idx_main_v5 i = ix3 b l h) :
    val_main_v10 (F := Ideal) of ob i = FloatOps.rsqrt (F := Ideal) (φ := .f32)
      (Ideal.div (∑ k : Fin 128, (of (ix3 b l (headColumn h k)) + ob (ix3 b l (headColumn h k)))
        * (of (ix3 b l (headColumn h k)) + ob (ix3 b l (headColumn h k)))) (FloatOps.ofBits (F := Ideal) .f32 0x43000000#32)
        + FloatOps.ofBits (F := Ideal) .f32 0x358637BD#32) := by
  rw [val_main_v10_apply, val_main_v9_apply, val_main_v7_apply, val_main_v5_apply, hi, val_main_v4_apply, val_main_v6_apply, val_main_v8_apply,
    val_main_cst_0_apply, val_main_cst_1_apply, val_main_cst_apply]
  have hs : ∀ k : Fin 128, val_main_v3 (F := Ideal) of ob (idx_main_v4 (ix3 b l h) k)
      = (of (ix3 b l (headColumn h k)) + ob (ix3 b l (headColumn h k))) * (of (ix3 b l (headColumn h k)) + ob (ix3 b l (headColumn h k))) := by
    intro k
    rw [val_main_v3_apply, show idx_main_v4 (ix3 b l h) k = ix4 b l h k from by
      funext a
      match a with
      | ⟨0, _⟩ => rfl
      | ⟨1, _⟩ => rfl
      | ⟨2, _⟩ => rfl
      | ⟨3, _⟩ => rfl, v2_at]
    rfl
  rw [Finset.sum_congr rfl fun k _ => hs k, show FloatOps.ofBits (F := Ideal) .f32 0x00000000#32 = 0 from Ideal.ofBits_zero_f32, zero_add]
  rfl

/-- The gate. -/
theorem v17_at (i : S2x8448x1024.Idx) : val_main_v17 (F := Ideal) z i = gated (z (idx_main_v0 i)) := by
  rw [val_main_v17_apply, val_main_call0_v5_apply, val_main_call0_v4_apply, val_main_call0_cst_0_apply, val_main_call0_v3_apply, val_main_call0_v2_apply,
    val_main_call0_cst_apply, val_main_call0_v1_apply, val_main_call0_v0_apply, val_main_v0_apply,
    show FloatOps.ofBits (F := Ideal) .f32 0x3F800000#32 = 1 from Ideal.ofBits_one_f32]
  rfl

/-- The heads, normalised, weighted and gated. -/
theorem v19_at (b : Fin 2) (l : Fin 8448) (h : Fin 8) (j : Fin 128) : val_main_v19 (F := Ideal) of ob z w (ix3 b l (headColumn h j))
    = headEntry (fun k => of (ix3 b l (headColumn h k)) + ob (ix3 b l (headColumn h k))) (w (ix1 j))
        (z (ix3 b l (gateColumn (headColumn h j)))) j := by
  rw [val_main_v19_apply, val_main_v18_apply, val_main_v16_apply, show idx_main_v16 (ix3 b l (headColumn h j)) = ix4 b l h j from by
    have h0 := b.isLt
    have h1 := l.isLt
    have h2 := h.isLt
    have h3 := j.isLt
    funext a
    match a with
    | ⟨0, _⟩ => exact Fin.ext (show ((b.val * 8448 + l.val) * 1024 + (128 * h.val + j.val)) / 8650752 = b.val by omega)
    | ⟨1, _⟩ => exact Fin.ext (show ((b.val * 8448 + l.val) * 1024 + (128 * h.val + j.val)) / 1024 % 8448 = l.val by omega)
    | ⟨2, _⟩ => exact Fin.ext (show ((b.val * 8448 + l.val) * 1024 + (128 * h.val + j.val)) / 128 % 8 = h.val by omega)
    | ⟨3, _⟩ => exact Fin.ext (show ((b.val * 8448 + l.val) * 1024 + (128 * h.val + j.val)) % 128 = j.val by omega),
    val_main_v15_apply, val_main_v12_apply, v2_at, val_main_v11_apply, v10_at of ob b l h (idx_main_v11 (ix4 b l h j)) (by
      funext a
      match a with
      | ⟨0, _⟩ => rfl
      | ⟨1, _⟩ => rfl
      | ⟨2, _⟩ => rfl), val_main_v14_apply, val_main_v13_apply, v17_at,
    show idx_main_v0 (ix3 b l (headColumn h j)) = ix3 b l (gateColumn (headColumn h j)) from by
      funext a
      match a with
      | ⟨0, _⟩ => rfl
      | ⟨1, _⟩ => rfl
      | ⟨2, _⟩ => rfl,
    show idx_main_v13 (idx_main_v14 (ix4 b l h j)) = ix1 j from by
      funext a
      match a with
      | ⟨0, _⟩ => rfl]
  rfl

/-- The reference's result. -/
theorem value : val_main_v20 (F := Ideal) of ob z four w = combined of ob z four w := by
  funext y
  obtain ⟨b, l, e, rfl⟩ : ∃ (b : Fin 2) (l : Fin 8448) (e : Fin 2048), y = ix3 b l e :=
    ⟨y 0, y 1, y 2, by funext a; match a with | ⟨0, _⟩ => rfl | ⟨1, _⟩ => rfl | ⟨2, _⟩ => rfl⟩
  by_cases he : e.val < 1024
  · obtain ⟨d, rfl⟩ : ∃ d : Fin 1024, e = mixedPlace d := ⟨⟨e.val, he⟩, rfl⟩
    rw [combined_mixed]
    unfold val_main_v20
    exact concatenate_apply_piece 2 _ _ (ix3 b l (mixedPlace d)) 0 (by simp) S2x8448x1024 four rfl rfl 0 rfl (ix3 b l d)
      (fun a ha => match a with | ⟨0, _⟩ => rfl | ⟨1, _⟩ => rfl | ⟨2, _⟩ => absurd rfl ha) (Nat.zero_add _)
  · have hb := e.isLt
    have hj : (e.val - 1024) % 128 < 128 := Nat.mod_lt _ (by decide)
    obtain ⟨h, j, rfl⟩ : ∃ (h : Fin 8) (j : Fin 128), e = headPlace h j :=
      ⟨⟨(e.val - 1024) / 128, by omega⟩, ⟨(e.val - 1024) % 128, hj⟩,
        Fin.ext (show e.val = 1024 + (128 * ((e.val - 1024) / 128) + (e.val - 1024) % 128) by omega)⟩
    rw [combined_head]
    unfold val_main_v20
    exact (concatenate_apply_piece 2 _ _ (ix3 b l (headPlace h j)) 1 (by simp) S2x8448x1024 (val_main_v19 (F := Ideal) of ob z w) rfl rfl 1024 rfl
      (ix3 b l (headColumn h j)) (fun a ha => match a with | ⟨0, _⟩ => rfl | ⟨1, _⟩ => rfl | ⟨2, _⟩ => absurd rfl ha) rfl).trans
      (v19_at of ob z w b l h j)

end Cert.Reference8Ideal.Dense

namespace Cert.Combine

open Idealize.ShloMosaic Idealize.SL.Sem
open Cert.Layer (combined)

theorem frame_kernel : Cert.quiescent_Kernel8 := fun m ρ _ => Cert.Kernel8.Gen.frame m ρ
theorem frame_ideal : Cert.quiescent_Kernel8Ideal := fun m ρ _ => Cert.Kernel8Ideal.Gen.frame m ρ
/-- The reference leaves its arguments alone; it has no counters. -/
theorem frame_reference : Cert.quiescent_Reference8Ideal := fun m ρ _ =>
  (θ_run Cert.Reference8Ideal.defs _ _).mono
    (fun r h => ⟨fun c => (h c).2, sem_eq_zero_of_no_sems (by decide) r.2⟩) (Cert.Reference8Ideal.Value.run m ρ)

/-- Equal results from equal arguments. -/
theorem algebraic : Cert.algebraic_Kernel8Ideal_Reference8Ideal := by
  intro m ρ m' ρ' _ hargs
  refine ⟨fun c => combined (m ((c.tc : Thread _ Cert.Kernel8Ideal.τ).loc Cert.Kernel8Ideal.main_arg0))
    (m ((c.tc : Thread _ Cert.Kernel8Ideal.τ).loc Cert.Kernel8Ideal.main_arg1))
    (m ((c.tc : Thread _ Cert.Kernel8Ideal.τ).loc Cert.Kernel8Ideal.main_arg2))
    (m ((c.tc : Thread _ Cert.Kernel8Ideal.τ).loc Cert.Kernel8Ideal.main_arg3))
    (m ((c.tc : Thread _ Cert.Kernel8Ideal.τ).loc Cert.Kernel8Ideal.main_arg4)), ?_, ?_⟩
  · exact (θ_run Cert.Kernel8Ideal.defs _ _).mono
      (fun r h c => ⟨(h c).1.trans (Cert.Kernel8Ideal.Dense.final_out m c), (h c).2⟩) (Cert.Kernel8Ideal.Value.run_blocks m ρ)
  · refine (θ_run Cert.Reference8Ideal.defs _ _).mono (fun r h c => ⟨(h c).1.trans ?_, (h c).2⟩) (Cert.Reference8Ideal.Value.run m' ρ')
    obtain ⟨h0, h1, h2, h3, h4⟩ := hargs c
    rw [h0, h1, h2, h3, h4]
    exact Cert.Reference8Ideal.Dense.value _ _ _ _ _

end Cert.Combine
end
-- ==== Proof.Embed.lean ====
/-
  The embedding: a grid point either adds its 256 rows of the position table to 256 latent tokens or copies the 256 context
  tokens, so the result is the latent tokens with their positions, then the context tokens. The table is computed ahead of the
  launch by the operations the reference computes it by, and its entries are never looked into.
-/
module

public import proofs.«01_k».proof.Defs
public import proofs.«01_k».proof.Proof.Specs
public import proofs.«01_k».proof.Proof.Gen.Kernel10.Frame
public import proofs.«01_k».proof.Proof.Gen.Kernel10Ideal.Value
public import proofs.«01_k».proof.Proof.Gen.Reference10Ideal.Read
public import Idealize.ShloMosaic.Lib.Quiescent

@[expose] public section

set_option maxRecDepth 16384

noncomputable section

namespace Cert.Layer

open Idealize.ShloMosaic hiding ix1 ix2 ix3 ix4 ix5
open Idealize.ShloMosaic.ValueIdx

/-- The position table. -/
def positions : FVec Ideal ⟨2, ![8192, 2048]⟩ .f32 := Cert.Reference10Ideal.Read.val_main_v30 (F := Ideal)

/-- The latent tokens with their positions added, then the context tokens. -/
def embedded (x : FVec Ideal ⟨3, ![2, 8192, 2048]⟩ .f32) (ctx : FVec Ideal ⟨3, ![2, 256, 2048]⟩ .f32) : Tokens .f32 := fun y =>
  if h : (y 1).val < 8192 then x (ix3 (y 0) (⟨(y 1).val, h⟩ : Fin 8192) (y 2)) + positions (ix2 (⟨(y 1).val, h⟩ : Fin 8192) (y 2))
  else ctx (ix3 (y 0) (⟨(y 1).val - 8192, by have : (y 1).val < 8448 := (y 1).isLt; omega⟩ : Fin 256) (y 2))

theorem embedded_at (x : FVec Ideal ⟨3, ![2, 8192, 2048]⟩ .f32) (ctx : FVec Ideal ⟨3, ![2, 256, 2048]⟩ .f32) (b : Fin 2) (l : Fin 8448) (d : Fin 2048) :
    embedded x ctx (ix3 b l d) = if h : l.val < 8192 then x (ix3 b (⟨l.val, h⟩ : Fin 8192) d) + positions (ix2 (⟨l.val, h⟩ : Fin 8192) d)
      else ctx (ix3 b (⟨l.val - 8192, by have := l.isLt; omega⟩ : Fin 256) d) := rfl

end Cert.Layer

namespace Cert.Kernel10Ideal.Dense

open Idealize.ShloMosaic hiding ix1 ix2 ix3 ix4 ix5
open Idealize.ShloMosaic.TcCoe Idealize.ShloMosaic.Tactic Idealize.ShloMosaic.ValueIdx
open Idealize.SL Idealize.SL.RA Idealize.SL.BI Idealize.SL.Sem
open Cert.Kernel10Ideal.Gen Cert.Layer

/-- A latent block. -/
theorem pay1_apply (x : Vec Ideal S1x256x2048 .f32) (p : Vec Ideal S256x2048 .f32) (l : Fin 256) (d : Fin 2048) :
    k0_pay1 (F := Ideal) x p (ix3 0 l d) = x (ix3 0 l d) + p (ix2 l d) := by
  unfold k0_pay1
  simp only [shapeCast_self]
  rw [shapeCast_ab_1ab_apply]
  exact congrArg (· + p (ix2 l d)) (shapeCast_1ab_ab_apply _ _ l d)

/-- A context block. -/
theorem pay2_apply (x : Vec Ideal S1x256x2048 .f32) (l : Fin 256) (d : Fin 2048) :
    k0_pay2 (F := Ideal) x (ix3 0 l d) = x (ix3 0 l d) := by
  unfold k0_pay2
  exact (shapeCast_ab_1ab_apply _ _ _ _ _).trans (shapeCast_1ab_ab_apply _ _ l d)

variable (m : (ℓ : Loc nD τ sig) → Buf (Elt Ideal) ℓ)

theorem V_pos (c : Dev nD) : V m c main_v30 = positions := by
  show StableHlo.after hostOps0 _ (Proc.devRef .tc main_v30) = _
  after_results_simp <;> (try dsimp only [Matrix.cons_val]) <;> (try after_results_simp) <;> rfl

/-- The batch and the token of a point's block. -/
def batch (t : Fin cfg0.N) : Fin 2 := ⟨t.val / 33, by have h : t.val < 66 := Nat.lt_of_lt_of_eq t.isLt N_0; omega⟩
def token (t : Fin cfg0.N) (l : Fin 256) : Fin 8448 := ⟨256 * (t.val % 33) + l.val, by have := l.isLt; omega⟩
/-- The latent token of a latent block. -/
def latentToken (t : Fin cfg0.N) (h : t.val % 33 ≤ 31) (l : Fin 256) : Fin 8192 := ⟨256 * (t.val % 33) + l.val, by have := l.isLt; omega⟩

theorem pos0 : ∀ t : Fin cfg0.N, win0_0.index t = ![t.val / 33, min (t.val % 33) 31, 0] := (by decide +kernel : ∀ t : Fin grid0.N, _)
theorem pos1 : ∀ t : Fin cfg0.N, win0_1.index t = ![min (t.val % 33) 31, 0] := (by decide +kernel : ∀ t : Fin grid0.N, _)
theorem pos2 : ∀ t : Fin cfg0.N, win0_2.index t = ![t.val / 33, 0, 0] := (by decide +kernel : ∀ t : Fin grid0.N, _)
theorem pos3 : ∀ t : Fin cfg0.N, win0_3.index t = ![t.val / 33, t.val % 33, 0] := (by decide +kernel : ∀ t : Fin grid0.N, _)

theorem blk0 (c : Dev nD) (t : Fin cfg0.N) (h : t.val % 33 ≤ 31) (l : Fin 256) (k : Fin 2048) :
    iblk m c 0 t (ix3 0 l k) = m ((c : Thread nD τ).loc main_arg0) (ix3 (batch t) (latentToken t h l) k) := by
  blk_ext! [iblk, pos0, batch, latentToken]
  rw [Nat.min_eq_left h]
  exact congrArg (· + l.val) (Nat.mul_comm _ _)

theorem blk1 (c : Dev nD) (t : Fin cfg0.N) (h : t.val % 33 ≤ 31) (l : Fin 256) (k : Fin 2048) :
    iblk m c 1 t (ix2 l k) = positions (ix2 (latentToken t h l) k) := by
  unfold iblk
  rw [show V m c (Pipeline.arrRef spec0 1) = positions from V_pos m c]
  generalize positions = P
  blk_ext! [pos1, latentToken]
  rw [Nat.min_eq_left h]
  exact congrArg (· + l.val) (Nat.mul_comm _ _)

theorem blk2 (c : Dev nD) (t : Fin cfg0.N) (l : Fin 256) (k : Fin 2048) :
    iblk m c 2 t (ix3 0 l k) = m ((c : Thread nD τ).loc main_arg1) (ix3 (batch t) l k) := by
  blk_ext! [iblk, pos2, batch]

/-- The point's block of the result. -/
theorem out_apply (c : Dev nD) (t : Fin cfg0.N) (l : Fin 256) (d : Fin 2048) :
    outsAt0 m c t.val t.isLt (ix3 0 l d)
      = embedded (m ((c : Thread nD τ).loc main_arg0)) (m ((c : Thread nD τ).loc main_arg1)) (ix3 (batch t) (token t l) d) := by
  by_cases h : t.val % 33 ≤ 31
  · rw [outsAt0_A m c t h (by omega)]
    frame_out
    rw [pay1_apply, blk0 m c t h, blk1 m c t h]
    have hl : (token t l).val < 8192 := by show 256 * (t.val % 33) + l.val < 8192; have := l.isLt; omega
    rw [embedded_at, dif_pos hl]
    rfl
  · have h2 : t.val % 33 = 32 := by omega
    rw [outsAt0_B m c t h h2]
    frame_out
    rw [pay2_apply, blk2]
    have hv : (token t l).val = 8192 + l.val := by show 256 * (t.val % 33) + l.val = _; omega
    rw [embedded_at, dif_neg (show ¬ (token t l).val < 8192 by omega)]
    refine congrArg _ (congrArg (fun k : Fin 256 => ix3 (batch t) k d) (Fin.ext ?_))
    show l.val = (token t l).val - 8192
    omega

/-- The output array after the whole grid. -/
theorem final_out (c : Dev nD) : (dats m 0 c).arrAt 3 cfg0.N
    = embedded (m ((c : Thread nD τ).loc main_arg0)) (m ((c : Thread nD τ).loc main_arg1)) := by
  refine (dats m 0 c).arrAt_eq_of_covers 3 _ (by decide +kernel) fun t hf y => ?_
  rw [after0_3]
  have h := out_apply m c t
  generalize outsAt0 m c t.val t.isLt = o at h ⊢
  obtain ⟨z, l, d, rfl⟩ : ∃ (z : Fin 1) (l : Fin 256) (d : Fin 2048), y = ix3 z l d := ⟨y 0, y 1, y 2, by funext a; fin_cases a <;> rfl⟩
  obtain rfl : z = 0 := Fin.ext (by omega)
  refine (h l d).trans (congrArg _ ?_)
  symm
  blk_ext! [pos3, batch, token]
  exact congrArg (· + l.val) (Nat.mul_comm _ _)

end Cert.Kernel10Ideal.Dense

namespace Cert.Reference10Ideal.Dense

open Idealize.ShloMosaic hiding ix1 ix2 ix3 ix4 ix5
open Idealize.ShloMosaic.TcCoe Idealize.ShloMosaic.ValueIdx
open Cert.Reference10Ideal Cert.Reference10Ideal.Read Cert.Layer

variable (x : Vec Ideal S2x8192x2048 .f32) (ctx : Vec Ideal S2x256x2048 .f32)

/-- The reference's result. -/
theorem value : val_main_v34 (F := Ideal) x ctx = embedded x ctx := by
  funext y
  obtain ⟨b, l, d, rfl⟩ : ∃ (b : Fin 2) (l : Fin 8448) (d : Fin 2048), y = ix3 b l d :=
    ⟨y 0, y 1, y 2, by funext a; match a with | ⟨0, _⟩ => rfl | ⟨1, _⟩ => rfl | ⟨2, _⟩ => rfl⟩
  rw [embedded_at]
  unfold val_main_v34
  by_cases h : l.val < 8192
  · rw [concatenate_pair_apply_left (s₁ := S2x8192x2048) (s₂ := S2x256x2048) 1 _ _ _ (ix3 b l d) rfl (ix3 b (⟨l.val, h⟩ : Fin 8192) d)
      (fun a => match a with | ⟨0, _⟩ => rfl | ⟨1, _⟩ => rfl | ⟨2, _⟩ => rfl)]
    rw [val_main_v33_apply, val_main_v32_apply, val_main_v31_apply, Ideal.addf_def]
    rw [dif_pos h]
    refine congrArg (x (ix3 b (⟨l.val, h⟩ : Fin 8192) d) + ·) ?_
    refine congrArg (val_main_v30 (F := Ideal)) ?_
    funext a
    match a with
    | ⟨0, _⟩ => rfl
    | ⟨1, _⟩ => rfl
  · rw [concatenate_pair_apply_right (s₁ := S2x8192x2048) (s₂ := S2x256x2048) 1 _ _ _ (ix3 b l d) rfl rfl (ix3 b (⟨l.val - 8192, by omega⟩ : Fin 256) d)
      (fun a ha => match a with | ⟨0, _⟩ => rfl | ⟨1, _⟩ => absurd rfl ha | ⟨2, _⟩ => rfl)
      (show l.val - 8192 + 8192 = l.val by omega)]
    rw [dif_neg h]

end Cert.Reference10Ideal.Dense

namespace Cert.Embed

open Idealize.ShloMosaic Idealize.SL.Sem
open Cert.Layer (embedded)

theorem frame_kernel : Cert.quiescent_Kernel10 := fun m ρ _ => Cert.Kernel10.Gen.frame m ρ
theorem frame_ideal : Cert.quiescent_Kernel10Ideal := fun m ρ _ => Cert.Kernel10Ideal.Gen.frame m ρ
/-- The reference leaves its arguments alone; it has no counters. -/
theorem frame_reference : Cert.quiescent_Reference10Ideal := fun m ρ _ =>
  (θ_run Cert.Reference10Ideal.defs _ _).mono
    (fun r h => ⟨fun c => (h c).2, sem_eq_zero_of_no_sems (by decide) r.2⟩) (Cert.Reference10Ideal.Value.run m ρ)

/-- Equal results from equal arguments. -/
theorem algebraic : Cert.algebraic_Kernel10Ideal_Reference10Ideal := by
  intro m ρ m' ρ' _ hargs
  refine ⟨fun c => embedded (m ((c.tc : Thread _ Cert.Kernel10Ideal.τ).loc Cert.Kernel10Ideal.main_arg0))
    (m ((c.tc : Thread _ Cert.Kernel10Ideal.τ).loc Cert.Kernel10Ideal.main_arg1)), ?_, ?_⟩
  · exact (θ_run Cert.Kernel10Ideal.defs _ _).mono
      (fun r h c => ⟨(h c).1.trans (Cert.Kernel10Ideal.Dense.final_out m c), (h c).2⟩) (Cert.Kernel10Ideal.Value.run_blocks m ρ)
  · refine (θ_run Cert.Reference10Ideal.defs _ _).mono (fun r h c => ⟨(h c).1.trans ?_, (h c).2⟩) (Cert.Reference10Ideal.Value.run m' ρ')
    obtain ⟨h0, h1⟩ := hargs c
    rw [Cert.Reference10Ideal.Read.val_main_v34_eq, h0, h1]
    exact Cert.Reference10Ideal.Dense.value _ _

end Cert.Embed
end
-- ==== Proof.FourierContext.lean ====
/-
  The Fourier mixing of the context. A grid point multiplies a batch's 256 context rows with the rows' cosines and sines, then
  each group of 256 columns with the columns' cosines and sines, and stores the scaled difference. The reference writes the
  same products on a view of the columns as 4 groups, the factors of the first one in the other order.
-/
module

public import proofs.«01_k».proof.Defs
public import proofs.«01_k».proof.Proof.Specs
public import proofs.«01_k».proof.Proof.Gen.Kernel11.Frame
public import proofs.«01_k».proof.Proof.Gen.Kernel11Ideal.Value
public import proofs.«01_k».proof.Proof.Gen.Reference11Ideal.Read
public import Idealize.ShloMosaic.Lib.Quiescent

@[expose] public section

set_option maxRecDepth 16384

noncomputable section

namespace Cert.Layer

open Idealize.ShloMosaic hiding ix1 ix2 ix3 ix4 ix5
open Idealize.ShloMosaic.ValueIdx

/-- A square matrix of the Fourier mixing. -/
abbrev Square (φ : FTy) := FVec Ideal ⟨2, ![256, 256]⟩ φ

/-- A context row as one of all tokens, and a group's column. -/
def contextRow (p : Fin 256) : Fin 8448 := ⟨8192 + p.val, by omega⟩
def groupColumn (g : Fin 4) (k : Fin 256) : Fin 1024 := ⟨256 * g.val + k.val, by omega⟩

/-- A mixed entry of a group: the rows' cosines (`u`) times the columns' cosines, less the rows' sines (`v`) times the columns' sines. -/
def groupEntry (u v : Fin 256 → Ideal .f32) (cc sc : Square .f32) (d : Fin 256) : Ideal .f32 :=
  ((∑ k : Fin 256, u k * cc (ix2 k d)) - ∑ k : Fin 256, v k * sc (ix2 k d)) * FloatOps.ofBits (F := Ideal) .f32 0x3B800000#32

/-- The context's rows mixed by a matrix. -/
def rowsMixed (a : FVec Ideal ⟨3, ![2, 8448, 1024]⟩ .f32) (c : Square .f32) (b : Fin 2) (l : Fin 256) (e : Fin 1024) : Ideal .f32 :=
  ∑ p : Fin 256, c (ix2 l p) * a (ix3 b (contextRow p) e)

/-- The context mixed. -/
def contextMixed (a : FVec Ideal ⟨3, ![2, 8448, 1024]⟩ .f32) (cx sx cc sc : Square .f32) : FVec Ideal ⟨3, ![2, 256, 1024]⟩ .bf16 := fun y =>
  groupEntry (fun k => rowsMixed a cx (y 0) (y 1) (groupColumn ⟨(y 2).val / 256, by have : (y 2).val < 1024 := (y 2).isLt; omega⟩ k))
    (fun k => rowsMixed a sx (y 0) (y 1) (groupColumn ⟨(y 2).val / 256, by have : (y 2).val < 1024 := (y 2).isLt; omega⟩ k)) cc sc
    ⟨(y 2).val % 256, by omega⟩

variable (a : FVec Ideal ⟨3, ![2, 8448, 1024]⟩ .f32) (cx sx cc sc : Square .f32)

theorem contextMixed_at (b : Fin 2) (l : Fin 256) (e : Fin 1024) : contextMixed a cx sx cc sc (ix3 b l e)
    = groupEntry (fun k => rowsMixed a cx b l (groupColumn ⟨e.val / 256, by omega⟩ k))
        (fun k => rowsMixed a sx b l (groupColumn ⟨e.val / 256, by omega⟩ k)) cc sc ⟨e.val % 256, by omega⟩ := rfl

theorem contextMixed_group (b : Fin 2) (l : Fin 256) (g : Fin 4) (d : Fin 256) : contextMixed a cx sx cc sc (ix3 b l (groupColumn g d))
    = groupEntry (fun k => rowsMixed a cx b l (groupColumn g k)) (fun k => rowsMixed a sx b l (groupColumn g k)) cc sc d := by
  have hb := (groupColumn g d).isLt
  have e0 : (⟨(groupColumn g d).val / 256, by omega⟩ : Fin 4) = g := Fin.ext (show (256 * g.val + d.val) / 256 = g.val by omega)
  have e1 : (⟨(groupColumn g d).val % 256, by omega⟩ : Fin 256) = d := Fin.ext (show (256 * g.val + d.val) % 256 = d.val by omega)
  rw [contextMixed_at, e0, e1]

end Cert.Layer

namespace Cert.Kernel11Ideal.Dense

open Idealize.ShloMosaic hiding ix1 ix2 ix3 ix4 ix5
open Idealize.ShloMosaic.TcCoe Idealize.ShloMosaic.Tactic Idealize.ShloMosaic.ValueIdx
open Idealize.SL Idealize.SL.RA Idealize.SL.BI Idealize.SL.Sem
open Cert.Kernel11Ideal.Gen Cert.Layer

/-- The rows' products, entry by entry. -/
theorem pay5_apply (x : Vec Ideal S1x256x1024 .f32) (c : Vec Ideal S256x256 .bf16) (l : Fin 256) (e : Fin 1024) :
    k0_pay5 (F := Ideal) x c (ix2 l e) = ∑ p : Fin 256, c (ix2 l p) * x (ix3 0 p e) := by
  unfold k0_pay5
  simp only [shapeCast_self]
  refine (Ideal.matmul_plain_apply (M := 256) (K := 256) (N := 1024) (φ₁ := .bf16) (φ₂ := .bf16) none c (k0_pay4 x) _ l e).trans ?_
  rw [show constant (F := Ideal) S256x1024 .f32 0x00000000#32 (ix2 l e) = 0 from Ideal.ofBits_zero_f32, zero_add]
  exact Finset.sum_congr rfl fun p _ => congrArg (c (ix2 l p) * ·) (shapeCast_1ab_ab_apply x _ p e)

/-- A group's product with a square matrix. -/
theorem product_apply (u : FVec Ideal S256x1024 .bf16) (c : FVec Ideal S256x256 .bf16) (g : Fin 4) (off : ℕ) (ho : off = 256 * g.val)
    (hs : S256x1024.Slices ![0, off] S256x256) (l d : Fin 256) :
    matmul dot_S256x256_S256x256_S256x256_1_0_0_1_n_n none (extractStridedSlice S256x256 ![0, off] u hs) c
        (constant (F := Ideal) S256x256 .f32 0x00000000#32) (ix2 l d)
      = ∑ k : Fin 256, u (ix2 l (groupColumn g k)) * c (ix2 k d) := by
  refine (Ideal.matmul_plain_apply (M := 256) (K := 256) (N := 256) none _ _ _ l d).trans ?_
  rw [show constant (F := Ideal) S256x256 .f32 0x00000000#32 (ix2 l d) = 0 from Ideal.ofBits_zero_f32, zero_add]
  refine Finset.sum_congr rfl fun k _ => congrArg (· * c (ix2 k d)) ?_
  refine extractStridedSlice_apply _ _ _ _ _ fun a => ?_
  match a with
  | ⟨0, _⟩ => exact (Nat.zero_add _).symm
  | ⟨1, _⟩ => exact congrArg (· + k.val) ho.symm

/-- A group's stored block, entry by entry. -/
theorem group_apply (u v : FVec Ideal S256x1024 .bf16) (p q : FVec Ideal S256x256 .bf16) (g : Fin 4) (off : ℕ) (ho : off = 256 * g.val)
    (hs : S256x1024.Slices ![0, off] S256x256) (l d : Fin 256) :
    shapeCast S1x256x256 (truncf .bf16 (mulf (subf
          (matmul dot_S256x256_S256x256_S256x256_1_0_0_1_n_n none (extractStridedSlice S256x256 ![0, off] u hs) p
            (constant (F := Ideal) S256x256 .f32 0x00000000#32))
          (matmul dot_S256x256_S256x256_S256x256_1_0_0_1_n_n none (extractStridedSlice S256x256 ![0, off] v hs) q
            (constant (F := Ideal) S256x256 .f32 0x00000000#32)))
        (broadcast S256x256 (Scalar.ofBits (F := Ideal) .f32 0x3B800000#32))) bitsLt_bf16_f32) shapeCasts_S256x256_S1x256x256 (ix3 0 l d)
      = groupEntry (fun k => u (ix2 l (groupColumn g k))) (fun k => v (ix2 l (groupColumn g k))) p q d := by
  rw [shapeCast_ab_1ab_apply]
  exact congrArg (· * FloatOps.ofBits (F := Ideal) .f32 0x3B800000#32)
    (congrArg₂ (· - ·) (product_apply u p g off ho hs l d) (product_apply v q g off ho hs l d))

variable (m : (ℓ : Loc nD τ sig) → Buf (Elt Ideal) ℓ)

/-- The matrices as the launch finds them. -/
theorem V_cx (c : Dev nD) (i j : Fin 256) : (V m c main_v0 : Vec Ideal S256x256 .bf16) (ix2 i j)
    = (m ((c : Thread nD τ).loc main_arg1) : Vec Ideal S256x256 .f32) (ix2 i j) := by
  have h : V m c main_v0 = (truncf .bf16 (m ((c : Thread nD τ).loc main_arg1) : FVec Ideal S256x256 .f32) bitsLt_bf16_f32 : FVec Ideal S256x256 .bf16) := by
    show StableHlo.after hostOps0 _ (Proc.devRef .tc main_v0) = _
    after_results
  rw [h]
  rfl
theorem V_sx (c : Dev nD) (i j : Fin 256) : (V m c main_v1 : Vec Ideal S256x256 .bf16) (ix2 i j)
    = (m ((c : Thread nD τ).loc main_arg2) : Vec Ideal S256x256 .f32) (ix2 i j) := by
  have h : V m c main_v1 = (truncf .bf16 (m ((c : Thread nD τ).loc main_arg2) : FVec Ideal S256x256 .f32) bitsLt_bf16_f32 : FVec Ideal S256x256 .bf16) := by
    show StableHlo.after hostOps0 _ (Proc.devRef .tc main_v1) = _
    after_results
  rw [h]
  rfl
theorem V_cc (c : Dev nD) (i j : Fin 256) : (V m c main_v2 : Vec Ideal S256x256 .bf16) (ix2 i j)
    = (m ((c : Thread nD τ).loc main_arg3) : Vec Ideal S256x256 .f32) (ix2 i j) := by
  have h : V m c main_v2 = (truncf .bf16 (m ((c : Thread nD τ).loc main_arg3) : FVec Ideal S256x256 .f32) bitsLt_bf16_f32 : FVec Ideal S256x256 .bf16) := by
    show StableHlo.after hostOps0 _ (Proc.devRef .tc main_v2) = _
    after_results
  rw [h]
  rfl
theorem V_sc (c : Dev nD) (i j : Fin 256) : (V m c main_v3 : Vec Ideal S256x256 .bf16) (ix2 i j)
    = (m ((c : Thread nD τ).loc main_arg4) : Vec Ideal S256x256 .f32) (ix2 i j) := by
  have h : V m c main_v3 = (truncf .bf16 (m ((c : Thread nD τ).loc main_arg4) : FVec Ideal S256x256 .f32) bitsLt_bf16_f32 : FVec Ideal S256x256 .bf16) := by
    show StableHlo.after hostOps0 _ (Proc.devRef .tc main_v3) = _
    after_results
  rw [h]
  rfl

/-- The batch of a point's block. -/
def batch (t : Fin cfg0.N) : Fin 2 := ⟨t.val, Nat.lt_of_lt_of_eq t.isLt N_0⟩

theorem pos0 : ∀ t : Fin cfg0.N, win0_0.index t = ![t.val, 32, 0] := (by decide +kernel : ∀ t : Fin grid0.N, _)
theorem pos1 : ∀ t : Fin cfg0.N, win0_1.index t = ![0, 0] := (by decide +kernel : ∀ t : Fin grid0.N, _)
theorem pos2 : ∀ t : Fin cfg0.N, win0_2.index t = ![0, 0] := (by decide +kernel : ∀ t : Fin grid0.N, _)
theorem pos3 : ∀ t : Fin cfg0.N, win0_3.index t = ![0, 0] := (by decide +kernel : ∀ t : Fin grid0.N, _)
theorem pos4 : ∀ t : Fin cfg0.N, win0_4.index t = ![0, 0] := (by decide +kernel : ∀ t : Fin grid0.N, _)
theorem pos5 : ∀ t : Fin cfg0.N, win0_5.index t = ![t.val, 0, 0] := (by decide +kernel : ∀ t : Fin grid0.N, _)

theorem blk0 (c : Dev nD) (t : Fin cfg0.N) (p : Fin 256) (e : Fin 1024) :
    iblk m c 0 t (ix3 0 p e) = m ((c : Thread nD τ).loc main_arg0) (ix3 (batch t) (contextRow p) e) := by
  blk_ext! [iblk, pos0, batch, contextRow]

theorem blk1 (c : Dev nD) (t : Fin cfg0.N) (i j : Fin 256) :
    iblk m c 1 t (ix2 i j) = m ((c : Thread nD τ).loc main_arg1) (ix2 i j) := by
  refine Eq.trans ?_ (V_cx m c i j)
  unfold iblk
  rw [show V m c (Pipeline.arrRef spec0 1) = V m c main_v0 from rfl]
  generalize V m c main_v0 = R
  blk_ext! [pos1]

theorem blk2 (c : Dev nD) (t : Fin cfg0.N) (i j : Fin 256) :
    iblk m c 2 t (ix2 i j) = m ((c : Thread nD τ).loc main_arg2) (ix2 i j) := by
  refine Eq.trans ?_ (V_sx m c i j)
  unfold iblk
  rw [show V m c (Pipeline.arrRef spec0 2) = V m c main_v1 from rfl]
  generalize V m c main_v1 = R
  blk_ext! [pos2]

theorem blk3 (c : Dev nD) (t : Fin cfg0.N) (i j : Fin 256) :
    iblk m c 3 t (ix2 i j) = m ((c : Thread nD τ).loc main_arg3) (ix2 i j) := by
  refine Eq.trans ?_ (V_cc m c i j)
  unfold iblk
  rw [show V m c (Pipeline.arrRef spec0 3) = V m c main_v2 from rfl]
  generalize V m c main_v2 = R
  blk_ext! [pos3]

theorem blk4 (c : Dev nD) (t : Fin cfg0.N) (i j : Fin 256) :
    iblk m c 4 t (ix2 i j) = m ((c : Thread nD τ).loc main_arg4) (ix2 i j) := by
  refine Eq.trans ?_ (V_sc m c i j)
  unfold iblk
  rw [show V m c (Pipeline.arrRef spec0 4) = V m c main_v3 from rfl]
  generalize V m c main_v3 = R
  blk_ext! [pos4]

/-- A group of a point's block, from the blocks' entries. -/
theorem piece_apply (x0 : Vec Ideal S1x256x1024 .f32) (x1 x2 x3 x4 : Vec Ideal S256x256 .bf16) (a : Vec Ideal S2x8448x1024 .f32)
    (cx sx cc sc : Vec Ideal S256x256 .f32) (b : Fin 2)
    (b0 : ∀ (p : Fin 256) (e : Fin 1024), x0 (ix3 0 p e) = a (ix3 b (contextRow p) e))
    (b1 : ∀ i j : Fin 256, x1 (ix2 i j) = cx (ix2 i j)) (b2 : ∀ i j : Fin 256, x2 (ix2 i j) = sx (ix2 i j))
    (b3 : ∀ i j : Fin 256, x3 (ix2 i j) = cc (ix2 i j)) (b4 : ∀ i j : Fin 256, x4 (ix2 i j) = sc (ix2 i j))
    (g : Fin 4) (off : ℕ) (ho : off = 256 * g.val) (hs : S256x1024.Slices ![0, off] S256x256) (x : S1x256x256.Idx)
    (l : Fin 256) (e : Fin 1024) (hl : l.val = (x 1).val) (he : e.val = off + (x 2).val) :
    shapeCast S1x256x256 (truncf .bf16 (mulf (subf
          (matmul dot_S256x256_S256x256_S256x256_1_0_0_1_n_n none (extractStridedSlice S256x256 ![0, off] (k0_pay5 (F := Ideal) x0 x1) hs) (k0_pay7 x3)
            (constant (F := Ideal) S256x256 .f32 0x00000000#32))
          (matmul dot_S256x256_S256x256_S256x256_1_0_0_1_n_n none (extractStridedSlice S256x256 ![0, off] (k0_pay6 (F := Ideal) x0 x2) hs) (k0_pay8 x4)
            (constant (F := Ideal) S256x256 .f32 0x00000000#32)))
        (broadcast S256x256 (Scalar.ofBits (F := Ideal) .f32 0x3B800000#32))) bitsLt_bf16_f32) shapeCasts_S256x256_S1x256x256 x
      = contextMixed a cx sx cc sc (ix3 b l e) := by
  obtain ⟨z, l', d, rfl⟩ : ∃ (z : Fin 1) (l' : Fin 256) (d : Fin 256), x = ix3 z l' d :=
    ⟨x 0, x 1, x 2, by funext a; match a with | ⟨0, _⟩ => rfl | ⟨1, _⟩ => rfl | ⟨2, _⟩ => rfl⟩
  obtain rfl : z = 0 := Fin.ext (by omega)
  obtain rfl : l = l' := Fin.ext hl
  obtain rfl : e = groupColumn g d := Fin.ext (he.trans (congrArg (· + d.val) ho))
  rw [contextMixed_group, group_apply _ _ _ _ g off ho hs]
  have h3 : k0_pay7 (F := Ideal) x3 = cc := by
    unfold k0_pay7
    simp only [shapeCast_self]
    funext i
    obtain ⟨i, j, rfl⟩ : ∃ i' j : Fin 256, i = ix2 i' j := ⟨i 0, i 1, by funext a; match a with | ⟨0, _⟩ => rfl | ⟨1, _⟩ => rfl⟩
    exact b3 i j
  have h4 : k0_pay8 (F := Ideal) x4 = sc := by
    unfold k0_pay8
    simp only [shapeCast_self]
    funext i
    obtain ⟨i, j, rfl⟩ : ∃ i' j : Fin 256, i = ix2 i' j := ⟨i 0, i 1, by funext a; match a with | ⟨0, _⟩ => rfl | ⟨1, _⟩ => rfl⟩
    exact b4 i j
  rw [h3, h4]
  refine congrArg₂ (fun u v : Fin 256 → Ideal .f32 => groupEntry u v cc sc d) (funext fun k => ?_) (funext fun k => ?_)
  · refine (pay5_apply x0 x1 l _).trans (Finset.sum_congr rfl fun p _ => ?_)
    rw [b0, b1]
  · refine (pay5_apply x0 x2 l _).trans (Finset.sum_congr rfl fun p _ => ?_)
    rw [b0, b2]

/-- The point's block of the result. -/
theorem out_apply (c : Dev nD) (t : Fin cfg0.N) (l : Fin 256) (e : Fin 1024) :
    out0_5 (iblk m c 0 t) (iblk m c 1 t) (iblk m c 2 t) (iblk m c 3 t) (iblk m c 4 t) (ix3 0 l e)
      = contextMixed (m ((c : Thread nD τ).loc main_arg0)) (m ((c : Thread nD τ).loc main_arg1)) (m ((c : Thread nD τ).loc main_arg2))
          (m ((c : Thread nD τ).loc main_arg3)) (m ((c : Thread nD τ).loc main_arg4)) (ix3 (batch t) l e) := by
  have b0 := blk0 m c t
  have b1 := blk1 m c t
  have b2 := blk2 m c t
  have b3 := blk3 m c t
  have b4 := blk4 m c t
  generalize iblk m c 0 t = x0 at b0 ⊢
  generalize iblk m c 1 t = x1 at b1 ⊢
  generalize iblk m c 2 t = x2 at b2 ⊢
  generalize iblk m c 3 t = x3 at b3 ⊢
  generalize iblk m c 4 t = x4 at b4 ⊢
  unfold_out out0_5
  canon_tiles x h using Gen.cover0_5 ..
  all_goals simp (disch := decide) only [View.ld_unit_lit']
  · exact piece_apply x0 x1 x2 x3 x4 _ _ _ _ _ _ b0 b1 b2 b3 b4 3 768 rfl slices_S256x1024_o0_768_S256x256 x l e h1 h2
  · exact piece_apply x0 x1 x2 x3 x4 _ _ _ _ _ _ b0 b1 b2 b3 b4 2 512 rfl slices_S256x1024_o0_512_S256x256 x l e h1 h2
  · exact piece_apply x0 x1 x2 x3 x4 _ _ _ _ _ _ b0 b1 b2 b3 b4 1 256 rfl slices_S256x1024_o0_256_S256x256 x l e h1 h2
  · exact piece_apply x0 x1 x2 x3 x4 _ _ _ _ _ _ b0 b1 b2 b3 b4 0 0 rfl slices_S256x1024_o0_0_S256x256 x l e h1 (h2.trans (Nat.zero_add _).symm)

/-- The output array after the whole grid. -/
theorem final_out (c : Dev nD) : (dats m 0 c).arrAt 5 cfg0.N
    = contextMixed (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  rw [after0_5]
  have h := out_apply m c t
  generalize out0_5 (iblk m c 0 t) (iblk m c 1 t) (iblk m c 2 t) (iblk m c 3 t) (iblk m c 4 t) = o at h ⊢
  obtain ⟨z, l, e, rfl⟩ : ∃ (z : Fin 1) (l : Fin 256) (e : Fin 1024), y = ix3 z l e := ⟨y 0, y 1, y 2, by funext a; fin_cases a <;> rfl⟩
  obtain rfl : z = 0 := Fin.ext (by omega)
  refine (h l e).trans (congrArg _ ?_)
  symm
  blk_ext! [pos5, batch]

end Cert.Kernel11Ideal.Dense

namespace Cert.Reference11Ideal.Dense

open Idealize.ShloMosaic hiding ix1 ix2 ix3 ix4 ix5
open Idealize.ShloMosaic.TcCoe Idealize.ShloMosaic.ValueIdx
open Cert.Reference11Ideal Cert.Reference11Ideal.Read Cert.Layer

variable (a : Vec Ideal S2x8448x1024 .f32) (cx sx cc sc : Vec Ideal S256x256 .f32)

/-- The context's columns as groups. -/
theorem v1_at (b : Fin 2) (p : Fin 256) (g : Fin 4) (k : Fin 256) : val_main_v1 (F := Ideal) a (ix4 b p g k)
    = a (ix3 b (contextRow p) (groupColumn g k)) := by
  rw [val_main_v1_apply, val_main_v0_apply]
  refine congrArg a ?_
  have h0 := b.isLt
  have h1 := p.isLt
  have h2 := g.isLt
  have h3 := k.isLt
  funext a
  match a with
  | ⟨0, _⟩ => exact Fin.ext (show (((b.val * 256 + p.val) * 4 + g.val) * 256 + k.val) / 262144 = b.val by omega)
  | ⟨1, _⟩ => exact Fin.ext (show 8192 + (((b.val * 256 + p.val) * 4 + g.val) * 256 + k.val) / 1024 % 256 = 8192 + p.val by omega)
  | ⟨2, _⟩ => exact Fin.ext (show (((b.val * 256 + p.val) * 4 + g.val) * 256 + k.val) % 1024 = 256 * g.val + k.val by omega)

/-- The rows mixed by their cosines. -/
theorem v3_at (b : Fin 2) (l : Fin 256) (g : Fin 4) (k : Fin 256) : val_main_v3 (F := Ideal) a cx (ix4 b l g k)
    = rowsMixed a cx b l (groupColumn g k) := by
  rw [val_main_v3_apply, val_main_v2_apply]
  refine Finset.sum_congr rfl fun p _ => ?_
  rw [mul_comm, show lidx_main_v2 (idx_main_v3 (ix4 b l g k)) p = ix4 b p g k from by
    funext a
    match a with
    | ⟨0, _⟩ => rfl
    | ⟨1, _⟩ => rfl
    | ⟨2, _⟩ => rfl
    | ⟨3, _⟩ => rfl, v1_at]
  refine congrArg (cx · * a (ix3 b (contextRow p) (groupColumn g k))) ?_
  funext a
  match a with
  | ⟨0, _⟩ => rfl
  | ⟨1, _⟩ => rfl

/-- The rows mixed by their sines: the same term. -/
theorem v5_at (b : Fin 2) (l : Fin 256) (g : Fin 4) (k : Fin 256) : val_main_v5 (F := Ideal) a sx (ix4 b l g k)
    = rowsMixed a sx b l (groupColumn g k) := v3_at a sx b l g k

/-- The reference's result. -/
theorem value : val_main_v12 (F := Ideal) a cx sx cc sc = contextMixed a cx sx cc sc := by
  funext y
  obtain ⟨b, l, e, rfl⟩ : ∃ (b : Fin 2) (l : Fin 256) (e : Fin 1024), y = ix3 b l e :=
    ⟨y 0, y 1, y 2, by funext a; match a with | ⟨0, _⟩ => rfl | ⟨1, _⟩ => rfl | ⟨2, _⟩ => rfl⟩
  obtain ⟨g, d, rfl⟩ : ∃ (g : Fin 4) (d : Fin 256), e = groupColumn g d :=
    ⟨⟨e.val / 256, by omega⟩, ⟨e.val % 256, by omega⟩, Fin.ext (show e.val = 256 * (e.val / 256) + e.val % 256 by omega)⟩
  rw [contextMixed_group, val_main_v12_apply, val_main_v11_apply, show idx_main_v11 (ix3 b l (groupColumn g d)) = ix4 b l g d from by
    have h0 := b.isLt
    have h1 := l.isLt
    have h2 := g.isLt
    have h3 := d.isLt
    funext a
    match a with
    | ⟨0, _⟩ => exact Fin.ext (show ((b.val * 256 + l.val) * 1024 + (256 * g.val + d.val)) / 262144 = b.val by omega)
    | ⟨1, _⟩ => exact Fin.ext (show ((b.val * 256 + l.val) * 1024 + (256 * g.val + d.val)) / 1024 % 256 = l.val by omega)
    | ⟨2, _⟩ => exact Fin.ext (show ((b.val * 256 + l.val) * 1024 + (256 * g.val + d.val)) / 256 % 4 = g.val by omega)
    | ⟨3, _⟩ => exact Fin.ext (show ((b.val * 256 + l.val) * 1024 + (256 * g.val + d.val)) % 256 = d.val by omega),
    val_main_v10_apply, val_main_v8_apply, val_main_v9_apply, val_main_cst_apply, val_main_v6_apply, val_main_v7_apply]
  have hl : ∀ k : Fin 256, lidx_main_v6 (ix4 b l g d) k = ix4 b l g k := fun k => by
    funext a
    match a with
    | ⟨0, _⟩ => rfl
    | ⟨1, _⟩ => rfl
    | ⟨2, _⟩ => rfl
    | ⟨3, _⟩ => rfl
  have hr : ∀ k : Fin 256, ridx_main_v6 (ix4 b l g d) k = ix2 k d := fun k => by
    funext a
    match a with
    | ⟨0, _⟩ => rfl
    | ⟨1, _⟩ => rfl
  refine congrArg (· * FloatOps.ofBits (F := Ideal) .f32 0x3B800000#32) (congrArg₂ (· - ·)
    (Finset.sum_congr rfl fun k _ => ?_) (Finset.sum_congr rfl fun k _ => ?_))
  · rw [hl, hr, v3_at]
  · rw [show lidx_main_v7 (ix4 b l g d) k = ix4 b l g k from hl k, show ridx_main_v7 (ix4 b l g d) k = ix2 k d from hr k, v5_at]

end Cert.Reference11Ideal.Dense

namespace Cert.FourierContext

open Idealize.ShloMosaic Idealize.SL.Sem
open Cert.Layer (contextMixed)

theorem frame_kernel : Cert.quiescent_Kernel11 := fun m ρ _ => Cert.Kernel11.Gen.frame m ρ
theorem frame_ideal : Cert.quiescent_Kernel11Ideal := fun m ρ _ => Cert.Kernel11Ideal.Gen.frame m ρ
/-- The reference leaves its arguments alone; it has no counters. -/
theorem frame_reference : Cert.quiescent_Reference11Ideal := fun m ρ _ =>
  (θ_run Cert.Reference11Ideal.defs _ _).mono
    (fun r h => ⟨fun c => (h c).2, sem_eq_zero_of_no_sems (by decide) r.2⟩) (Cert.Reference11Ideal.Value.run m ρ)

/-- Equal results from equal arguments. -/
theorem algebraic : Cert.algebraic_Kernel11Ideal_Reference11Ideal := by
  intro m ρ m' ρ' _ hargs
  refine ⟨fun c => contextMixed (m ((c.tc : Thread _ Cert.Kernel11Ideal.τ).loc Cert.Kernel11Ideal.main_arg0))
    (m ((c.tc : Thread _ Cert.Kernel11Ideal.τ).loc Cert.Kernel11Ideal.main_arg1))
    (m ((c.tc : Thread _ Cert.Kernel11Ideal.τ).loc Cert.Kernel11Ideal.main_arg2))
    (m ((c.tc : Thread _ Cert.Kernel11Ideal.τ).loc Cert.Kernel11Ideal.main_arg3))
    (m ((c.tc : Thread _ Cert.Kernel11Ideal.τ).loc Cert.Kernel11Ideal.main_arg4)), ?_, ?_⟩
  · exact (θ_run Cert.Kernel11Ideal.defs _ _).mono
      (fun r h c => ⟨(h c).1.trans (Cert.Kernel11Ideal.Dense.final_out m c), (h c).2⟩) (Cert.Kernel11Ideal.Value.run_blocks m ρ)
  · refine (θ_run Cert.Reference11Ideal.defs _ _).mono (fun r h c => ⟨(h c).1.trans ?_, (h c).2⟩) (Cert.Reference11Ideal.Value.run m' ρ')
    obtain ⟨h0, h1, h2, h3, h4⟩ := hargs c
    rw [Cert.Reference11Ideal.Read.val_main_v12_eq, h0, h1, h2, h3, h4]
    exact Cert.Reference11Ideal.Dense.value _ _ _ _ _

end Cert.FourierContext
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equal
public import proofs.«01_k».proof.Proof.Project2Equal
public import proofs.«01_k».proof.Proof.Project3Equal
public import proofs.«01_k».proof.Proof.Project4Equal
public import proofs.«01_k».proof.Proof.OutProjEqual
public import proofs.«01_k».proof.Proof.QueriesEqual
public import proofs.«01_k».proof.Proof.FinalNorm
public import proofs.«01_k».proof.Proof.Combine
public import proofs.«01_k».proof.Proof.Modulation
public import proofs.«01_k».proof.Proof.Embed
public import proofs.«01_k».proof.Proof.FourierContext
public import Idealize.ShloMosaic.Adequacy
public import Idealize.ShloMosaic.Init
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts,
  Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts, by
  exact ⟨Cert.KernelIdeal.Peer.frame_kernel, Cert.KernelIdeal.Peer.frame_ideal, Cert.Peer.frame_reference,
    Cert.Project2.frame_kernel, Cert.Project2.frame_ideal, Cert.Project2.frame_reference,
    Cert.Project3.frame_kernel, Cert.Project3.frame_ideal, Cert.Project3.frame_reference,
    Cert.Project4.frame_kernel, Cert.Project4.frame_ideal, Cert.Project4.frame_reference,
    Cert.OutProj.frame_kernel, Cert.OutProj.frame_ideal, Cert.OutProj.frame_reference,
    Cert.Kernel6Ideal.Dense.frame_kernel, Cert.Kernel6Ideal.Dense.frame_ideal, Cert.Queries.frame_reference,
    Cert.FinalNorm.frame_kernel, Cert.FinalNorm.frame_ideal, Cert.FinalNorm.frame_reference,
    Cert.Combine.frame_kernel, Cert.Combine.frame_ideal, Cert.Combine.frame_reference,
    Cert.ModulationRows.frame_kernel, Cert.ModulationRows.frame_ideal, Cert.ModulationRows.frame_reference,
    Cert.Embed.frame_kernel, Cert.Embed.frame_ideal, Cert.Embed.frame_reference,
    Cert.FourierContext.frame_kernel, Cert.FourierContext.frame_ideal, Cert.FourierContext.frame_reference,
    trivial, Cert.Peer.algebraic,
    trivial, Cert.Project2.algebraic,
    trivial, Cert.Project3.algebraic,
    trivial, Cert.Project4.algebraic,
    trivial, Cert.OutProj.algebraic,
    trivial, Cert.Queries.algebraic,
    trivial, Cert.FinalNorm.algebraic,
    trivial, Cert.Combine.algebraic,
    trivial, Cert.ModulationRows.algebraic,
    trivial, Cert.Embed.algebraic,
    trivial, Cert.FourierContext.algebraic⟩⟩

end Cert.Proof

end
